-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_finite_KernelIdeal [hPre_routed_and_finite_KernelIdeal : Cert.Pre_routed_and_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_finite_ReferenceIdeal [hPre_routed_and_finite_ReferenceIdeal : Cert.Pre_routed_and_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_and_finite_KernelIdeal [hKernelIdeal : Cert.KernelIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_and_finite_ReferenceIdeal [hReferenceIdeal : Cert.ReferenceIdeal.Facts] [hPre_routed_and_finite_ReferenceIdeal : Cert.Pre_routed_and_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_and_finite_KernelIdeal [hKernelIdeal : Cert.KernelIdeal.Facts] [hReferenceIdeal : Cert.ReferenceIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_and_finite_KernelIdeal : Cert.Pre_routed_and_finite_KernelIdeal.Facts) (hPre_routed_and_finite_ReferenceIdeal : Cert.Pre_routed_and_finite_ReferenceIdeal.Facts),
    quiescent_Kernel (hKernel := hKernel)
    ∧ quiescent_KernelIdeal (hKernelIdeal := hKernelIdeal)
    ∧ quiescent_KernelIdeal_pre_routed_and_finite_KernelIdeal (hKernelIdeal := hKernelIdeal) (hPre_routed_and_finite_KernelIdeal := hPre_routed_and_finite_KernelIdeal)
    ∧ quiescent_ReferenceIdeal (hReferenceIdeal := hReferenceIdeal)
    ∧ quiescent_ReferenceIdeal_pre_routed_and_finite_ReferenceIdeal (hReferenceIdeal := hReferenceIdeal) (hPre_routed_and_finite_ReferenceIdeal := hPre_routed_and_finite_ReferenceIdeal)
    ∧ preserves_Kernel_KernelIdeal
    ∧ algebraic_KernelIdeal_ReferenceIdeal_pre_routed_and_finite_KernelIdeal (hKernelIdeal := hKernelIdeal) (hReferenceIdeal := hReferenceIdeal) (hPre_routed_and_finite_KernelIdeal := hPre_routed_and_finite_KernelIdeal)
-- ==== Pre_routed_and_finite_KernelIdeal.lean ====
abbrev S2048x512 : Shape := ⟨2, ![2048, 512]⟩
abbrev S512x128 : Shape := ⟨2, ![512, 128]⟩
abbrev S2048x2 : Shape := ⟨2, ![2048, 2]⟩
abbrev S4x512x1024 : Shape := ⟨3, ![4, 512, 1024]⟩
abbrev S_ : Shape := ⟨0, ![]⟩

class Facts : Prop where
  bcast_S_S2048x2 : S_.BroadcastsInDim S2048x2 (![] : Fin 0 → Fin S2048x2.rank)
  bitsLt_bf16_f32 : FTy.bits .bf16 < FTy.bits .f32
  bcast_S_S2048x512 : S_.BroadcastsInDim S2048x512 (![] : Fin 0 → Fin S2048x512.rank)
  bcast_S_S512x128 : S_.BroadcastsInDim S512x128 (![] : Fin 0 → Fin S512x128.rank)

variable [Facts]

def fn {F : FTy → Type} [FloatOps F] (main_arg0 : FVec F S2048x512 .bf16) (main_arg1 : FVec F S512x128 .bf16) (main_arg2 : IVec S2048x2 32) (main_arg3 : FVec F S4x512x1024 .bf16) : IVec S2048x2 1 × IVec S2048x512 1 × IVec S512x128 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 128#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_v5 : FVec F S2048x512 .f32 := (extf .f32 · bitsLt_bf16_f32) main_arg0
  let main_v6 : FVec F S2048x512 .f32 := Host.absf main_v5
  let main_cst : FVec F S_ .f32 := constant S_ .f32 0x7F800000#32
  let main_v7 : FVec F S2048x512 .f32 := broadcastInDim S2048x512 ![] bcast_S_S2048x512 main_cst
  let main_v8 : IVec S2048x512 1 := cmpf .olt main_v6 main_v7
  let main_v9 : FVec F S512x128 .f32 := (extf .f32 · bitsLt_bf16_f32) main_arg1
  let main_v10 : FVec F S512x128 .f32 := Host.absf main_v9
  let main_cst_1 : FVec F S_ .f32 := constant S_ .f32 0x7F800000#32
  let main_v11 : FVec F S512x128 .f32 := broadcastInDim S512x128 ![] bcast_S_S512x128 main_cst_1
  let main_v12 : IVec S512x128 1 := cmpf .olt main_v10 main_v11
  (main_v4, main_v8, main_v12)
-- ==== Pre_routed_and_finite_ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S_ : Shape := ⟨0, ![]⟩

class Facts : Prop where
  bcast_S_S2048x2 : S_.BroadcastsInDim S2048x2 (![] : Fin 0 → Fin S2048x2.rank)
  bitsLt_bf16_f32 : FTy.bits .bf16 < FTy.bits .f32
  bcast_S_S2048x512 : S_.BroadcastsInDim S2048x512 (![] : Fin 0 → Fin S2048x512.rank)
  bcast_S_S512x128 : S_.BroadcastsInDim S512x128 (![] : Fin 0 → Fin S512x128.rank)

variable [Facts]

def fn {F : FTy → Type} [FloatOps F] (main_arg0 : FVec F S2048x512 .bf16) (main_arg1 : FVec F S512x128 .bf16) (main_arg2 : IVec S2048x2 32) (main_arg3 : FVec F S128x512x1024 .bf16) : IVec S2048x2 1 × IVec S2048x512 1 × IVec S512x128 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 128#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_v5 : FVec F S2048x512 .f32 := (extf .f32 · bitsLt_bf16_f32) main_arg0
  let main_v6 : FVec F S2048x512 .f32 := Host.absf main_v5
  let main_cst : FVec F S_ .f32 := constant S_ .f32 0x7F800000#32
  let main_v7 : FVec F S2048x512 .f32 := broadcastInDim S2048x512 ![] bcast_S_S2048x512 main_cst
  let main_v8 : IVec S2048x512 1 := cmpf .olt main_v6 main_v7
  let main_v9 : FVec F S512x128 .f32 := (extf .f32 · bitsLt_bf16_f32) main_arg1
  let main_v10 : FVec F S512x128 .f32 := Host.absf main_v9
  let main_cst_1 : FVec F S_ .f32 := constant S_ .f32 0x7F800000#32
  let main_v11 : FVec F S512x128 .f32 := broadcastInDim S512x128 ![] bcast_S_S512x128 main_cst_1
  let main_v12 : IVec S512x128 1 := cmpf .olt main_v10 main_v11
  (main_v4, main_v8, main_v12)
-- ==== Kernel.lean ====
abbrev S2048x512 : Shape := ⟨2, ![2048, 512]⟩
abbrev S512x128 : Shape := ⟨2, ![512, 128]⟩
abbrev S2048x2 : Shape := ⟨2, ![2048, 2]⟩
abbrev S4x512x1024 : Shape := ⟨3, ![4, 512, 1024]⟩
abbrev S64x1024 : Shape := ⟨2, ![64, 1024]⟩
abbrev S2048x4 : Shape := ⟨2, ![2048, 4]⟩
abbrev S256x512 : Shape := ⟨2, ![256, 512]⟩
abbrev S256x4 : Shape := ⟨2, ![256, 4]⟩
abbrev S8x4x64x512 : Shape := ⟨4, ![8, 4, 64, 512]⟩
abbrev S4x64x1024 : Shape := ⟨3, ![4, 64, 1024]⟩
abbrev S8 : Shape := ⟨1, ![8]⟩
abbrev S4 : Shape := ⟨1, ![4]⟩
abbrev S_ : Shape := ⟨0, ![]⟩
abbrev S2048x128 : Shape := ⟨2, ![2048, 128]⟩
abbrev S2048x1 : Shape := ⟨2, ![2048, 1]⟩
abbrev S2048 : Shape := ⟨1, ![2048]⟩
abbrev S1x512x1024 : Shape := ⟨3, ![1, 512, 1024]⟩
abbrev S512x1024 : Shape := ⟨2, ![512, 1024]⟩
abbrev S64x512 : Shape := ⟨2, ![64, 512]⟩
abbrev S64x4 : Shape := ⟨2, ![64, 4]⟩
abbrev S512x512 : Shape := ⟨2, ![512, 512]⟩
abbrev S256x1 : Shape := ⟨2, ![256, 1]⟩
abbrev S1x1x64x512 : Shape := ⟨4, ![1, 1, 64, 512]⟩
abbrev S1 : Shape := ⟨1, ![1]⟩
abbrev S1x4x64x512 : Shape := ⟨4, ![1, 4, 64, 512]⟩
abbrev S4x64x512 : Shape := ⟨3, ![4, 64, 512]⟩
abbrev S1x64x512 : Shape := ⟨3, ![1, 64, 512]⟩
abbrev S1x64x1024 : Shape := ⟨3, ![1, 64, 1024]⟩

abbrev nBuf : Space → Nat
  | .hbm => 5
  | .vmem => 12
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x2, .i32⟩
  | .hbm, ⟨3, _⟩ => ⟨S4x512x1024, .bf16⟩
  | .hbm, ⟨4, _⟩ => ⟨S64x1024, .f32⟩
  | .local _ .vmem, ⟨0, _⟩ => ⟨S2048x512, .bf16⟩
  | .local _ .vmem, ⟨1, _⟩ => ⟨S512x128, .bf16⟩
  | .local _ .vmem, ⟨2, _⟩ => ⟨S2048x2, .i32⟩
  | .local _ .vmem, ⟨3, _⟩ => ⟨S4x512x1024, .bf16⟩
  | .local _ .vmem, ⟨4, _⟩ => ⟨S64x1024, .f32⟩
  | .local _ .vmem, ⟨5, _⟩ => ⟨S2048x4, .f32⟩
  | .local _ .vmem, ⟨6, _⟩ => ⟨S256x512, .bf16⟩
  | .local _ .vmem, ⟨7, _⟩ => ⟨S256x4, .f32⟩
  | .local _ .vmem, ⟨8, _⟩ => ⟨S8x4x64x512, .bf16⟩
  | .local _ .vmem, ⟨9, _⟩ => ⟨S8x4x64x512, .bf16⟩
  | .local _ .vmem, ⟨10, _⟩ => ⟨S4x64x1024, .bf16⟩
  | .local _ .vmem, ⟨11, _⟩ => ⟨S4x64x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v51 : BitVec 32 := Scalar.muli v19 c8_i32_31
  let c8_i32_5 : BitVec 32 := 8#32
  let v20 : BitVec 32 := Scalar.remsi v2 c8_i32_5
  let c7_i32_45 : BitVec 32 := 7#32
  let v64 : BitVec 1 := Scalar.cmpi .eq v20 c7_i32_45
  let c6_i32_46 : BitVec 32 := 6#32
  let c6_i32_43 : BitVec 32 := 6#32
  let v62 : BitVec 1 := Scalar.cmpi .eq v20 c6_i32_43
  let c5_i32_44 : BitVec 32 := 5#32
  let c5_i32_41 : BitVec 32 := 5#32
  let v60 : BitVec 1 := Scalar.cmpi .eq v20 c5_i32_41
  let c2_i32_42 : BitVec 32 := 2#32
  let c4_i32_39 : BitVec 32 := 4#32
  let v58 : BitVec 1 := Scalar.cmpi .eq v20 c4_i32_39
  let c7_i32_40 : BitVec 32 := 7#32
  let c3_i32_37 : BitVec 32 := 3#32
  let v56 : BitVec 1 := Scalar.cmpi .eq v20 c3_i32_37
  let c4_i32_38 : BitVec 32 := 4#32
  let c2_i32_35 : BitVec 32 := 2#32
  let v54 : BitVec 1 := Scalar.cmpi .eq v20 c2_i32_35
  let c1_i32_36 : BitVec 32 := 1#32
  let c1_i32_32 : BitVec 32 := 1#32
  let v52 : BitVec 1 := Scalar.cmpi .eq v20 c1_i32_32
  let c0_i32_33 : BitVec 32 := 0#32
  let c3_i32_34 : BitVec 32 := 3#32
  let v53 : BitVec 32 := Scalar.select v52 c0_i32_33 c3_i32_34
  let v55 : BitVec 32 := Scalar.select v54 c1_i32_36 v53
  let v57 : BitVec 32 := Scalar.select v56 c4_i32_38 v55
  let v59 : BitVec 32 := Scalar.select v58 c7_i32_40 v57
  let v61 : BitVec 32 := Scalar.select v60 c2_i32_42 v59
  let v63 : BitVec 32 := Scalar.select v62 c5_i32_44 v61
  let v65 : BitVec 32 := Scalar.select v64 c6_i32_46 v63
  let v66 : BitVec 32 := Scalar.addi v51 v65
  let c1_i32_59 : BitVec 32 := 1#32
  let v84 : BitVec 32 := Scalar.muli v66 c1_i32_59
  let v85 : BitVec 32 := Scalar.addi c0_i32_60 v84
  v85.toNat
def k0_dev2 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_29 : BitVec 32 := 7#32
  let v48 : BitVec 1 := Scalar.cmpi .eq v20 c7_i32_29
  let c4_i32_30 : BitVec 32 := 4#32
  let c6_i32_27 : BitVec 32 := 6#32
  let v46 : BitVec 1 := Scalar.cmpi .eq v20 c6_i32_27
  let c7_i32_28 : BitVec 32 := 7#32
  let c5_i32_25 : BitVec 32 := 5#32
  let v44 : BitVec 1 := Scalar.cmpi .eq v20 c5_i32_25
  let c6_i32_26 : BitVec 32 := 6#32
  let c4_i32_23 : BitVec 32 := 4#32
  let v42 : BitVec 1 := Scalar.cmpi .eq v20 c4_i32_23
  let c3_i32_24 : BitVec 32 := 3#32
  let c3_i32_21 : BitVec 32 := 3#32
  let v40 : BitVec 1 := Scalar.cmpi .eq v20 c3_i32_21
  let c0_i32_22 : BitVec 32 := 0#32
  let c2_i32_19 : BitVec 32 := 2#32
  let v38 : BitVec 1 := Scalar.cmpi .eq v20 c2_i32_19
  let c5_i32_20 : BitVec 32 := 5#32
  let c1_i32_16 : BitVec 32 := 1#32
  let v36 : BitVec 1 := Scalar.cmpi .eq v20 c1_i32_16
  let c2_i32_17 : BitVec 32 := 2#32
  let c1_i32_18 : BitVec 32 := 1#32
  let v37 : BitVec 32 := Scalar.select v36 c2_i32_17 c1_i32_18
  let v39 : BitVec 32 := Scalar.select v38 c5_i32_20 v37
  let v41 : BitVec 32 := Scalar.select v40 c0_i32_22 v39
  let v43 : BitVec 32 := Scalar.select v42 c3_i32_24 v41
  let v45 : BitVec 32 := Scalar.select v44 c6_i32_26 v43
  let v47 : BitVec 32 := Scalar.select v46 c7_i32_28 v45
  let v49 : BitVec 32 := Scalar.select v48 c4_i32_30 v47
  let v50 : BitVec 32 := Scalar.addi v35 v49
  let c1_i32_62 : BitVec 32 := 1#32
  let v86 : BitVec 32 := Scalar.muli v50 c1_i32_62
  let v87 : BitVec 32 := Scalar.addi c0_i32_63 v86
  v87.toNat
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_49 : BitVec 32 := 1#32
  let v71 : BitVec 32 := Scalar.addi v19 c1_i32_49
  let c4_i32_50 : BitVec 32 := 4#32
  let v72 : BitVec 32 := Scalar.remsi v71 c4_i32_50
  let c8_i32_51 : BitVec 32 := 8#32
  let v73 : BitVec 32 := Scalar.muli v72 c8_i32_51
  let c8_i32_5 : BitVec 32 := 8#32
  let v20 : BitVec 32 := Scalar.remsi v2 c8_i32_5
  let v74 : BitVec 32 := Scalar.addi v73 v20
  let c1_i32_65 : BitVec 32 := 1#32
  let v88 : BitVec 32 := Scalar.muli v74 c1_i32_65
  let v89 : BitVec 32 := Scalar.addi c0_i32_66 v88
  v89.toNat
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_52 : BitVec 32 := 2#32
  let v75 : BitVec 32 := Scalar.addi v19 c2_i32_52
  let c4_i32_53 : BitVec 32 := 4#32
  let v76 : BitVec 32 := Scalar.remsi v75 c4_i32_53
  let c8_i32_54 : BitVec 32 := 8#32
  let v77 : BitVec 32 := Scalar.muli v76 c8_i32_54
  let c8_i32_5 : BitVec 32 := 8#32
  let v20 : BitVec 32 := Scalar.remsi v2 c8_i32_5
  let v78 : BitVec 32 := Scalar.addi v77 v20
  let c1_i32_68 : BitVec 32 := 1#32
  let v90 : BitVec 32 := Scalar.muli v78 c1_i32_68
  let v91 : BitVec 32 := Scalar.addi c0_i32_69 v90
  v91.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_55 : BitVec 32 := 3#32
  let v79 : BitVec 32 := Scalar.addi v19 c3_i32_55
  let c4_i32_56 : BitVec 32 := 4#32
  let v80 : BitVec 32 := Scalar.remsi v79 c4_i32_56
  let c8_i32_57 : BitVec 32 := 8#32
  let v81 : BitVec 32 := Scalar.muli v80 c8_i32_57
  let c8_i32_5 : BitVec 32 := 8#32
  let v20 : BitVec 32 := Scalar.remsi v2 c8_i32_5
  let v82 : BitVec 32 := Scalar.addi v81 v20
  let c1_i32_71 : BitVec 32 := 1#32
  let v92 : BitVec 32 := Scalar.muli v82 c1_i32_71
  let v93 : BitVec 32 := Scalar.addi c0_i32_72 v92
  v93.toNat
def k0_off1 (d0 : Dev nD) (c0_i32_141 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_123 : BitVec 32 := 8#32
  let v188 : BitVec 32 := Scalar.addi v34 c8_i32_123
  let c1_i32_124 : BitVec 32 := 1#32
  let v189 : BitVec 32 := Scalar.subi v188 c1_i32_124
  let c8_i32_125 : BitVec 32 := 8#32
  let v190 : BitVec 32 := Scalar.remsi v189 c8_i32_125
  let c7_i32_139 : BitVec 32 := 7#32
  let v203 : BitVec 1 := Scalar.cmpi .eq v190 c7_i32_139
  let c3_i32_140 : BitVec 32 := 3#32
  let c6_i32_137 : BitVec 32 := 6#32
  let v201 : BitVec 1 := Scalar.cmpi .eq v190 c6_i32_137
  let c4_i32_138 : BitVec 32 := 4#32
  let c5_i32_135 : BitVec 32 := 5#32
  let v199 : BitVec 1 := Scalar.cmpi .eq v190 c5_i32_135
  let c7_i32_136 : BitVec 32 := 7#32
  let c4_i32_133 : BitVec 32 := 4#32
  let v197 : BitVec 1 := Scalar.cmpi .eq v190 c4_i32_133
  let c6_i32_134 : BitVec 32 := 6#32
  let c3_i32_131 : BitVec 32 := 3#32
  let v195 : BitVec 1 := Scalar.cmpi .eq v190 c3_i32_131
  let c5_i32_132 : BitVec 32 := 5#32
  let c2_i32_129 : BitVec 32 := 2#32
  let v193 : BitVec 1 := Scalar.cmpi .eq v190 c2_i32_129
  let c2_i32_130 : BitVec 32 := 2#32
  let c1_i32_126 : BitVec 32 := 1#32
  let v191 : BitVec 1 := Scalar.cmpi .eq v190 c1_i32_126
  let c1_i32_127 : BitVec 32 := 1#32
  let c0_i32_128 : BitVec 32 := 0#32
  let v192 : BitVec 32 := Scalar.select v191 c1_i32_127 c0_i32_128
  let v194 : BitVec 32 := Scalar.select v193 c2_i32_130 v192
  let v196 : BitVec 32 := Scalar.select v195 c5_i32_132 v194
  let v198 : BitVec 32 := Scalar.select v197 c6_i32_134 v196
  let v200 : BitVec 32 := Scalar.select v199 c7_i32_136 v198
  let v202 : BitVec 32 := Scalar.select v201 c4_i32_138 v200
  let v204 : BitVec 32 := Scalar.select v203 c3_i32_140 v202
  let v205 : BitVec 32 := Scalar.addi c0_i32_141 v204
  let c64_i32 : BitVec 32 := 64#32
  let v206 : BitVec 32 := Scalar.muli v205 c64_i32
  let v207 : Index := Scalar.indexCast v206
  let c0_142 : Index := 0#32
  ![v207.toNat, 0]
def k0_off2 (d0 : Dev nD) (c0_i32_141 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_123 : BitVec 32 := 8#32
  let v188 : BitVec 32 := Scalar.addi v34 c8_i32_123
  let c1_i32_124 : BitVec 32 := 1#32
  let v189 : BitVec 32 := Scalar.subi v188 c1_i32_124
  let c8_i32_125 : BitVec 32 := 8#32
  let v190 : BitVec 32 := Scalar.remsi v189 c8_i32_125
  let c7_i32_139 : BitVec 32 := 7#32
  let v203 : BitVec 1 := Scalar.cmpi .eq v190 c7_i32_139
  let c3_i32_140 : BitVec 32 := 3#32
  let c6_i32_137 : BitVec 32 := 6#32
  let v201 : BitVec 1 := Scalar.cmpi .eq v190 c6_i32_137
  let c4_i32_138 : BitVec 32 := 4#32
  let c5_i32_135 : BitVec 32 := 5#32
  let v199 : BitVec 1 := Scalar.cmpi .eq v190 c5_i32_135
  let c7_i32_136 : BitVec 32 := 7#32
  let c4_i32_133 : BitVec 32 := 4#32
  let v197 : BitVec 1 := Scalar.cmpi .eq v190 c4_i32_133
  let c6_i32_134 : BitVec 32 := 6#32
  let c3_i32_131 : BitVec 32 := 3#32
  let v195 : BitVec 1 := Scalar.cmpi .eq v190 c3_i32_131
  let c5_i32_132 : BitVec 32 := 5#32
  let c2_i32_129 : BitVec 32 := 2#32
  let v193 : BitVec 1 := Scalar.cmpi .eq v190 c2_i32_129
  let c2_i32_130 : BitVec 32 := 2#32
  let c1_i32_126 : BitVec 32 := 1#32
  let v191 : BitVec 1 := Scalar.cmpi .eq v190 c1_i32_126
  let c1_i32_127 : BitVec 32 := 1#32
  let c0_i32_128 : BitVec 32 := 0#32
  let v192 : BitVec 32 := Scalar.select v191 c1_i32_127 c0_i32_128
  let v194 : BitVec 32 := Scalar.select v193 c2_i32_130 v192
  let v196 : BitVec 32 := Scalar.select v195 c5_i32_132 v194
  let v198 : BitVec 32 := Scalar.select v197 c6_i32_134 v196
  let v200 : BitVec 32 := Scalar.select v199 c7_i32_136 v198
  let v202 : BitVec 32 := Scalar.select v201 c4_i32_138 v200
  let v204 : BitVec 32 := Scalar.select v203 c3_i32_140 v202
  let v205 : BitVec 32 := Scalar.addi c0_i32_141 v204
  let c64_i32 : BitVec 32 := 64#32
  let v206 : BitVec 32 := Scalar.muli v205 c64_i32
  let v213 : Index := Scalar.indexCast v206
  let c0_145 : Index := 0#32
  ![v213.toNat, 0]
def k0_off3 (d0 : Dev nD) (c0_i32_220 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_203 : BitVec 32 := 1#32
  let v304 : BitVec 32 := Scalar.addi v34 c1_i32_203
  let c8_i32_204 : BitVec 32 := 8#32
  let v305 : BitVec 32 := Scalar.remsi v304 c8_i32_204
  let c7_i32_218 : BitVec 32 := 7#32
  let v318 : BitVec 1 := Scalar.cmpi .eq v305 c7_i32_218
  let c3_i32_219 : BitVec 32 := 3#32
  let c6_i32_216 : BitVec 32 := 6#32
  let v316 : BitVec 1 := Scalar.cmpi .eq v305 c6_i32_216
  let c4_i32_217 : BitVec 32 := 4#32
  let c5_i32_214 : BitVec 32 := 5#32
  let v314 : BitVec 1 := Scalar.cmpi .eq v305 c5_i32_214
  let c7_i32_215 : BitVec 32 := 7#32
  let c4_i32_212 : BitVec 32 := 4#32
  let v312 : BitVec 1 := Scalar.cmpi .eq v305 c4_i32_212
  let c6_i32_213 : BitVec 32 := 6#32
  let c3_i32_210 : BitVec 32 := 3#32
  let v310 : BitVec 1 := Scalar.cmpi .eq v305 c3_i32_210
  let c5_i32_211 : BitVec 32 := 5#32
  let c2_i32_208 : BitVec 32 := 2#32
  let v308 : BitVec 1 := Scalar.cmpi .eq v305 c2_i32_208
  let c2_i32_209 : BitVec 32 := 2#32
  let c1_i32_205 : BitVec 32 := 1#32
  let v306 : BitVec 1 := Scalar.cmpi .eq v305 c1_i32_205
  let c1_i32_206 : BitVec 32 := 1#32
  let c0_i32_207 : BitVec 32 := 0#32
  let v307 : BitVec 32 := Scalar.select v306 c1_i32_206 c0_i32_207
  let v309 : BitVec 32 := Scalar.select v308 c2_i32_209 v307
  let v311 : BitVec 32 := Scalar.select v310 c5_i32_211 v309
  let v313 : BitVec 32 := Scalar.select v312 c6_i32_213 v311
  let v315 : BitVec 32 := Scalar.select v314 c7_i32_215 v313
  let v317 : BitVec 32 := Scalar.select v316 c4_i32_217 v315
  let v319 : BitVec 32 := Scalar.select v318 c3_i32_219 v317
  let v320 : BitVec 32 := Scalar.addi c0_i32_220 v319
  let c64_i32_221 : BitVec 32 := 64#32
  let v321 : BitVec 32 := Scalar.muli v320 c64_i32_221
  let v322 : Index := Scalar.indexCast v321
  let c0_222 : Index := 0#32
  ![v322.toNat, 0]
def k0_off4 (d0 : Dev nD) (c0_i32_220 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_203 : BitVec 32 := 1#32
  let v304 : BitVec 32 := Scalar.addi v34 c1_i32_203
  let c8_i32_204 : BitVec 32 := 8#32
  let v305 : BitVec 32 := Scalar.remsi v304 c8_i32_204
  let c7_i32_218 : BitVec 32 := 7#32
  let v318 : BitVec 1 := Scalar.cmpi .eq v305 c7_i32_218
  let c3_i32_219 : BitVec 32 := 3#32
  let c6_i32_216 : BitVec 32 := 6#32
  let v316 : BitVec 1 := Scalar.cmpi .eq v305 c6_i32_216
  let c4_i32_217 : BitVec 32 := 4#32
  let c5_i32_214 : BitVec 32 := 5#32
  let v314 : BitVec 1 := Scalar.cmpi .eq v305 c5_i32_214
  let c7_i32_215 : BitVec 32 := 7#32
  let c4_i32_212 : BitVec 32 := 4#32
  let v312 : BitVec 1 := Scalar.cmpi .eq v305 c4_i32_212
  let c6_i32_213 : BitVec 32 := 6#32
  let c3_i32_210 : BitVec 32 := 3#32
  let v310 : BitVec 1 := Scalar.cmpi .eq v305 c3_i32_210
  let c5_i32_211 : BitVec 32 := 5#32
  let c2_i32_208 : BitVec 32 := 2#32
  let v308 : BitVec 1 := Scalar.cmpi .eq v305 c2_i32_208
  let c2_i32_209 : BitVec 32 := 2#32
  let c1_i32_205 : BitVec 32 := 1#32
  let v306 : BitVec 1 := Scalar.cmpi .eq v305 c1_i32_205
  let c1_i32_206 : BitVec 32 := 1#32
  let c0_i32_207 : BitVec 32 := 0#32
  let v307 : BitVec 32 := Scalar.select v306 c1_i32_206 c0_i32_207
  let v309 : BitVec 32 := Scalar.select v308 c2_i32_209 v307
  let v311 : BitVec 32 := Scalar.select v310 c5_i32_211 v309
  let v313 : BitVec 32 := Scalar.select v312 c6_i32_213 v311
  let v315 : BitVec 32 := Scalar.select v314 c7_i32_215 v313
  let v317 : BitVec 32 := Scalar.select v316 c4_i32_217 v315
  let v319 : BitVec 32 := Scalar.select v318 c3_i32_219 v317
  let v320 : BitVec 32 := Scalar.addi c0_i32_220 v319
  let c64_i32_221 : BitVec 32 := 64#32
  let v321 : BitVec 32 := Scalar.muli v320 c64_i32_221
  let v328 : Index := Scalar.indexCast v321
  let c0_225 : Index := 0#32
  ![v328.toNat, 0]
def k0_dev6 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_29 : BitVec 32 := 7#32
  let v48 : BitVec 1 := Scalar.cmpi .eq v20 c7_i32_29
  let c4_i32_30 : BitVec 32 := 4#32
  let c6_i32_27 : BitVec 32 := 6#32
  let v46 : BitVec 1 := Scalar.cmpi .eq v20 c6_i32_27
  let c7_i32_28 : BitVec 32 := 7#32
  let c5_i32_25 : BitVec 32 := 5#32
  let v44 : BitVec 1 := Scalar.cmpi .eq v20 c5_i32_25
  let c6_i32_26 : BitVec 32 := 6#32
  let c4_i32_23 : BitVec 32 := 4#32
  let v42 : BitVec 1 := Scalar.cmpi .eq v20 c4_i32_23
  let c3_i32_24 : BitVec 32 := 3#32
  let c3_i32_21 : BitVec 32 := 3#32
  let v40 : BitVec 1 := Scalar.cmpi .eq v20 c3_i32_21
  let c0_i32_22 : BitVec 32 := 0#32
  let c2_i32_19 : BitVec 32 := 2#32
  let v38 : BitVec 1 := Scalar.cmpi .eq v20 c2_i32_19
  let c5_i32_20 : BitVec 32 := 5#32
  let c1_i32_16 : BitVec 32 := 1#32
  let v36 : BitVec 1 := Scalar.cmpi .eq v20 c1_i32_16
  let c2_i32_17 : BitVec 32 := 2#32
  let c1_i32_18 : BitVec 32 := 1#32
  let v37 : BitVec 32 := Scalar.select v36 c2_i32_17 c1_i32_18
  let v39 : BitVec 32 := Scalar.select v38 c5_i32_20 v37
  let v41 : BitVec 32 := Scalar.select v40 c0_i32_22 v39
  let v43 : BitVec 32 := Scalar.select v42 c3_i32_24 v41
  let v45 : BitVec 32 := Scalar.select v44 c6_i32_26 v43
  let v47 : BitVec 32 := Scalar.select v46 c7_i32_28 v45
  let v49 : BitVec 32 := Scalar.select v48 c4_i32_30 v47
  let v50 : BitVec 32 := Scalar.addi v35 v49
  let c1_i32_292 : BitVec 32 := 1#32
  let v419 : BitVec 32 := Scalar.muli v50 c1_i32_292
  let v420 : BitVec 32 := Scalar.addi c0_i32_293 v419
  v420.toNat
def k0_dev7 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v51 : BitVec 32 := Scalar.muli v19 c8_i32_31
  let c8_i32_5 : BitVec 32 := 8#32
  let v20 : BitVec 32 := Scalar.remsi v2 c8_i32_5
  let c7_i32_45 : BitVec 32 := 7#32
  let v64 : BitVec 1 := Scalar.cmpi .eq v20 c7_i32_45
  let c6_i32_46 : BitVec 32 := 6#32
  let c6_i32_43 : BitVec 32 := 6#32
  let v62 : BitVec 1 := Scalar.cmpi .eq v20 c6_i32_43
  let c5_i32_44 : BitVec 32 := 5#32
  let c5_i32_41 : BitVec 32 := 5#32
  let v60 : BitVec 1 := Scalar.cmpi .eq v20 c5_i32_41
  let c2_i32_42 : BitVec 32 := 2#32
  let c4_i32_39 : BitVec 32 := 4#32
  let v58 : BitVec 1 := Scalar.cmpi .eq v20 c4_i32_39
  let c7_i32_40 : BitVec 32 := 7#32
  let c3_i32_37 : BitVec 32 := 3#32
  let v56 : BitVec 1 := Scalar.cmpi .eq v20 c3_i32_37
  let c4_i32_38 : BitVec 32 := 4#32
  let c2_i32_35 : BitVec 32 := 2#32
  let v54 : BitVec 1 := Scalar.cmpi .eq v20 c2_i32_35
  let c1_i32_36 : BitVec 32 := 1#32
  let c1_i32_32 : BitVec 32 := 1#32
  let v52 : BitVec 1 := Scalar.cmpi .eq v20 c1_i32_32
  let c0_i32_33 : BitVec 32 := 0#32
  let c3_i32_34 : BitVec 32 := 3#32
  let v53 : BitVec 32 := Scalar.select v52 c0_i32_33 c3_i32_34
  let v55 : BitVec 32 := Scalar.select v54 c1_i32_36 v53
  let v57 : BitVec 32 := Scalar.select v56 c4_i32_38 v55
  let v59 : BitVec 32 := Scalar.select v58 c7_i32_40 v57
  let v61 : BitVec 32 := Scalar.select v60 c2_i32_42 v59
  let v63 : BitVec 32 := Scalar.select v62 c5_i32_44 v61
  let v65 : BitVec 32 := Scalar.select v64 c6_i32_46 v63
  let v66 : BitVec 32 := Scalar.addi v51 v65
  let c1_i32_304 : BitVec 32 := 1#32
  let v429 : BitVec 32 := Scalar.muli v66 c1_i32_304
  let v430 : BitVec 32 := Scalar.addi c0_i32_305 v429
  v430.toNat
def k0_off5 (d0 : Dev nD) (c0_i32_331 : BitVec 32) (c0_i32_314 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c16_i32_312 : BitVec 32 := 16#32
  let v439 : BitVec 32 := Scalar.addi v34 c16_i32_312
  let c2_i32_313 : BitVec 32 := 2#32
  let v440 : BitVec 32 := Scalar.subi v439 c2_i32_313
  let v441 : BitVec 32 := Scalar.subi v440 c0_i32_314
  let c8_i32_315 : BitVec 32 := 8#32
  let v442 : BitVec 32 := Scalar.remsi v441 c8_i32_315
  let c7_i32_329 : BitVec 32 := 7#32
  let v455 : BitVec 1 := Scalar.cmpi .eq v442 c7_i32_329
  let c3_i32_330 : BitVec 32 := 3#32
  let c6_i32_327 : BitVec 32 := 6#32
  let v453 : BitVec 1 := Scalar.cmpi .eq v442 c6_i32_327
  let c4_i32_328 : BitVec 32 := 4#32
  let c5_i32_325 : BitVec 32 := 5#32
  let v451 : BitVec 1 := Scalar.cmpi .eq v442 c5_i32_325
  let c7_i32_326 : BitVec 32 := 7#32
  let c4_i32_323 : BitVec 32 := 4#32
  let v449 : BitVec 1 := Scalar.cmpi .eq v442 c4_i32_323
  let c6_i32_324 : BitVec 32 := 6#32
  let c3_i32_321 : BitVec 32 := 3#32
  let v447 : BitVec 1 := Scalar.cmpi .eq v442 c3_i32_321
  let c5_i32_322 : BitVec 32 := 5#32
  let c2_i32_319 : BitVec 32 := 2#32
  let v445 : BitVec 1 := Scalar.cmpi .eq v442 c2_i32_319
  let c2_i32_320 : BitVec 32 := 2#32
  let c1_i32_316 : BitVec 32 := 1#32
  let v443 : BitVec 1 := Scalar.cmpi .eq v442 c1_i32_316
  let c1_i32_317 : BitVec 32 := 1#32
  let c0_i32_318 : BitVec 32 := 0#32
  let v444 : BitVec 32 := Scalar.select v443 c1_i32_317 c0_i32_318
  let v446 : BitVec 32 := Scalar.select v445 c2_i32_320 v444
  let v448 : BitVec 32 := Scalar.select v447 c5_i32_322 v446
  let v450 : BitVec 32 := Scalar.select v449 c6_i32_324 v448
  let v452 : BitVec 32 := Scalar.select v451 c7_i32_326 v450
  let v454 : BitVec 32 := Scalar.select v453 c4_i32_328 v452
  let v456 : BitVec 32 := Scalar.select v455 c3_i32_330 v454
  let v457 : BitVec 32 := Scalar.addi c0_i32_331 v456
  let c64_i32_332 : BitVec 32 := 64#32
  let v458 : BitVec 32 := Scalar.muli v457 c64_i32_332
  let v459 : Index := Scalar.indexCast v458
  let c0_333 : Index := 0#32
  ![v459.toNat, 0]
def k0_off6 (d0 : Dev nD) (c0_i32_331 : BitVec 32) (c0_i32_314 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c16_i32_312 : BitVec 32 := 16#32
  let v439 : BitVec 32 := Scalar.addi v34 c16_i32_312
  let c2_i32_313 : BitVec 32 := 2#32
  let v440 : BitVec 32 := Scalar.subi v439 c2_i32_313
  let v441 : BitVec 32 := Scalar.subi v440 c0_i32_314
  let c8_i32_315 : BitVec 32 := 8#32
  let v442 : BitVec 32 := Scalar.remsi v441 c8_i32_315
  let c7_i32_329 : BitVec 32 := 7#32
  let v455 : BitVec 1 := Scalar.cmpi .eq v442 c7_i32_329
  let c3_i32_330 : BitVec 32 := 3#32
  let c6_i32_327 : BitVec 32 := 6#32
  let v453 : BitVec 1 := Scalar.cmpi .eq v442 c6_i32_327
  let c4_i32_328 : BitVec 32 := 4#32
  let c5_i32_325 : BitVec 32 := 5#32
  let v451 : BitVec 1 := Scalar.cmpi .eq v442 c5_i32_325
  let c7_i32_326 : BitVec 32 := 7#32
  let c4_i32_323 : BitVec 32 := 4#32
  let v449 : BitVec 1 := Scalar.cmpi .eq v442 c4_i32_323
  let c6_i32_324 : BitVec 32 := 6#32
  let c3_i32_321 : BitVec 32 := 3#32
  let v447 : BitVec 1 := Scalar.cmpi .eq v442 c3_i32_321
  let c5_i32_322 : BitVec 32 := 5#32
  let c2_i32_319 : BitVec 32 := 2#32
  let v445 : BitVec 1 := Scalar.cmpi .eq v442 c2_i32_319
  let c2_i32_320 : BitVec 32 := 2#32
  let c1_i32_316 : BitVec 32 := 1#32
  let v443 : BitVec 1 := Scalar.cmpi .eq v442 c1_i32_316
  let c1_i32_317 : BitVec 32 := 1#32
  let c0_i32_318 : BitVec 32 := 0#32
  let v444 : BitVec 32 := Scalar.select v443 c1_i32_317 c0_i32_318
  let v446 : BitVec 32 := Scalar.select v445 c2_i32_320 v444
  let v448 : BitVec 32 := Scalar.select v447 c5_i32_322 v446
  let v450 : BitVec 32 := Scalar.select v449 c6_i32_324 v448
  let v452 : BitVec 32 := Scalar.select v451 c7_i32_326 v450
  let v454 : BitVec 32 := Scalar.select v453 c4_i32_328 v452
  let v456 : BitVec 32 := Scalar.select v455 c3_i32_330 v454
  let v457 : BitVec 32 := Scalar.addi c0_i32_331 v456
  let c64_i32_332 : BitVec 32 := 64#32
  let v458 : BitVec 32 := Scalar.muli v457 c64_i32_332
  let v465 : Index := Scalar.indexCast v458
  let c0_336 : Index := 0#32
  ![v465.toNat, 0]
def k0_off7 (d0 : Dev nD) (c0_i32_401 : BitVec 32) (c0_i32_384 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c2_i32_383 : BitVec 32 := 2#32
  let v540 : BitVec 32 := Scalar.addi v34 c2_i32_383
  let v541 : BitVec 32 := Scalar.addi v540 c0_i32_384
  let c8_i32_385 : BitVec 32 := 8#32
  let v542 : BitVec 32 := Scalar.remsi v541 c8_i32_385
  let c7_i32_399 : BitVec 32 := 7#32
  let v555 : BitVec 1 := Scalar.cmpi .eq v542 c7_i32_399
  let c3_i32_400 : BitVec 32 := 3#32
  let c6_i32_397 : BitVec 32 := 6#32
  let v553 : BitVec 1 := Scalar.cmpi .eq v542 c6_i32_397
  let c4_i32_398 : BitVec 32 := 4#32
  let c5_i32_395 : BitVec 32 := 5#32
  let v551 : BitVec 1 := Scalar.cmpi .eq v542 c5_i32_395
  let c7_i32_396 : BitVec 32 := 7#32
  let c4_i32_393 : BitVec 32 := 4#32
  let v549 : BitVec 1 := Scalar.cmpi .eq v542 c4_i32_393
  let c6_i32_394 : BitVec 32 := 6#32
  let c3_i32_391 : BitVec 32 := 3#32
  let v547 : BitVec 1 := Scalar.cmpi .eq v542 c3_i32_391
  let c5_i32_392 : BitVec 32 := 5#32
  let c2_i32_389 : BitVec 32 := 2#32
  let v545 : BitVec 1 := Scalar.cmpi .eq v542 c2_i32_389
  let c2_i32_390 : BitVec 32 := 2#32
  let c1_i32_386 : BitVec 32 := 1#32
  let v543 : BitVec 1 := Scalar.cmpi .eq v542 c1_i32_386
  let c1_i32_387 : BitVec 32 := 1#32
  let c0_i32_388 : BitVec 32 := 0#32
  let v544 : BitVec 32 := Scalar.select v543 c1_i32_387 c0_i32_388
  let v546 : BitVec 32 := Scalar.select v545 c2_i32_390 v544
  let v548 : BitVec 32 := Scalar.select v547 c5_i32_392 v546
  let v550 : BitVec 32 := Scalar.select v549 c6_i32_394 v548
  let v552 : BitVec 32 := Scalar.select v551 c7_i32_396 v550
  let v554 : BitVec 32 := Scalar.select v553 c4_i32_398 v552
  let v556 : BitVec 32 := Scalar.select v555 c3_i32_400 v554
  let v557 : BitVec 32 := Scalar.addi c0_i32_401 v556
  let c64_i32_402 : BitVec 32 := 64#32
  let v558 : BitVec 32 := Scalar.muli v557 c64_i32_402
  let v559 : Index := Scalar.indexCast v558
  let c0_403 : Index := 0#32
  ![v559.toNat, 0]
def k0_off8 (d0 : Dev nD) (c0_i32_401 : BitVec 32) (c0_i32_384 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c2_i32_383 : BitVec 32 := 2#32
  let v540 : BitVec 32 := Scalar.addi v34 c2_i32_383
  let v541 : BitVec 32 := Scalar.addi v540 c0_i32_384
  let c8_i32_385 : BitVec 32 := 8#32
  let v542 : BitVec 32 := Scalar.remsi v541 c8_i32_385
  let c7_i32_399 : BitVec 32 := 7#32
  let v555 : BitVec 1 := Scalar.cmpi .eq v542 c7_i32_399
  let c3_i32_400 : BitVec 32 := 3#32
  let c6_i32_397 : BitVec 32 := 6#32
  let v553 : BitVec 1 := Scalar.cmpi .eq v542 c6_i32_397
  let c4_i32_398 : BitVec 32 := 4#32
  let c5_i32_395 : BitVec 32 := 5#32
  let v551 : BitVec 1 := Scalar.cmpi .eq v542 c5_i32_395
  let c7_i32_396 : BitVec 32 := 7#32
  let c4_i32_393 : BitVec 32 := 4#32
  let v549 : BitVec 1 := Scalar.cmpi .eq v542 c4_i32_393
  let c6_i32_394 : BitVec 32 := 6#32
  let c3_i32_391 : BitVec 32 := 3#32
  let v547 : BitVec 1 := Scalar.cmpi .eq v542 c3_i32_391
  let c5_i32_392 : BitVec 32 := 5#32
  let c2_i32_389 : BitVec 32 := 2#32
  let v545 : BitVec 1 := Scalar.cmpi .eq v542 c2_i32_389
  let c2_i32_390 : BitVec 32 := 2#32
  let c1_i32_386 : BitVec 32 := 1#32
  let v543 : BitVec 1 := Scalar.cmpi .eq v542 c1_i32_386
  let c1_i32_387 : BitVec 32 := 1#32
  let c0_i32_388 : BitVec 32 := 0#32
  let v544 : BitVec 32 := Scalar.select v543 c1_i32_387 c0_i32_388
  let v546 : BitVec 32 := Scalar.select v545 c2_i32_390 v544
  let v548 : BitVec 32 := Scalar.select v547 c5_i32_392 v546
  let v550 : BitVec 32 := Scalar.select v549 c6_i32_394 v548
  let v552 : BitVec 32 := Scalar.select v551 c7_i32_396 v550
  let v554 : BitVec 32 := Scalar.select v553 c4_i32_398 v552
  let v556 : BitVec 32 := Scalar.select v555 c3_i32_400 v554
  let v557 : BitVec 32 := Scalar.addi c0_i32_401 v556
  let c64_i32_402 : BitVec 32 := 64#32
  let v558 : BitVec 32 := Scalar.muli v557 c64_i32_402
  let v565 : Index := Scalar.indexCast v558
  let c0_406 : Index := 0#32
  ![v565.toNat, 0]
def k0_dev8 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_29 : BitVec 32 := 7#32
  let v48 : BitVec 1 := Scalar.cmpi .eq v20 c7_i32_29
  let c4_i32_30 : BitVec 32 := 4#32
  let c6_i32_27 : BitVec 32 := 6#32
  let v46 : BitVec 1 := Scalar.cmpi .eq v20 c6_i32_27
  let c7_i32_28 : BitVec 32 := 7#32
  let c5_i32_25 : BitVec 32 := 5#32
  let v44 : BitVec 1 := Scalar.cmpi .eq v20 c5_i32_25
  let c6_i32_26 : BitVec 32 := 6#32
  let c4_i32_23 : BitVec 32 := 4#32
  let v42 : BitVec 1 := Scalar.cmpi .eq v20 c4_i32_23
  let c3_i32_24 : BitVec 32 := 3#32
  let c3_i32_21 : BitVec 32 := 3#32
  let v40 : BitVec 1 := Scalar.cmpi .eq v20 c3_i32_21
  let c0_i32_22 : BitVec 32 := 0#32
  let c2_i32_19 : BitVec 32 := 2#32
  let v38 : BitVec 1 := Scalar.cmpi .eq v20 c2_i32_19
  let c5_i32_20 : BitVec 32 := 5#32
  let c1_i32_16 : BitVec 32 := 1#32
  let v36 : BitVec 1 := Scalar.cmpi .eq v20 c1_i32_16
  let c2_i32_17 : BitVec 32 := 2#32
  let c1_i32_18 : BitVec 32 := 1#32
  let v37 : BitVec 32 := Scalar.select v36 c2_i32_17 c1_i32_18
  let v39 : BitVec 32 := Scalar.select v38 c5_i32_20 v37
  let v41 : BitVec 32 := Scalar.select v40 c0_i32_22 v39
  let v43 : BitVec 32 := Scalar.select v42 c3_i32_24 v41
  let v45 : BitVec 32 := Scalar.select v44 c6_i32_26 v43
  let v47 : BitVec 32 := Scalar.select v46 c7_i32_28 v45
  let v49 : BitVec 32 := Scalar.select v48 c4_i32_30 v47
  let v50 : BitVec 32 := Scalar.addi v35 v49
  let c1_i32_567 : BitVec 32 := 1#32
  let v732 : BitVec 32 := Scalar.muli v50 c1_i32_567
  let v733 : BitVec 32 := Scalar.addi c0_i32_568 v732
  v733.toNat
def k0_dev9 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v51 : BitVec 32 := Scalar.muli v19 c8_i32_31
  let c8_i32_5 : BitVec 32 := 8#32
  let v20 : BitVec 32 := Scalar.remsi v2 c8_i32_5
  let c7_i32_45 : BitVec 32 := 7#32
  let v64 : BitVec 1 := Scalar.cmpi .eq v20 c7_i32_45
  let c6_i32_46 : BitVec 32 := 6#32
  let c6_i32_43 : BitVec 32 := 6#32
  let v62 : BitVec 1 := Scalar.cmpi .eq v20 c6_i32_43
  let c5_i32_44 : BitVec 32 := 5#32
  let c5_i32_41 : BitVec 32 := 5#32
  let v60 : BitVec 1 := Scalar.cmpi .eq v20 c5_i32_41
  let c2_i32_42 : BitVec 32 := 2#32
  let c4_i32_39 : BitVec 32 := 4#32
  let v58 : BitVec 1 := Scalar.cmpi .eq v20 c4_i32_39
  let c7_i32_40 : BitVec 32 := 7#32
  let c3_i32_37 : BitVec 32 := 3#32
  let v56 : BitVec 1 := Scalar.cmpi .eq v20 c3_i32_37
  let c4_i32_38 : BitVec 32 := 4#32
  let c2_i32_35 : BitVec 32 := 2#32
  let v54 : BitVec 1 := Scalar.cmpi .eq v20 c2_i32_35
  let c1_i32_36 : BitVec 32 := 1#32
  let c1_i32_32 : BitVec 32 := 1#32
  let v52 : BitVec 1 := Scalar.cmpi .eq v20 c1_i32_32
  let c0_i32_33 : BitVec 32 := 0#32
  let c3_i32_34 : BitVec 32 := 3#32
  let v53 : BitVec 32 := Scalar.select v52 c0_i32_33 c3_i32_34
  let v55 : BitVec 32 := Scalar.select v54 c1_i32_36 v53
  let v57 : BitVec 32 := Scalar.select v56 c4_i32_38 v55
  let v59 : BitVec 32 := Scalar.select v58 c7_i32_40 v57
  let v61 : BitVec 32 := Scalar.select v60 c2_i32_42 v59
  let v63 : BitVec 32 := Scalar.select v62 c5_i32_44 v61
  let v65 : BitVec 32 := Scalar.select v64 c6_i32_46 v63
  let v66 : BitVec 32 := Scalar.addi v51 v65
  let c1_i32_579 : BitVec 32 := 1#32
  let v742 : BitVec 32 := Scalar.muli v66 c1_i32_579
  let v743 : BitVec 32 := Scalar.addi c0_i32_580 v742
  v743.toNat
def k0_dev10 (d0 : Dev nD) : Nat :=
  let c0_i32_843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_29 : BitVec 32 := 7#32
  let v48 : BitVec 1 := Scalar.cmpi .eq v20 c7_i32_29
  let c4_i32_30 : BitVec 32 := 4#32
  let c6_i32_27 : BitVec 32 := 6#32
  let v46 : BitVec 1 := Scalar.cmpi .eq v20 c6_i32_27
  let c7_i32_28 : BitVec 32 := 7#32
  let c5_i32_25 : BitVec 32 := 5#32
  let v44 : BitVec 1 := Scalar.cmpi .eq v20 c5_i32_25
  let c6_i32_26 : BitVec 32 := 6#32
  let c4_i32_23 : BitVec 32 := 4#32
  let v42 : BitVec 1 := Scalar.cmpi .eq v20 c4_i32_23
  let c3_i32_24 : BitVec 32 := 3#32
  let c3_i32_21 : BitVec 32 := 3#32
  let v40 : BitVec 1 := Scalar.cmpi .eq v20 c3_i32_21
  let c0_i32_22 : BitVec 32 := 0#32
  let c2_i32_19 : BitVec 32 := 2#32
  let v38 : BitVec 1 := Scalar.cmpi .eq v20 c2_i32_19
  let c5_i32_20 : BitVec 32 := 5#32
  let c1_i32_16 : BitVec 32 := 1#32
  let v36 : BitVec 1 := Scalar.cmpi .eq v20 c1_i32_16
  let c2_i32_17 : BitVec 32 := 2#32
  let c1_i32_18 : BitVec 32 := 1#32
  let v37 : BitVec 32 := Scalar.select v36 c2_i32_17 c1_i32_18
  let v39 : BitVec 32 := Scalar.select v38 c5_i32_20 v37
  let v41 : BitVec 32 := Scalar.select v40 c0_i32_22 v39
  let v43 : BitVec 32 := Scalar.select v42 c3_i32_24 v41
  let v45 : BitVec 32 := Scalar.select v44 c6_i32_26 v43
  let v47 : BitVec 32 := Scalar.select v46 c7_i32_28 v45
  let v49 : BitVec 32 := Scalar.select v48 c4_i32_30 v47
  let v50 : BitVec 32 := Scalar.addi v35 v49
  let c1_i32_842 : BitVec 32 := 1#32
  let v1045 : BitVec 32 := Scalar.muli v50 c1_i32_842
  let v1046 : BitVec 32 := Scalar.addi c0_i32_843 v1045
  v1046.toNat
def k0_dev11 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v51 : BitVec 32 := Scalar.muli v19 c8_i32_31
  let c8_i32_5 : BitVec 32 := 8#32
  let v20 : BitVec 32 := Scalar.remsi v2 c8_i32_5
  let c7_i32_45 : BitVec 32 := 7#32
  let v64 : BitVec 1 := Scalar.cmpi .eq v20 c7_i32_45
  let c6_i32_46 : BitVec 32 := 6#32
  let c6_i32_43 : BitVec 32 := 6#32
  let v62 : BitVec 1 := Scalar.cmpi .eq v20 c6_i32_43
  let c5_i32_44 : BitVec 32 := 5#32
  let c5_i32_41 : BitVec 32 := 5#32
  let v60 : BitVec 1 := Scalar.cmpi .eq v20 c5_i32_41
  let c2_i32_42 : BitVec 32 := 2#32
  let c4_i32_39 : BitVec 32 := 4#32
  let v58 : BitVec 1 := Scalar.cmpi .eq v20 c4_i32_39
  let c7_i32_40 : BitVec 32 := 7#32
  let c3_i32_37 : BitVec 32 := 3#32
  let v56 : BitVec 1 := Scalar.cmpi .eq v20 c3_i32_37
  let c4_i32_38 : BitVec 32 := 4#32
  let c2_i32_35 : BitVec 32 := 2#32
  let v54 : BitVec 1 := Scalar.cmpi .eq v20 c2_i32_35
  let c1_i32_36 : BitVec 32 := 1#32
  let c1_i32_32 : BitVec 32 := 1#32
  let v52 : BitVec 1 := Scalar.cmpi .eq v20 c1_i32_32
  let c0_i32_33 : BitVec 32 := 0#32
  let c3_i32_34 : BitVec 32 := 3#32
  let v53 : BitVec 32 := Scalar.select v52 c0_i32_33 c3_i32_34
  let v55 : BitVec 32 := Scalar.select v54 c1_i32_36 v53
  let v57 : BitVec 32 := Scalar.select v56 c4_i32_38 v55
  let v59 : BitVec 32 := Scalar.select v58 c7_i32_40 v57
  let v61 : BitVec 32 := Scalar.select v60 c2_i32_42 v59
  let v63 : BitVec 32 := Scalar.select v62 c5_i32_44 v61
  let v65 : BitVec 32 := Scalar.select v64 c6_i32_46 v63
  let v66 : BitVec 32 := Scalar.addi v51 v65
  let c1_i32_854 : BitVec 32 := 1#32
  let v1055 : BitVec 32 := Scalar.muli v66 c1_i32_854
  let v1056 : BitVec 32 := Scalar.addi c0_i32_855 v1055
  v1056.toNat
def k0_dev12 (d0 : Dev nD) : Nat :=
  let c0_i32_1118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_29 : BitVec 32 := 7#32
  let v48 : BitVec 1 := Scalar.cmpi .eq v20 c7_i32_29
  let c4_i32_30 : BitVec 32 := 4#32
  let c6_i32_27 : BitVec 32 := 6#32
  let v46 : BitVec 1 := Scalar.cmpi .eq v20 c6_i32_27
  let c7_i32_28 : BitVec 32 := 7#32
  let c5_i32_25 : BitVec 32 := 5#32
  let v44 : BitVec 1 := Scalar.cmpi .eq v20 c5_i32_25
  let c6_i32_26 : BitVec 32 := 6#32
  let c4_i32_23 : BitVec 32 := 4#32
  let v42 : BitVec 1 := Scalar.cmpi .eq v20 c4_i32_23
  let c3_i32_24 : BitVec 32 := 3#32
  let c3_i32_21 : BitVec 32 := 3#32
  let v40 : BitVec 1 := Scalar.cmpi .eq v20 c3_i32_21
  let c0_i32_22 : BitVec 32 := 0#32
  let c2_i32_19 : BitVec 32 := 2#32
  let v38 : BitVec 1 := Scalar.cmpi .eq v20 c2_i32_19
  let c5_i32_20 : BitVec 32 := 5#32
  let c1_i32_16 : BitVec 32 := 1#32
  let v36 : BitVec 1 := Scalar.cmpi .eq v20 c1_i32_16
  let c2_i32_17 : BitVec 32 := 2#32
  let c1_i32_18 : BitVec 32 := 1#32
  let v37 : BitVec 32 := Scalar.select v36 c2_i32_17 c1_i32_18
  let v39 : BitVec 32 := Scalar.select v38 c5_i32_20 v37
  let v41 : BitVec 32 := Scalar.select v40 c0_i32_22 v39
  let v43 : BitVec 32 := Scalar.select v42 c3_i32_24 v41
  let v45 : BitVec 32 := Scalar.select v44 c6_i32_26 v43
  let v47 : BitVec 32 := Scalar.select v46 c7_i32_28 v45
  let v49 : BitVec 32 := Scalar.select v48 c4_i32_30 v47
  let v50 : BitVec 32 := Scalar.addi v35 v49
  let c1_i32_1117 : BitVec 32 := 1#32
  let v1358 : BitVec 32 := Scalar.muli v50 c1_i32_1117
  let v1359 : BitVec 32 := Scalar.addi c0_i32_1118 v1358
  v1359.toNat
def k0_dev13 (d0 : Dev nD) : Nat :=
  let c0_i32_1130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v51 : BitVec 32 := Scalar.muli v19 c8_i32_31
  let c8_i32_5 : BitVec 32 := 8#32
  let v20 : BitVec 32 := Scalar.remsi v2 c8_i32_5
  let c7_i32_45 : BitVec 32 := 7#32
  let v64 : BitVec 1 := Scalar.cmpi .eq v20 c7_i32_45
  let c6_i32_46 : BitVec 32 := 6#32
  let c6_i32_43 : BitVec 32 := 6#32
  let v62 : BitVec 1 := Scalar.cmpi .eq v20 c6_i32_43
  let c5_i32_44 : BitVec 32 := 5#32
  let c5_i32_41 : BitVec 32 := 5#32
  let v60 : BitVec 1 := Scalar.cmpi .eq v20 c5_i32_41
  let c2_i32_42 : BitVec 32 := 2#32
  let c4_i32_39 : BitVec 32 := 4#32
  let v58 : BitVec 1 := Scalar.cmpi .eq v20 c4_i32_39
  let c7_i32_40 : BitVec 32 := 7#32
  let c3_i32_37 : BitVec 32 := 3#32
  let v56 : BitVec 1 := Scalar.cmpi .eq v20 c3_i32_37
  let c4_i32_38 : BitVec 32 := 4#32
  let c2_i32_35 : BitVec 32 := 2#32
  let v54 : BitVec 1 := Scalar.cmpi .eq v20 c2_i32_35
  let c1_i32_36 : BitVec 32 := 1#32
  let c1_i32_32 : BitVec 32 := 1#32
  let v52 : BitVec 1 := Scalar.cmpi .eq v20 c1_i32_32
  let c0_i32_33 : BitVec 32 := 0#32
  let c3_i32_34 : BitVec 32 := 3#32
  let v53 : BitVec 32 := Scalar.select v52 c0_i32_33 c3_i32_34
  let v55 : BitVec 32 := Scalar.select v54 c1_i32_36 v53
  let v57 : BitVec 32 := Scalar.select v56 c4_i32_38 v55
  let v59 : BitVec 32 := Scalar.select v58 c7_i32_40 v57
  let v61 : BitVec 32 := Scalar.select v60 c2_i32_42 v59
  let v63 : BitVec 32 := Scalar.select v62 c5_i32_44 v61
  let v65 : BitVec 32 := Scalar.select v64 c6_i32_46 v63
  let v66 : BitVec 32 := Scalar.addi v51 v65
  let c1_i32_1129 : BitVec 32 := 1#32
  let v1368 : BitVec 32 := Scalar.muli v66 c1_i32_1129
  let v1369 : BitVec 32 := Scalar.addi c0_i32_1130 v1368
  v1369.toNat
def k0_dev14 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_29 : BitVec 32 := 7#32
  let v48 : BitVec 1 := Scalar.cmpi .eq v20 c7_i32_29
  let c4_i32_30 : BitVec 32 := 4#32
  let c6_i32_27 : BitVec 32 := 6#32
  let v46 : BitVec 1 := Scalar.cmpi .eq v20 c6_i32_27
  let c7_i32_28 : BitVec 32 := 7#32
  let c5_i32_25 : BitVec 32 := 5#32
  let v44 : BitVec 1 := Scalar.cmpi .eq v20 c5_i32_25
  let c6_i32_26 : BitVec 32 := 6#32
  let c4_i32_23 : BitVec 32 := 4#32
  let v42 : BitVec 1 := Scalar.cmpi .eq v20 c4_i32_23
  let c3_i32_24 : BitVec 32 := 3#32
  let c3_i32_21 : BitVec 32 := 3#32
  let v40 : BitVec 1 := Scalar.cmpi .eq v20 c3_i32_21
  let c0_i32_22 : BitVec 32 := 0#32
  let c2_i32_19 : BitVec 32 := 2#32
  let v38 : BitVec 1 := Scalar.cmpi .eq v20 c2_i32_19
  let c5_i32_20 : BitVec 32 := 5#32
  let c1_i32_16 : BitVec 32 := 1#32
  let v36 : BitVec 1 := Scalar.cmpi .eq v20 c1_i32_16
  let c2_i32_17 : BitVec 32 := 2#32
  let c1_i32_18 : BitVec 32 := 1#32
  let v37 : BitVec 32 := Scalar.select v36 c2_i32_17 c1_i32_18
  let v39 : BitVec 32 := Scalar.select v38 c5_i32_20 v37
  let v41 : BitVec 32 := Scalar.select v40 c0_i32_22 v39
  let v43 : BitVec 32 := Scalar.select v42 c3_i32_24 v41
  let v45 : BitVec 32 := Scalar.select v44 c6_i32_26 v43
  let v47 : BitVec 32 := Scalar.select v46 c7_i32_28 v45
  let v49 : BitVec 32 := Scalar.select v48 c4_i32_30 v47
  let v50 : BitVec 32 := Scalar.addi v35 v49
  let c1_i32_1391 : BitVec 32 := 1#32
  let v1671 : BitVec 32 := Scalar.muli v50 c1_i32_1391
  let v1672 : BitVec 32 := Scalar.addi c0_i32_1392 v1671
  v1672.toNat
def k0_dev15 (d0 : Dev nD) : Nat :=
  let c0_i32_1404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v51 : BitVec 32 := Scalar.muli v19 c8_i32_31
  let c8_i32_5 : BitVec 32 := 8#32
  let v20 : BitVec 32 := Scalar.remsi v2 c8_i32_5
  let c7_i32_45 : BitVec 32 := 7#32
  let v64 : BitVec 1 := Scalar.cmpi .eq v20 c7_i32_45
  let c6_i32_46 : BitVec 32 := 6#32
  let c6_i32_43 : BitVec 32 := 6#32
  let v62 : BitVec 1 := Scalar.cmpi .eq v20 c6_i32_43
  let c5_i32_44 : BitVec 32 := 5#32
  let c5_i32_41 : BitVec 32 := 5#32
  let v60 : BitVec 1 := Scalar.cmpi .eq v20 c5_i32_41
  let c2_i32_42 : BitVec 32 := 2#32
  let c4_i32_39 : BitVec 32 := 4#32
  let v58 : BitVec 1 := Scalar.cmpi .eq v20 c4_i32_39
  let c7_i32_40 : BitVec 32 := 7#32
  let c3_i32_37 : BitVec 32 := 3#32
  let v56 : BitVec 1 := Scalar.cmpi .eq v20 c3_i32_37
  let c4_i32_38 : BitVec 32 := 4#32
  let c2_i32_35 : BitVec 32 := 2#32
  let v54 : BitVec 1 := Scalar.cmpi .eq v20 c2_i32_35
  let c1_i32_36 : BitVec 32 := 1#32
  let c1_i32_32 : BitVec 32 := 1#32
  let v52 : BitVec 1 := Scalar.cmpi .eq v20 c1_i32_32
  let c0_i32_33 : BitVec 32 := 0#32
  let c3_i32_34 : BitVec 32 := 3#32
  let v53 : BitVec 32 := Scalar.select v52 c0_i32_33 c3_i32_34
  let v55 : BitVec 32 := Scalar.select v54 c1_i32_36 v53
  let v57 : BitVec 32 := Scalar.select v56 c4_i32_38 v55
  let v59 : BitVec 32 := Scalar.select v58 c7_i32_40 v57
  let v61 : BitVec 32 := Scalar.select v60 c2_i32_42 v59
  let v63 : BitVec 32 := Scalar.select v62 c5_i32_44 v61
  let v65 : BitVec 32 := Scalar.select v64 c6_i32_46 v63
  let v66 : BitVec 32 := Scalar.addi v51 v65
  let c1_i32_1403 : BitVec 32 := 1#32
  let v1681 : BitVec 32 := Scalar.muli v66 c1_i32_1403
  let v1682 : BitVec 32 := Scalar.addi c0_i32_1404 v1681
  v1682.toNat
def k0_dev16 (d0 : Dev nD) : Nat :=
  let c0_i32_1666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_29 : BitVec 32 := 7#32
  let v48 : BitVec 1 := Scalar.cmpi .eq v20 c7_i32_29
  let c4_i32_30 : BitVec 32 := 4#32
  let c6_i32_27 : BitVec 32 := 6#32
  let v46 : BitVec 1 := Scalar.cmpi .eq v20 c6_i32_27
  let c7_i32_28 : BitVec 32 := 7#32
  let c5_i32_25 : BitVec 32 := 5#32
  let v44 : BitVec 1 := Scalar.cmpi .eq v20 c5_i32_25
  let c6_i32_26 : BitVec 32 := 6#32
  let c4_i32_23 : BitVec 32 := 4#32
  let v42 : BitVec 1 := Scalar.cmpi .eq v20 c4_i32_23
  let c3_i32_24 : BitVec 32 := 3#32
  let c3_i32_21 : BitVec 32 := 3#32
  let v40 : BitVec 1 := Scalar.cmpi .eq v20 c3_i32_21
  let c0_i32_22 : BitVec 32 := 0#32
  let c2_i32_19 : BitVec 32 := 2#32
  let v38 : BitVec 1 := Scalar.cmpi .eq v20 c2_i32_19
  let c5_i32_20 : BitVec 32 := 5#32
  let c1_i32_16 : BitVec 32 := 1#32
  let v36 : BitVec 1 := Scalar.cmpi .eq v20 c1_i32_16
  let c2_i32_17 : BitVec 32 := 2#32
  let c1_i32_18 : BitVec 32 := 1#32
  let v37 : BitVec 32 := Scalar.select v36 c2_i32_17 c1_i32_18
  let v39 : BitVec 32 := Scalar.select v38 c5_i32_20 v37
  let v41 : BitVec 32 := Scalar.select v40 c0_i32_22 v39
  let v43 : BitVec 32 := Scalar.select v42 c3_i32_24 v41
  let v45 : BitVec 32 := Scalar.select v44 c6_i32_26 v43
  let v47 : BitVec 32 := Scalar.select v46 c7_i32_28 v45
  let v49 : BitVec 32 := Scalar.select v48 c4_i32_30 v47
  let v50 : BitVec 32 := Scalar.addi v35 v49
  let c1_i32_1665 : BitVec 32 := 1#32
  let v1984 : BitVec 32 := Scalar.muli v50 c1_i32_1665
  let v1985 : BitVec 32 := Scalar.addi c0_i32_1666 v1984
  v1985.toNat
def k0_dev17 (d0 : Dev nD) : Nat :=
  let c0_i32_1678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v51 : BitVec 32 := Scalar.muli v19 c8_i32_31
  let c8_i32_5 : BitVec 32 := 8#32
  let v20 : BitVec 32 := Scalar.remsi v2 c8_i32_5
  let c7_i32_45 : BitVec 32 := 7#32
  let v64 : BitVec 1 := Scalar.cmpi .eq v20 c7_i32_45
  let c6_i32_46 : BitVec 32 := 6#32
  let c6_i32_43 : BitVec 32 := 6#32
  let v62 : BitVec 1 := Scalar.cmpi .eq v20 c6_i32_43
  let c5_i32_44 : BitVec 32 := 5#32
  let c5_i32_41 : BitVec 32 := 5#32
  let v60 : BitVec 1 := Scalar.cmpi .eq v20 c5_i32_41
  let c2_i32_42 : BitVec 32 := 2#32
  let c4_i32_39 : BitVec 32 := 4#32
  let v58 : BitVec 1 := Scalar.cmpi .eq v20 c4_i32_39
  let c7_i32_40 : BitVec 32 := 7#32
  let c3_i32_37 : BitVec 32 := 3#32
  let v56 : BitVec 1 := Scalar.cmpi .eq v20 c3_i32_37
  let c4_i32_38 : BitVec 32 := 4#32
  let c2_i32_35 : BitVec 32 := 2#32
  let v54 : BitVec 1 := Scalar.cmpi .eq v20 c2_i32_35
  let c1_i32_36 : BitVec 32 := 1#32
  let c1_i32_32 : BitVec 32 := 1#32
  let v52 : BitVec 1 := Scalar.cmpi .eq v20 c1_i32_32
  let c0_i32_33 : BitVec 32 := 0#32
  let c3_i32_34 : BitVec 32 := 3#32
  let v53 : BitVec 32 := Scalar.select v52 c0_i32_33 c3_i32_34
  let v55 : BitVec 32 := Scalar.select v54 c1_i32_36 v53
  let v57 : BitVec 32 := Scalar.select v56 c4_i32_38 v55
  let v59 : BitVec 32 := Scalar.select v58 c7_i32_40 v57
  let v61 : BitVec 32 := Scalar.select v60 c2_i32_42 v59
  let v63 : BitVec 32 := Scalar.select v62 c5_i32_44 v61
  let v65 : BitVec 32 := Scalar.select v64 c6_i32_46 v63
  let v66 : BitVec 32 := Scalar.addi v51 v65
  let c1_i32_1677 : BitVec 32 := 1#32
  let v1994 : BitVec 32 := Scalar.muli v66 c1_i32_1677
  let v1995 : BitVec 32 := Scalar.addi c0_i32_1678 v1994
  v1995.toNat
def k0_dev18 (d0 : Dev nD) : Nat :=
  let c0_i32_1940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_29 : BitVec 32 := 7#32
  let v48 : BitVec 1 := Scalar.cmpi .eq v20 c7_i32_29
  let c4_i32_30 : BitVec 32 := 4#32
  let c6_i32_27 : BitVec 32 := 6#32
  let v46 : BitVec 1 := Scalar.cmpi .eq v20 c6_i32_27
  let c7_i32_28 : BitVec 32 := 7#32
  let c5_i32_25 : BitVec 32 := 5#32
  let v44 : BitVec 1 := Scalar.cmpi .eq v20 c5_i32_25
  let c6_i32_26 : BitVec 32 := 6#32
  let c4_i32_23 : BitVec 32 := 4#32
  let v42 : BitVec 1 := Scalar.cmpi .eq v20 c4_i32_23
  let c3_i32_24 : BitVec 32 := 3#32
  let c3_i32_21 : BitVec 32 := 3#32
  let v40 : BitVec 1 := Scalar.cmpi .eq v20 c3_i32_21
  let c0_i32_22 : BitVec 32 := 0#32
  let c2_i32_19 : BitVec 32 := 2#32
  let v38 : BitVec 1 := Scalar.cmpi .eq v20 c2_i32_19
  let c5_i32_20 : BitVec 32 := 5#32
  let c1_i32_16 : BitVec 32 := 1#32
  let v36 : BitVec 1 := Scalar.cmpi .eq v20 c1_i32_16
  let c2_i32_17 : BitVec 32 := 2#32
  let c1_i32_18 : BitVec 32 := 1#32
  let v37 : BitVec 32 := Scalar.select v36 c2_i32_17 c1_i32_18
  let v39 : BitVec 32 := Scalar.select v38 c5_i32_20 v37
  let v41 : BitVec 32 := Scalar.select v40 c0_i32_22 v39
  let v43 : BitVec 32 := Scalar.select v42 c3_i32_24 v41
  let v45 : BitVec 32 := Scalar.select v44 c6_i32_26 v43
  let v47 : BitVec 32 := Scalar.select v46 c7_i32_28 v45
  let v49 : BitVec 32 := Scalar.select v48 c4_i32_30 v47
  let v50 : BitVec 32 := Scalar.addi v35 v49
  let c1_i32_1939 : BitVec 32 := 1#32
  let v2297 : BitVec 32 := Scalar.muli v50 c1_i32_1939
  let v2298 : BitVec 32 := Scalar.addi c0_i32_1940 v2297
  v2298.toNat
def k0_dev19 (d0 : Dev nD) : Nat :=
  let c0_i32_1952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v51 : BitVec 32 := Scalar.muli v19 c8_i32_31
  let c8_i32_5 : BitVec 32 := 8#32
  let v20 : BitVec 32 := Scalar.remsi v2 c8_i32_5
  let c7_i32_45 : BitVec 32 := 7#32
  let v64 : BitVec 1 := Scalar.cmpi .eq v20 c7_i32_45
  let c6_i32_46 : BitVec 32 := 6#32
  let c6_i32_43 : BitVec 32 := 6#32
  let v62 : BitVec 1 := Scalar.cmpi .eq v20 c6_i32_43
  let c5_i32_44 : BitVec 32 := 5#32
  let c5_i32_41 : BitVec 32 := 5#32
  let v60 : BitVec 1 := Scalar.cmpi .eq v20 c5_i32_41
  let c2_i32_42 : BitVec 32 := 2#32
  let c4_i32_39 : BitVec 32 := 4#32
  let v58 : BitVec 1 := Scalar.cmpi .eq v20 c4_i32_39
  let c7_i32_40 : BitVec 32 := 7#32
  let c3_i32_37 : BitVec 32 := 3#32
  let v56 : BitVec 1 := Scalar.cmpi .eq v20 c3_i32_37
  let c4_i32_38 : BitVec 32 := 4#32
  let c2_i32_35 : BitVec 32 := 2#32
  let v54 : BitVec 1 := Scalar.cmpi .eq v20 c2_i32_35
  let c1_i32_36 : BitVec 32 := 1#32
  let c1_i32_32 : BitVec 32 := 1#32
  let v52 : BitVec 1 := Scalar.cmpi .eq v20 c1_i32_32
  let c0_i32_33 : BitVec 32 := 0#32
  let c3_i32_34 : BitVec 32 := 3#32
  let v53 : BitVec 32 := Scalar.select v52 c0_i32_33 c3_i32_34
  let v55 : BitVec 32 := Scalar.select v54 c1_i32_36 v53
  let v57 : BitVec 32 := Scalar.select v56 c4_i32_38 v55
  let v59 : BitVec 32 := Scalar.select v58 c7_i32_40 v57
  let v61 : BitVec 32 := Scalar.select v60 c2_i32_42 v59
  let v63 : BitVec 32 := Scalar.select v62 c5_i32_44 v61
  let v65 : BitVec 32 := Scalar.select v64 c6_i32_46 v63
  let v66 : BitVec 32 := Scalar.addi v51 v65
  let c1_i32_1951 : BitVec 32 := 1#32
  let v2307 : BitVec 32 := Scalar.muli v66 c1_i32_1951
  let v2308 : BitVec 32 := Scalar.addi c0_i32_1952 v2307
  v2308.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_2177 : BitVec 32 := 0#32
  let v2578 : BitVec 1 := Scalar.cmpi .ne v19 c0_i32_2177
  let v2579 : BitVec 32 := Scalar.extui v2578
  let c0_i32_2178 : BitVec 32 := 0#32
  let v2580 : BitVec 1 := Scalar.cmpi .ne v2579 c0_i32_2178
  v2580

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_2255 : BitVec 32 := 0#32
  let c0_i32_2256 : BitVec 32 := 0#32
  ![v19.toNat, 0, 0]
def k0_dev20 (d0 : Dev nD) : Nat :=
  let c0_i32_2254 : BitVec 32 := 0#32
  let c0_i32_2250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v2698 : BitVec 32 := Scalar.addi c0_i32_2250 v20
  let c1_i32_2253 : BitVec 32 := 1#32
  let v2699 : BitVec 32 := Scalar.muli v2698 c1_i32_2253
  let v2700 : BitVec 32 := Scalar.addi c0_i32_2254 v2699
  v2700.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2179 : BitVec 32 := 1#32
  let v2581 : BitVec 1 := Scalar.cmpi .ne v19 c1_i32_2179
  let v2582 : BitVec 32 := Scalar.extui v2581
  let c0_i32_2180 : BitVec 32 := 0#32
  let v2583 : BitVec 1 := Scalar.cmpi .ne v2582 c0_i32_2180
  v2583

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_2255 : BitVec 32 := 0#32
  let c0_i32_2256 : BitVec 32 := 0#32
  ![v19.toNat, 0, 0]
def k0_dev21 (d0 : Dev nD) : Nat :=
  let c0_i32_2254 : BitVec 32 := 0#32
  let c8_i32_2250 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v2698 : BitVec 32 := Scalar.addi c8_i32_2250 v20
  let c1_i32_2253 : BitVec 32 := 1#32
  let v2699 : BitVec 32 := Scalar.muli v2698 c1_i32_2253
  let v2700 : BitVec 32 := Scalar.addi c0_i32_2254 v2699
  v2700.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2181 : BitVec 32 := 2#32
  let v2584 : BitVec 1 := Scalar.cmpi .ne v19 c2_i32_2181
  let v2585 : BitVec 32 := Scalar.extui v2584
  let c0_i32_2182 : BitVec 32 := 0#32
  let v2586 : BitVec 1 := Scalar.cmpi .ne v2585 c0_i32_2182
  v2586

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_2255 : BitVec 32 := 0#32
  let c0_i32_2256 : BitVec 32 := 0#32
  ![v19.toNat, 0, 0]
def k0_dev22 (d0 : Dev nD) : Nat :=
  let c0_i32_2254 : BitVec 32 := 0#32
  let c16_i32_2250 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v2698 : BitVec 32 := Scalar.addi c16_i32_2250 v20
  let c1_i32_2253 : BitVec 32 := 1#32
  let v2699 : BitVec 32 := Scalar.muli v2698 c1_i32_2253
  let v2700 : BitVec 32 := Scalar.addi c0_i32_2254 v2699
  v2700.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2183 : BitVec 32 := 3#32
  let v2587 : BitVec 1 := Scalar.cmpi .ne v19 c3_i32_2183
  let v2588 : BitVec 32 := Scalar.extui v2587
  let c0_i32_2184 : BitVec 32 := 0#32
  let v2589 : BitVec 1 := Scalar.cmpi .ne v2588 c0_i32_2184
  v2589

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_2255 : BitVec 32 := 0#32
  let c0_i32_2256 : BitVec 32 := 0#32
  ![v19.toNat, 0, 0]
def k0_dev23 (d0 : Dev nD) : Nat :=
  let c0_i32_2254 : BitVec 32 := 0#32
  let c24_i32_2250 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v2698 : BitVec 32 := Scalar.addi c24_i32_2250 v20
  let c1_i32_2253 : BitVec 32 := 1#32
  let v2699 : BitVec 32 := Scalar.muli v2698 c1_i32_2253
  let v2700 : BitVec 32 := Scalar.addi c0_i32_2254 v2699
  v2700.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S1 : Shape := ⟨1, ![1]⟩
abbrev S1x1x1 : Shape := ⟨3, ![1, 1, 1]⟩
abbrev S2048x512x1024 : Shape := ⟨3, ![2048, 512, 1024]⟩
abbrev S2048x1024 : Shape := ⟨2, ![2048, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x2, .i32⟩
  | .hbm, ⟨3, _⟩ => ⟨S128x512x1024, .bf16⟩
  | .hbm, ⟨4, _⟩ => ⟨S2048x512, .f32⟩
  | .hbm, ⟨5, _⟩ => ⟨S512x128, .f32⟩
  | .hbm, ⟨6, _⟩ => ⟨S2048x128, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x128, .f32⟩
  | .hbm, ⟨17, _⟩ => ⟨S2048x128, .f32⟩
  | .hbm, ⟨18, _⟩ => ⟨S_, .i32⟩
  | .hbm, ⟨19, _⟩ => ⟨S2048x2, .i32⟩
  | .hbm, ⟨20, _⟩ => ⟨S2048x2, .i1⟩
  | .hbm, ⟨21, _⟩ => ⟨S_, .i32⟩
  | .hbm, ⟨22, _⟩ => ⟨S2048x2, .i32⟩
  | .hbm, ⟨23, _⟩ => ⟨S2048x2, .i32⟩
  | .hbm, ⟨24, _⟩ => ⟨S2048x2, .i32⟩
  | .hbm, ⟨25, _⟩ => ⟨S2048x2x1, .i32⟩
  | .hbm, ⟨26, _⟩ => ⟨S1, .i32⟩
  | .hbm, ⟨27, _⟩ => ⟨S_, .i32⟩
  | .hbm, ⟨28, _⟩ => ⟨S2048x2x1, .i32⟩
  | .hbm, ⟨29, _⟩ => ⟨S2048x2x1, .i1⟩
  | .hbm, ⟨30, _⟩ => ⟨S1x1x1, .i32⟩
  | .hbm, ⟨31, _⟩ => ⟨S2048x2x1, .i32⟩
  | .hbm, ⟨32, _⟩ => ⟨S2048x2x1, .i1⟩
  | .hbm, ⟨33, _⟩ => ⟨S2048x2x1, .i1⟩
  | .hbm, ⟨34, _⟩ => ⟨S_, .i1⟩
  | .hbm, ⟨35, _⟩ => ⟨S2048x2, .i1⟩
  | .hbm, ⟨36, _⟩ => ⟨S2048x2, .f32⟩
  | .hbm, ⟨37, _⟩ => ⟨S_, .f32⟩
  | .hbm, ⟨38, _⟩ => ⟨S2048x2, .f32⟩
  | .hbm, ⟨39, _⟩ => ⟨S2048x2, .f32⟩
  | .hbm, ⟨40, _⟩ => ⟨S2048x1, .i32⟩
  | .hbm, ⟨41, _⟩ => ⟨S2048, .i32⟩
  | .hbm, ⟨42, _⟩ => ⟨S2048x1, .i32⟩
  | .hbm, ⟨43, _⟩ => ⟨S2048, .i32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S128x512x1024, .f32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S2048x1, .i32⟩
  | .hbm, ⟨56, _⟩ => ⟨S2048x512x1024, .f32⟩
  | .hbm, ⟨57, _⟩ => ⟨S2048x1024, .f32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S2048x1, .i32⟩
  | .hbm, ⟨66, _⟩ => ⟨S2048x512x1024, .f32⟩
  | .hbm, ⟨67, _⟩ => ⟨S2048x1024, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1, .f32⟩
  | .hbm, ⟨72, _⟩ => ⟨S2048x1024, .f32⟩
  | .hbm, ⟨73, _⟩ => ⟨S2048x1024, .f32⟩
  | .hbm, ⟨74, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c : Ref sig .tc := ⟨.hbm, 48, rfl⟩
abbrev main_v21 : Ref sig .tc := ⟨.hbm, 49, rfl⟩
abbrev main_v22 : Ref sig .tc := ⟨.hbm, 50, rfl⟩
abbrev main_c_1 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_2 : Ref sig .tc := ⟨.hbm, 58, rfl⟩
abbrev main_v29 : Ref sig .tc := ⟨.hbm, 59, rfl⟩
abbrev main_v30 : Ref sig .tc := ⟨.hbm, 60, rfl⟩
abbrev main_c_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩

abbrev nD : Nat := 1
abbrev τ : Topo := Topo.v7x

variable {F : FTy → Type} [FloatOps F]
-- ==== Proof.Proto.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-!
# The protocol of the kernel

Thirty-two devices: four planes of eight. In a plane the devices form a ring; `nxt` and `prv` are the two
neighbours, `pl i c` the device of plane `i` at the position of `c`. Every device has a barrier cell and forty
DMA cells, numbered `0 … 39`: departures to the right (`0 … 7`), arrivals from the left neighbour (`8 … 15`),
departures to the left (`16 … 23`), arrivals from the right neighbour (`24 … 31`), departures to the other
planes (`32 … 35`) and arrivals from them (`36 … 39`). Each cell has one round, round 0.
-/

@[expose] public section

set_option maxRecDepth 16384

noncomputable section

namespace Cert.KProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's ghost algebra, duties named `0 … 4`. -/
abbrev UB : Type := URounds (GSem nD τ sig) (Fin 5)
/-- The pipeline library's ghost state beside the protocol's. -/
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-! ## Devices -/

/-- The plane of a device. -/
def zOf (c : Dev nD) : Fin 4 := ⟨c.val / 8, by have : c.val < 32 := c.isLt; omega⟩
/-- The device of plane `i` at the position of `c`. -/
def pl (i : Fin 4) (c : Dev nD) : Dev nD := ⟨8 * i.val + c.val % 8, by show _ < 32; have := i.isLt; omega⟩
/-- The right neighbour on the ring of the plane. -/
def nxt (c : Dev nD) : Dev nD := ⟨k0_dev6 c, k0_dev6_lt c⟩
/-- The left neighbour. -/
def prv (c : Dev nD) : Dev nD := ⟨k0_dev7 c, k0_dev7_lt c⟩

theorem prv_nxt : ∀ c : Dev nD, prv (nxt c) = c := by decide +kernel
theorem nxt_prv : ∀ c : Dev nD, nxt (prv c) = c := by decide +kernel
theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = pl (zOf c + 1) c := by decide +kernel
theorem dev4_eq : ∀ c : Dev nD, (⟨k0_dev4 c, k0_dev4_lt c⟩ : Dev nD) = pl (zOf c + 2) c := by decide +kernel
theorem dev5_eq : ∀ c : Dev nD, (⟨k0_dev5 c, k0_dev5_lt c⟩ : Dev nD) = pl (zOf c + 3) c := by decide +kernel
theorem zOf_pl : ∀ (i : Fin 4) (c : Dev nD), zOf (pl i c) = i := by decide +kernel
theorem pl_pl : ∀ (i j : Fin 4) (c : Dev nD), pl i (pl j c) = pl i c := by decide +kernel
theorem pl_zOf : ∀ c : Dev nD, pl (zOf c) c = c := by decide +kernel

/-- One step to the right as a permutation of the devices. -/
def ring : Dev nD ≃ Dev nD := ⟨nxt, prv, prv_nxt, nxt_prv⟩
/-- A move by `k` planes as a permutation of the devices. -/
def planes (k : Fin 4) : Dev nD ≃ Dev nD :=
  ⟨fun c => pl (zOf c + k) c, fun c => pl (zOf c - k) c,
    fun c => by revert k c; decide +kernel, fun c => by revert k c; decide +kernel⟩

/-! ## Buffers -/

abbrev xM : Memref sig .tc .vmem S2048x512 .bf16 := Memref.whole cc0_stg0_0
abbrev rwM : Memref sig .tc .vmem S512x128 .bf16 := Memref.whole cc0_stg1_0
abbrev ixM : Memref sig .tc .vmem S2048x2 .i32 := Memref.whole cc0_stg2_0
abbrev ewM : Memref sig .tc .vmem S4x512x1024 .bf16 := Memref.whole cc0_stg3_0
abbrev oM : Memref sig .tc .vmem S64x1024 .f32 := Memref.whole cc0_stg4_0
abbrev coM : Memref sig .tc .vmem S2048x4 .f32 := Memref.whole cc0_scratch0
abbrev xgM : Memref sig .tc .vmem S256x512 .bf16 := Memref.whole cc0_scratch1
abbrev cgM : Memref sig .tc .vmem S256x4 .f32 := Memref.whole cc0_scratch2
abbrev rM : Memref sig .tc .vmem S8x4x64x512 .bf16 := Memref.whole cc0_scratch3
abbrev lM : Memref sig .tc .vmem S8x4x64x512 .bf16 := Memref.whole cc0_scratch4
abbrev s2M : Memref sig .tc .vmem S4x64x1024 .bf16 := Memref.whole cc0_scratch5
abbrev v2M : Memref sig .tc .vmem S4x64x1024 .bf16 := Memref.whole cc0_scratch6

abbrev CommM := Memref sig .tc .vmem S8x4x64x512 .bf16
abbrev PlaneM := Memref sig .tc .vmem S4x64x1024 .bf16

theorem inbSlot (s : ℕ) (h : s < 8) : ∀ a : Fin 4, (![s, 0, 0, 0] : Fin 4 → ℕ) a + S1x4x64x512.size a ≤ S8x4x64x512.size a := by
  intro a; fin_cases a <;> simp <;> omega
theorem inbWin (s : ℕ) (h : s < 8) (zz : ℕ) (hz : zz < 4) : ∀ a : Fin 4, (![s, zz, 0, 0] : Fin 4 → ℕ) a + S1x1x64x512.size a ≤ S8x4x64x512.size a := by
  intro a; fin_cases a <;> simp <;> omega
theorem inbPlane (i : ℕ) (h : i < 4) : ∀ a : Fin 3, (![i, 0, 0] : Fin 3 → ℕ) a + S1x64x1024.size a ≤ S4x64x1024.size a := by
  intro a; fin_cases a <;> simp <;> omega
theorem inbHalf (i : ℕ) (h : i < 4) (o : ℕ) (ho : o ≤ 512) : ∀ a : Fin 3, (![i, 0, o] : Fin 3 → ℕ) a + S1x64x512.size a ≤ S4x64x1024.size a := by
  intro a; fin_cases a <;> simp <;> omega

/-- Slot `s` of a ring buffer. -/
abbrev slotRect (s : ℕ) (h : s < 8) : Rect S8x4x64x512 := Rect.unit (s := S8x4x64x512) ![s, 0, 0, 0] S1x4x64x512.size (inbSlot s h)
/-- Block `zz` of slot `s`. -/
abbrev winRect (s : ℕ) (h : s < 8) (zz : ℕ) (hz : zz < 4) : Rect S8x4x64x512 := Rect.unit (s := S8x4x64x512) ![s, zz, 0, 0] S1x1x64x512.size (inbWin s h zz hz)
/-- Row `i` of a plane buffer. -/
abbrev planeRect (i : ℕ) (h : i < 4) : Rect S4x64x1024 := Rect.unit (s := S4x64x1024) ![i, 0, 0] S1x64x1024.size (inbPlane i h)
/-- The half of row `i` that starts at column `o`. -/
abbrev halfRect (i : ℕ) (h : i < 4) (o : ℕ) (ho : o ≤ 512) : Rect S4x64x1024 := Rect.unit (s := S4x64x1024) ![i, 0, o] S1x64x512.size (inbHalf i h o ho)

/-- Slot `s` as a transfer names it. -/
abbrev slotM (M : CommM) (s : ℕ) (h : s < 8) : Memref sig .tc .vmem S4x64x512 .bf16 :=
  (M.slice (slotRect s h) (fun _ => rfl)).squeeze S4x64x512 squeezes_S1x4x64x512_S4x64x512
/-- Row `i` of a plane buffer as a transfer names it. -/
abbrev planeM (M : PlaneM) (i : ℕ) (h : i < 4) : Memref sig .tc .vmem S64x1024 .bf16 :=
  (M.slice (planeRect i h) (fun _ => rfl)).squeeze S64x1024 squeezes_S1x64x1024_S64x1024

/-- What one step's transfer adds to a ring cell. -/
abbrev N1 : ℕ := (slotM rM 0 (by decide)).view.dmaCredit
/-- What a transfer between planes adds to its cell. -/
abbrev N2 : ℕ := (planeM s2M 0 (by decide)).view.dmaCredit
theorem N1_pos : 0 < N1 := View.dmaCredit_pos _ (by decide)
theorem N2_pos : 0 < N2 := View.dmaCredit_pos _ (by decide)

/-! ## Slots held -/

theorem slotM_set (M : CommM) (s : ℕ) (h : s < 8) : (slotM M s h).view.set = M.view.setOn (slotRect s h).set := by
  show ((M.view.slice (slotRect s h)).reshape S4x64x512 _).set = _
  rw [View.set_reshape, View.set_slice]; rfl
theorem planeM_set (M : PlaneM) (i : ℕ) (h : i < 4) : (planeM M i h).view.set = M.view.setOn (planeRect i h).set := by
  show ((M.view.slice (planeRect i h)).reshape S64x1024 _).set = _
  rw [View.set_reshape, View.set_slice]; rfl

/-- Slot `s` of a ring buffer at contents `f`. -/
def slotPts (M : CommM) (c : Dev nD) (s : ℕ) (h : s < 8) (f : Buf (Elt F) (M.view.loc (c : Thread nD τ))) : sProp 𝕄 :=
  M.view.loc (c : Thread nD τ) ↦[M.view.setOn (slotRect s h).set]{fullShare} f
/-- Slot `s` at contents not said. -/
def slotAny (M : CommM) (c : Dev nD) (s : ℕ) (h : s < 8) : sProp 𝕄 := iprop(∃ f, slotPts M c s h f)
/-- The blocks of slot `s` of contents `f` are `Y`. -/
def Reads (M : CommM) (c : Dev nD) (s : ℕ) (h : s < 8) (Y : Fin 4 → Vec F S1x1x64x512 .bf16) (f : Buf (Elt F) (M.view.loc (c : Thread nD τ))) : Prop :=
  ∀ zz : Fin 4, M.view.readAt (Elt F) (winRect s h zz.val zz.isLt).toLoadRect f = Y zz
/-- Slot `s` with the blocks `Y`. -/
def slotIs (M : CommM) (c : Dev nD) (s : ℕ) (h : s < 8) (Y : Fin 4 → Vec F S1x1x64x512 .bf16) : sProp 𝕄 :=
  iprop(∃ f, ⌜Reads M c s h Y f⌝ ∗ slotPts M c s h f)

/-- Row `i` of a plane buffer at contents `f`. -/
def rowPts (M : PlaneM) (c : Dev nD) (i : ℕ) (h : i < 4) (f : Buf (Elt F) (M.view.loc (c : Thread nD τ))) : sProp 𝕄 :=
  M.view.loc (c : Thread nD τ) ↦[M.view.setOn (planeRect i h).set]{fullShare} f
def rowAny (M : PlaneM) (c : Dev nD) (i : ℕ) (h : i < 4) : sProp 𝕄 := iprop(∃ f, rowPts M c i h f)
/-- The two halves of row `i` of contents `f` are `YR` and `YL`. -/
def RowReads (M : PlaneM) (c : Dev nD) (i : ℕ) (h : i < 4) (YR YL : Vec F S1x64x512 .bf16) (f : Buf (Elt F) (M.view.loc (c : Thread nD τ))) : Prop :=
  M.view.readAt (Elt F) (halfRect i h 0 (by decide)).toLoadRect f = YR ∧ M.view.readAt (Elt F) (halfRect i h 512 (by decide)).toLoadRect f = YL
def rowIs (M : PlaneM) (c : Dev nD) (i : ℕ) (h : i < 4) (YR YL : Vec F S1x64x512 .bf16) : sProp 𝕄 :=
  iprop(∃ f, ⌜RowReads M c i h YR YL f⌝ ∗ rowPts M c i h f)

omit [FloatOps F] in
instance slotPts_storable (M c s h f) : BI.Storable (upEmb : UEmb _ 𝕄) (slotPts (F := F) M c s h f) := by unfold slotPts; infer_instance
omit [FloatOps F] in
instance slotAny_storable (M c s h) : BI.Storable (upEmb : UEmb _ 𝕄) (slotAny (F := F) M c s h) := by unfold slotAny; infer_instance
omit [FloatOps F] in
instance slotIs_storable (M c s h Y) : BI.Storable (upEmb : UEmb _ 𝕄) (slotIs (F := F) M c s h Y) := by unfold slotIs; infer_instance
omit [FloatOps F] in
instance rowPts_storable (M c s h f) : BI.Storable (upEmb : UEmb _ 𝕄) (rowPts (F := F) M c s h f) := by unfold rowPts; infer_instance
omit [FloatOps F] in
instance rowAny_storable (M c s h) : BI.Storable (upEmb : UEmb _ 𝕄) (rowAny (F := F) M c s h) := by unfold rowAny; infer_instance
omit [FloatOps F] in
instance rowIs_storable (M c s h Y Z) : BI.Storable (upEmb : UEmb _ 𝕄) (rowIs (F := F) M c s h Y Z) := by unfold rowIs; infer_instance

/-! ## What a transfer carries -/

/-- A transfer from one slot to another leaves there the blocks it read. -/
theorem Reads.transfer {M M' : CommM} {c n : Dev nD} {s t : ℕ} {hs : s < 8} {ht : t < 8} {Y : Fin 4 → Vec F S1x1x64x512 .bf16}
    {f : Buf (Elt F) (M.view.loc (c : Thread nD τ))} {g : Buf (Elt F) (M'.view.loc (n : Thread nD τ))}
    (hY : Reads M c s hs Y f) (h : (slotM M' t ht).view.read (Elt F) g = (slotM M s hs).view.read (Elt F) f) : Reads M' n t ht Y g := by
  intro zz
  rw [← hY zz]
  funext j
  have hj0 : (j 0).val < 1 := (j 0).isLt
  have hj1 : (j 1).val < 1 := (j 1).isLt
  have hk : ∃ k : S1x4x64x512.Idx, ∀ (u : ℕ) (hu : u < 8), (slotRect u hu).emb k = (winRect u hu zz.val zz.isLt).emb j := by
    refine ⟨fun a => match a with
      | ⟨0, _⟩ => j 0
      | ⟨1, _⟩ => zz
      | ⟨2, _⟩ => j 2
      | ⟨3, _⟩ => j 3, fun u hu => funext fun a => Fin.ext ?_⟩
    fin_cases a
    · show u + 1 * (j 0).val = u + 1 * (j 0).val; rfl
    · show 0 + 1 * zz.val = zz.val + 1 * (j 1).val; omega
    · show 0 + 1 * (j 2).val = 0 + 1 * (j 2).val; rfl
    · show 0 + 1 * (j 3).val = 0 + 1 * (j 3).val; rfl
  obtain ⟨k, hk⟩ := hk
  have key := congrFun h ((Shape.reshapeEquiv (Shape.Squeezes.numel_eq squeezes_S1x4x64x512_S4x64x512)).symm k)
  have e1 : ∀ (M : CommM) (d : Dev nD) (u : ℕ) (hu : u < 8) (f : Buf (Elt F) (M.view.loc (d : Thread nD τ))),
      (slotM M u hu).view.read (Elt F) f ((Shape.reshapeEquiv (Shape.Squeezes.numel_eq squeezes_S1x4x64x512_S4x64x512)).symm k)
        = M.view.readAt (Elt F) (winRect u hu zz.val zz.isLt).toLoadRect f j := by
    intro M d u hu f
    rw [View.readAt_rect]
    show _root_.cast _ (f (M.view.emb ((slotRect u hu).emb (Shape.reshapeEquiv _ (Equiv.symm _ k))))) = _root_.cast _ (f (M.view.emb ((winRect u hu zz.val zz.isLt).emb j)))
    congr 3
    rw [← hk u hu]; congr 1; exact Equiv.apply_symm_apply _ _
  rw [e1 M' n, e1 M c] at key
  exact key

/-- A transfer from one row of a plane buffer to another leaves there the halves it read. -/
theorem RowReads.transfer {M M' : PlaneM} {c n : Dev nD} {s t : ℕ} {hs : s < 4} {ht : t < 4} {YR YL : Vec F S1x64x512 .bf16}
    {f : Buf (Elt F) (M.view.loc (c : Thread nD τ))} {g : Buf (Elt F) (M'.view.loc (n : Thread nD τ))}
    (hY : RowReads M c s hs YR YL f) (h : (planeM M' t ht).view.read (Elt F) g = (planeM M s hs).view.read (Elt F) f) : RowReads M' n t ht YR YL g := by
  have main : ∀ (o : ℕ) (ho : o ≤ 512), M'.view.readAt (Elt F) (halfRect t ht o ho).toLoadRect g = M.view.readAt (Elt F) (halfRect s hs o ho).toLoadRect f := by
    intro o ho
    funext j
    have hj0 : (j 0).val < 1 := (j 0).isLt
    have hj2 : (j 2).val < 512 := (j 2).isLt
    have hk : ∃ k : S1x64x1024.Idx, ∀ (u : ℕ) (hu : u < 4), (planeRect u hu).emb k = (halfRect u hu o ho).emb j := by
      refine ⟨fun a => match a with
        | ⟨0, _⟩ => j 0
        | ⟨1, _⟩ => j 1
        | ⟨2, _⟩ => (⟨o + (j 2).val, by omega⟩ : Fin 1024), fun u hu => funext fun a => Fin.ext ?_⟩
      fin_cases a
      · show u + 1 * (j 0).val = u + 1 * (j 0).val; rfl
      · show 0 + 1 * (j 1).val = 0 + 1 * (j 1).val; rfl
      · show 0 + 1 * (o + (j 2).val) = o + 1 * (j 2).val; omega
    obtain ⟨k, hk⟩ := hk
    have key := congrFun h ((Shape.reshapeEquiv (Shape.Squeezes.numel_eq squeezes_S1x64x1024_S64x1024)).symm k)
    have e1 : ∀ (M : PlaneM) (d : Dev nD) (u : ℕ) (hu : u < 4) (f : Buf (Elt F) (M.view.loc (d : Thread nD τ))),
        (planeM M u hu).view.read (Elt F) f ((Shape.reshapeEquiv (Shape.Squeezes.numel_eq squeezes_S1x64x1024_S64x1024)).symm k)
          = M.view.readAt (Elt F) (halfRect u hu o ho).toLoadRect f j := by
      intro M d u hu f
      rw [View.readAt_rect]
      show _root_.cast _ (f (M.view.emb ((planeRect u hu).emb (Shape.reshapeEquiv _ (Equiv.symm _ k))))) = _root_.cast _ (f (M.view.emb ((halfRect u hu o ho).emb j)))
      congr 3
      rw [← hk u hu]; congr 1; exact Equiv.apply_symm_apply _ _
    rw [e1 M' n, e1 M c] at key
    exact key
  exact ⟨(main 0 (by decide)).trans hY.1, (main 512 (by decide)).trans hY.2⟩

/-! ## Cells -/

/-- DMA cell `i` of the kernel's forty. -/
def dm (i : ℕ) : SemLoc sig := .dma ⟨5 + i % 40, by show _ < 45; omega⟩
abbrev barS : Sem sig := (SemArray.scalar (sig.barrier 0 rfl) : Sems sig S_).sem
abbrev dcell (c : Dev nD) (i : ℕ) : GSem nD τ sig := ((c : Thread nD τ), dm i)
abbrev bcell (c : Dev nD) : GSem nD τ sig := ((c : Thread nD τ), .reg barS)

theorem inbSem8 (s : ℕ) (h : s < 8) : ∀ a : Fin 1, (![s] : Fin 1 → ℕ) a + S1.size a ≤ S8.size a := by
  intro a; fin_cases a; simp; omega
theorem inbSem4 (s : ℕ) (h : s < 4) : ∀ a : Fin 1, (![s] : Fin 1 → ℕ) a + S1.size a ≤ S4.size a := by
  intro a; fin_cases a; simp; omega
abbrev sem1 (A : DmaSems sig S8) (s : ℕ) (h : s < 8) : DmaSems sig S_ := (A.slice (Rect.unit (s := S8) ![s] S1.size (inbSem8 s h))).squeeze S_ squeezes_S1_S_
abbrev sem2 (A : DmaSems sig S4) (s : ℕ) (h : s < 4) : DmaSems sig S_ := (A.slice (Rect.unit (s := S4) ![s] S1.size (inbSem4 s h))).squeeze S_ squeezes_S1_S_

theorem sem_s1r (s : ℕ) (h : s < 8) : SemLoc.dma (sem1 cc0_scratch7 s h).sem = dm s := by revert s; decide +kernel
theorem sem_v1r (s : ℕ) (h : s < 8) : SemLoc.dma (sem1 cc0_scratch8 s h).sem = dm (8 + s) := by revert s; decide +kernel
theorem sem_s1l (s : ℕ) (h : s < 8) : SemLoc.dma (sem1 cc0_scratch9 s h).sem = dm (16 + s) := by revert s; decide +kernel
theorem sem_v1l (s : ℕ) (h : s < 8) : SemLoc.dma (sem1 cc0_scratch10 s h).sem = dm (24 + s) := by revert s; decide +kernel
theorem sem_s2 (s : ℕ) (h : s < 4) : SemLoc.dma (sem2 cc0_scratch11 s h).sem = dm (32 + s) := by revert s; decide +kernel
theorem sem_v2 (s : ℕ) (h : s < 4) : SemLoc.dma (sem2 cc0_scratch12 s h).sem = dm (36 + s) := by revert s; decide +kernel

theorem dm_inj {i j : ℕ} (hi : i < 40) (hj : j < 40) (h : dm i = dm j) : i = j := by
  unfold dm at h
  have := congrArg Fin.val (SemLoc.dma.inj h)
  simp only at this; omega

/-- Whether DMA cell `i` of device `c` is used: the last departure and the first arrival on each ring are not, nor
    the departure to and the arrival from a device's own plane. -/
def paid (c : Dev nD) (i : ℕ) : Bool :=
  !(i == 7 || i == 8 || i == 23 || i == 24 || i == 32 + (zOf c).val || i == 36 + (zOf c).val)

/-! ## The schedule -/

/-- What every transfer carries: device `c`'s step `s` on either ring, and the two halves device `c` sends to plane `i`. -/
structure Cont (F : FTy → Type) where
  r : ℕ → Dev nD → Fin 4 → Vec F S1x1x64x512 .bf16
  l : ℕ → Dev nD → Fin 4 → Vec F S1x1x64x512 .bf16
  zr : Dev nD → Fin 4 → Vec F S1x64x512 .bf16
  zl : Dev nD → Fin 4 → Vec F S1x64x512 .bf16

variable (C : Cont F)

/-- Slots `1 … 7` of a ring buffer. -/
def slots17 (M : CommM) (c : Dev nD) : sProp 𝕄 :=
  iprop(slotAny M c 1 (by decide) ∗ slotAny M c 2 (by decide) ∗ slotAny M c 3 (by decide) ∗ slotAny M c 4 (by decide)
    ∗ slotAny M c 5 (by decide) ∗ slotAny M c 6 (by decide) ∗ slotAny M c 7 (by decide))

/-- What duty `d` of the barrier cell of `y` hands over: the ring slots of a neighbour into which `y` sends, and the
    row of each other plane's device into which `y` sends. -/
def barPay (y : Dev nD) (d : Fin 5) : sProp 𝕄 := match d with
  | ⟨0, _⟩ => slots17 rM (nxt y)
  | ⟨1, _⟩ => slots17 lM (prv y)
  | ⟨2, _⟩ => rowAny v2M (pl (zOf y + 1) y) (zOf y).val (zOf y).isLt
  | ⟨3, _⟩ => rowAny v2M (pl (zOf y + 2) y) (zOf y).val (zOf y).isLt
  | ⟨_ + 4, _⟩ => rowAny v2M (pl (zOf y + 3) y) (zOf y).val (zOf y).isLt

/-- What the duty of DMA cell `i` of `y` hands over. -/
def dmaPay (y : Dev nD) (i : ℕ) : sProp 𝕄 :=
  if h : i < 8 then slotAny rM y i h
  else if h : i < 16 then slotIs rM y (i - 8) (by omega) (C.r (i - 9) (prv y))
  else if h : i < 24 then slotAny lM y (i - 16) (by omega)
  else if h : i < 32 then slotIs lM y (i - 24) (by omega) (C.l (i - 25) (nxt y))
  else if h : i < 36 then rowAny s2M y (i - 32) (by omega)
  else if h : i < 40 then rowIs v2M y (i - 36) (by omega) (C.zr (pl ⟨i - 36, by omega⟩ y) (zOf y)) (C.zl (pl ⟨i - 36, by omega⟩ y) (zOf y))
  else iprop(emp)

/-- One round per cell: the barrier cell has five duties of one unit, a used DMA cell one of its transfer's credit. -/
def rd : Rounds.Schedule (GSem nD τ sig) (Fin 5) 𝕄 where
  duties g r := match g.2 with
    | .reg s => if r = 0 ∧ g.1.2 = .tc ∧ s = barS then Finset.univ else ∅
    | .dma k => if r = 0 ∧ g.1.2 = .tc ∧ 5 ≤ k.val ∧ paid g.1.1 (k.val - 5) = true then {0} else ∅
  unitless _ := False
  amount g _ _ := match g.2 with
    | .reg _ => 1
    | .dma k => if k.val < 37 then N1 else N2
  payload g _ d := match g.2 with
    | .reg _ => barPay g.1.1 d
    | .dma k => dmaPay C g.1.1 (k.val - 5)
  amount_pos g _ _ _ := by
    rcases g with ⟨t, sm⟩
    cases sm
    · exact Nat.one_pos
    · dsimp only; split
      · exact N1_pos
      · exact N2_pos

omit [FloatOps F] in
instance slots17_storable (M c) : BI.Storable (upEmb : UEmb _ 𝕄) (slots17 (F := F) M c) := by unfold slots17; infer_instance

instance rd_storable (g : GSem nD τ sig) (r : ℕ) (d : Fin 5) : BI.Storable (upEmb : UEmb _ 𝕄) ((rd C).payload g r d) := by
  rcases g with ⟨t, sm⟩
  cases sm
  · show BI.Storable upEmb (barPay t.1 d)
    unfold barPay; split <;> infer_instance
  · show BI.Storable upEmb (dmaPay C t.1 _)
    unfold dmaPay; (repeat' split) <;> infer_instance

theorem duties_bar (c : Dev nD) : (rd C).duties (bcell c) 0 = Finset.univ := by dsimp only [rd]; exact if_pos ⟨rfl, rfl, rfl⟩
theorem duties_dma (c : Dev nD) {i : ℕ} (hi : i < 40) (hp : paid c i = true) : (rd C).duties (dcell c i) 0 = {0} :=
  if_pos ⟨rfl, rfl, by show 5 ≤ 5 + i % 40; omega, by show paid c (5 + i % 40 - 5) = true; rw [show 5 + i % 40 - 5 = i by omega]; exact hp⟩
theorem duties_idle (c : Dev nD) {i : ℕ} (hi : i < 40) (hp : paid c i = false) (r : ℕ) : (rd C).duties (dcell c i) r = ∅ :=
  if_neg fun h => by
    have h' : paid c (5 + i % 40 - 5) = true := h.2.2.2
    rw [show 5 + i % 40 - 5 = i by omega, hp] at h'; cases h'
theorem duties_later (g : GSem nD τ sig) : ∀ r, 1 ≤ r → (rd C).duties g r = ∅ := fun r hr => by
  rcases g with ⟨t, sm⟩
  cases sm
  · exact if_neg fun h => by omega
  · exact if_neg fun h => by omega
theorem amount_bar (c : Dev nD) (d : Fin 5) : (rd C).amount (bcell c) 0 d = 1 := rfl
theorem amount_1 (c : Dev nD) {i : ℕ} (hi : i < 32) (d : Fin 5) : (rd C).amount (dcell c i) 0 d = N1 := if_pos (by show 5 + i % 40 < 37; omega)
theorem amount_2 (c : Dev nD) {i : ℕ} (hi : 32 ≤ i) (hi' : i < 40) (d : Fin 5) : (rd C).amount (dcell c i) 0 d = N2 := if_neg (by show ¬ 5 + i % 40 < 37; omega)
theorem payload_bar (c : Dev nD) (d : Fin 5) : (rd C).payload (bcell c) 0 d = barPay c d := rfl
theorem payload_dma (c : Dev nD) {i : ℕ} (hi : i < 40) (d : Fin 5) : (rd C).payload (dcell c i) 0 d = dmaPay C c i := by
  show dmaPay C c (5 + i % 40 - 5) = _; rw [show 5 + i % 40 - 5 = i by omega]
theorem expect_bar (c : Dev nD) : (rd C).expect (bcell c) 0 = 5 := by
  unfold Schedule.expect Schedule.amountOf
  rw [duties_bar, Finset.sum_congr rfl fun d _ => amount_bar C c d, Finset.sum_const, Finset.card_univ, Fintype.card_fin, smul_eq_mul]
theorem expect_dma (c : Dev nD) {i : ℕ} (hi : i < 40) (hp : paid c i = true) {N : ℕ} (hN : (rd C).amount (dcell c i) 0 0 = N) : (rd C).expect (dcell c i) 0 = N := by
  unfold Schedule.expect Schedule.amountOf; rw [duties_dma C c hi hp, Finset.sum_singleton, hN]
theorem rest_bar (c : Dev nD) : bigSep ((rd C).duties (bcell c) 0 \ ∅) (fun d => (rd C).payload (bcell c) 0 d)
    = iprop(slots17 rM (nxt c) ∗ slots17 lM (prv c) ∗ rowAny v2M (pl (zOf c + 1) c) (zOf c).val (zOf c).isLt
        ∗ rowAny v2M (pl (zOf c + 2) c) (zOf c).val (zOf c).isLt ∗ rowAny v2M (pl (zOf c + 3) c) (zOf c).val (zOf c).isLt) := by
  rw [Finset.sdiff_empty, duties_bar, bigSep_univ_eq_bigSepL [0, 1, 2, 3, 4] (by decide) (by decide)]
  simp only [bigSepL_cons_cons, bigSepL_singleton]; rfl
theorem rest_dma (c : Dev nD) {i : ℕ} (hi : i < 40) (hp : paid c i = true) :
    bigSep ((rd C).duties (dcell c i) 0 \ ∅) (fun d => (rd C).payload (dcell c i) 0 d) = dmaPay C c i := by
  rw [Finset.sdiff_empty, duties_dma C c hi hp, bigSep_singleton, payload_dma C c hi]

/-! ## Levels -/

def L (g : GSem nD τ sig) : Finset Unit := if g.1.2 = .tc then {()} else ∅
/-- Departures and the pipeline's own cells at 0, barrier cells at 1, arrivals of step `t` at `t + 1`, arrivals from
    other planes at 20. -/
def lv (g : GSem nD τ sig) (_ : Unit) : ℕ := match g.2 with
  | .reg _ => 1
  | .dma k => if 13 ≤ k.val ∧ k.val < 21 then k.val - 12 else if 29 ≤ k.val ∧ k.val < 37 then k.val - 28 else if 41 ≤ k.val then 20 else 0

theorem L_of_ne (g : GSem nD τ sig) (h : g.1.2 ≠ .tc) : L g = ∅ := if_neg h
theorem L_tc (c : Dev nD) (sm : SemLoc sig) : L ((c : Thread nD τ), sm) = {()} := if_pos rfl

/-- Every tally of `O` is on a cell of level above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h1 | h1
  · exact h' g u (by rw [h1, Nat.zero_add] at hg; exact hg)
  · exact h g u h1
theorem Above.tally {n : ℕ} (c : Dev nD) (sm : SemLoc sig) (k : ℕ) (h : n < lv ((c : Thread nD τ), sm) ()) : Above n (tallyAt ((c : Thread nD τ), sm) () k) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)

omit [FloatOps F] in
/-- A wait on a cell of level `n` while owing only above `n`. -/
theorem mayWait_above (c : Dev nD) (sm : SemLoc sig) (n : ℕ) (hn : lv ((c : Thread nD τ), sm) () = n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hn.le)
    (fun g u hg => (hO g u hg).2)

/-- What `c` owes plane `i`: the arrival there of its row, unless it is its own plane. -/
def P2 (c : Dev nD) (i : Fin 4) : CellTallies nD τ sig Unit := if i = zOf c then 0 else tallyAt (dcell (pl i c) (36 + (zOf c).val)) () N2
def O2 (c : Dev nD) : CellTallies nD τ sig Unit := ((P2 c 3 + P2 c 2) + P2 c 1) + P2 c 0
/-- What `c` owes with `n` steps on the rings to go. -/
def Ohop (c : Dev nD) : ℕ → CellTallies nD τ sig Unit
  | 0 => O2 c
  | n + 1 => (Ohop c n + tallyAt (dcell (prv c) (24 + (7 - n))) () N1) + tallyAt (dcell (nxt c) (8 + (7 - n))) () N1
/-- What `c` owes at launch. -/
def O₀ (c : Dev nD) : CellTallies nD τ sig Unit :=
  ((((Ohop c 7 + tallyAt (bcell (pl (zOf c + 3) c)) () 1) + tallyAt (bcell (pl (zOf c + 2) c)) () 1) + tallyAt (bcell (pl (zOf c + 1) c)) () 1)
    + tallyAt (bcell (nxt c)) () 1) + tallyAt (bcell (prv c)) () 1

theorem Above.P2 (c : Dev nD) (i : Fin 4) {n : ℕ} (hn : n < 20) : Above n (P2 c i) := by
  unfold KProof.P2; split
  · exact Above.zero n
  · refine Above.tally _ _ _ ?_
    have hz := (zOf c).isLt
    show n < if 13 ≤ 5 + (36 + (zOf c).val) % 40 ∧ 5 + (36 + (zOf c).val) % 40 < 21 then _ else if 29 ≤ 5 + (36 + (zOf c).val) % 40 ∧ 5 + (36 + (zOf c).val) % 40 < 37 then _ else if 41 ≤ 5 + (36 + (zOf c).val) % 40 then 20 else 0
    rw [if_neg (by omega), if_neg (by omega), if_pos (by omega)]; exact hn
theorem Above.O2 (c : Dev nD) {n : ℕ} (hn : n < 20) : Above n (O2 c) :=
  (((Above.P2 c 3 hn).add (Above.P2 c 2 hn)).add (Above.P2 c 1 hn)).add (Above.P2 c 0 hn)
theorem lv_v1r (c : Dev nD) (t : ℕ) (ht : t < 8) : lv (dcell c (8 + t)) () = t + 1 := by
  show (if 13 ≤ 5 + (8 + t) % 40 ∧ 5 + (8 + t) % 40 < 21 then 5 + (8 + t) % 40 - 12 else _) = _
  rw [if_pos (by omega)]; omega
theorem lv_v1l (c : Dev nD) (t : ℕ) (ht : t < 8) : lv (dcell c (24 + t)) () = t + 1 := by
  show (if 13 ≤ 5 + (24 + t) % 40 ∧ 5 + (24 + t) % 40 < 21 then _ else if 29 ≤ 5 + (24 + t) % 40 ∧ 5 + (24 + t) % 40 < 37 then 5 + (24 + t) % 40 - 28 else _) = _
  rw [if_neg (by omega), if_pos (by omega)]; omega
theorem Above.Ohop (c : Dev nD) : ∀ (n k : ℕ), n ≤ 7 → k + n < 9 → Above k (Ohop c n)
  | 0, k, _, hk => Above.O2 c (by omega)
  | n + 1, k, hn, hk => ((Above.Ohop c n k (by omega) (by omega)).add (Above.tally _ _ _ (by rw [lv_v1l _ _ (by omega)]; omega))).add
      (Above.tally _ _ _ (by rw [lv_v1r _ _ (by omega)]; omega))

/-! ## Steps of the protocol -/

/-- The obligations of a device, whatever it has waited for. -/
def owesAny (c : Dev nD) (O : CellTallies nD τ sig Unit) : sProp 𝕄 := iprop(∃ W, owes (c : Thread nD τ) O W)

/-- All the cells' invariants, that every cell has reached its round, and the levels: what every device knows. -/
def records (K : Dev nD × Fin 41 → ℕ) : sProp 𝕄 :=
  iprop((bigSep Finset.univ fun p : Dev nD × Fin 40 => iprop(cellInv ER (rd C) (K (p.1, p.2.castSucc)) (dcell p.1 p.2.val) ∗ reached ER (dcell p.1 p.2.val) 0))
    ∗ (bigSep Finset.univ fun d : Dev nD => iprop(cellInv ER (rd C) (K (d, Fin.last 40)) (bcell d) ∗ reached ER (bcell d) 0)) ∗ levAts L lv)

instance records_persistent (K : Dev nD × Fin 41 → ℕ) : BI.Persistent (records C K) := by unfold records; infer_instance

theorem records_levs (K : Dev nD × Fin 41 → ℕ) : records C K ⊢ (levAts L lv : sProp 𝕄) := by
  unfold records; iintro ⟨-, -, H⟩; iexact H
theorem records_dma (K : Dev nD × Fin 41 → ℕ) (c : Dev nD) (i : ℕ) (hi : i < 40) :
    records C K ⊢ iprop(cellInv ER (rd C) (K (c, ⟨i, by omega⟩)) (dcell c i) ∗ reached ER (dcell c i) 0) := by
  have h : (bigSep Finset.univ fun p : Dev nD × Fin 40 => (iprop(cellInv ER (rd C) (K (p.1, p.2.castSucc)) (dcell p.1 p.2.val) ∗ reached ER (dcell p.1 p.2.val) 0) : sProp 𝕄))
      ⊢ iprop(cellInv ER (rd C) (K (c, ⟨i, by omega⟩)) (dcell c i) ∗ reached ER (dcell c i) 0) := bigSep_elim (Finset.mem_univ (c, (⟨i, hi⟩ : Fin 40)))
  unfold records
  iintro ⟨H, -, -⟩
  iapply h; iexact H
theorem records_bar (K : Dev nD × Fin 41 → ℕ) (c : Dev nD) :
    records C K ⊢ iprop(cellInv ER (rd C) (K (c, Fin.last 40)) (bcell c) ∗ reached ER (bcell c) 0) := by
  have h : (bigSep Finset.univ fun d : Dev nD => (iprop(cellInv ER (rd C) (K (d, Fin.last 40)) (bcell d) ∗ reached ER (bcell d) 0) : sProp 𝕄))
      ⊢ iprop(cellInv ER (rd C) (K (c, Fin.last 40)) (bcell c) ∗ reached ER (bcell c) 0) := bigSep_elim (Finset.mem_univ c)
  unfold records
  iintro ⟨-, H, -⟩
  iapply h; iexact H

abbrev 𝒱₀ : Variants := Variants.none

section Steps

variable (K : Dev nD × Fin 41 → ℕ)

/-- A signal to `n`'s barrier cell, handing over duty `d`. -/
theorem step_signal {α : Type} {Q : α → sProp 𝕄} (c n : Dev nD) (d : Fin 5) {k : PUnit → Prog (TpuEff nD τ sig (Elt F) Λ₀ .tc) α} (n' : Dev nD) (hn : n' = n)
    (w : ℤ) (hw : w = ((1 : ℕ) : ℤ)) (O : CellTallies nD τ sig Unit) :
    iprop(records C K ∗ owesAny c (O + tallyAt (bcell n) () 1) ∗ dutyTok ER (bcell n) 0 d ∗ barPay n d)
      ⊢ iprop((owesAny c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n') barS w) k) Q) := by
  subst hn; subst hw
  iintro ⟨#HR, Ho, Ht, Hp⟩ Hk
  unfold owesAny
  icases Ho with ⟨%W, HO⟩
  ihave #HI := (records_bar C K n') $$ HR
  icases HI with ⟨#HI, #Hr⟩
  iapply (Rounds.wp_signal 𝒱₀ ER (rd C) (c : Thread nD τ) none (dst := (n' : Thread nD τ)) (κ := K (n', Fin.last 40))
      (d := d) (by rw [duties_bar]; exact Finset.mem_univ _) (amount_bar C n' d) () O rfl) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The wait for the five units of its own barrier cell. -/
theorem step_barrier {α : Type} {Q : α → sProp 𝕄} (c : Dev nD) {k : PUnit → Prog (TpuEff nD τ sig (Elt F) Λ₀ .tc) α} (w : ℤ) (hw : w = ((5 : ℕ) : ℤ)) (O : CellTallies nD τ sig Unit) (hO : Above 1 O) :
    iprop(records C K ∗ cred (tallyAt (bcell c) () 5) ∗ owesAny c O ∗ atPos ER (bcell c) 0 ∅ 0)
      ⊢ iprop(((owesAny c O ∗ semVal (bcell c) 0 ∗ slots17 rM (nxt c) ∗ slots17 lM (prv c) ∗ rowAny v2M (pl (zOf c + 1) c) (zOf c).val (zOf c).isLt
        ∗ rowAny v2M (pl (zOf c + 2) c) (zOf c).val (zOf c).isLt ∗ rowAny v2M (pl (zOf c + 3) c) (zOf c).val (zOf c).isLt)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w) k) Q) := by
  subst hw
  iintro ⟨#HR, Hc, Ho, Hat⟩ Hk
  unfold owesAny
  icases Ho with ⟨%W, HO⟩
  ihave #HI := (records_bar C K c) $$ HR
  icases HI with ⟨#HI, #Hr⟩
  ihave #Hlev := (records_levs C K) $$ HR
  iapply (Rounds.wp_wait_rest_token 𝒱₀ ER (rd C) (c : Thread nD τ) none (κ := K (c, Fin.last 40))
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply (mayWait_above c _ 1 rfl hO); iexact Hlev
    iexact Hat
  iintro ⟨HO, Hat, -, Hpay⟩
  ihave Hp := (Entails.of_eq (rest_bar C c)) $$ Hpay
  imod (Rounds.cell_close ER (rd C) (Set.mem_univ (K (c, Fin.last 40))) (fun h => h) (R := 0 + 1) (duties_later C (bcell c))) $$ [Hat] with Hz
  · isplitr; · iexact HI
    iexact Hat
  iapply Hk
  isplitl [HO]; · iexists _; iexact HO
  isplitl [Hz]; · iexact Hz
  iexact Hp

/-- The wait on a used DMA cell of its own. -/
theorem step_wait {α : Type} {Q : α → sProp 𝕄} (c : Dev nD) {i : ℕ} (hi : i < 40) (hp : paid c i = true) {N : ℕ} (hN : (rd C).amount (dcell c i) 0 0 = N)
    {sem : DmaSem sig} (hsem : SemLoc.dma sem = dm i) {sp sp' : Space} {s s' : Shape} {e e' : EltTy}
    {src : Memref sig .tc sp' s' e'} {κ' : Kind} {dst : Memref sig κ' sp s e} {hsrc : src.view.WordExact} {hdst : dst.view.WordExact}
    (hc : dst.view.dmaCredit = N)
    {k : PUnit → Prog (TpuEff nD τ sig (Elt F) Λ₀ .tc) α} (O : CellTallies nD τ sig Unit) (n : ℕ) (hn : lv (dcell c i) () = n) (hO : Above n O) :
    iprop(records C K ∗ cred (tallyAt (dcell c i) () N) ∗ owesAny c O ∗ atPos ER (dcell c i) 0 ∅ 0)
      ⊢ iprop(((owesAny c O ∗ semVal (dcell c i) 0 ∗ dmaPay C c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  iintro ⟨#HR, Hc, Ho, Hat⟩ Hk
  unfold owesAny
  icases Ho with ⟨%W, HO⟩
  ihave #HI := (records_dma C K c i hi) $$ HR
  icases HI with ⟨#HI, #Hr⟩
  ihave #Hlev := (records_levs C K) $$ HR
  rw [show (dcell c i) = ((c : Thread nD τ), SemLoc.dma sem) from by rw [hsem]]
  iapply (Rounds.wp_wait_rest_token 𝒱₀ ER (rd C) (c : Thread nD τ) none (κ := K (c, ⟨i, by omega⟩))
      (wpE_waitDma2_eq 𝒱₀ (c : Thread nD τ) none Set.univ) (Set.mem_univ _) () (O := O) (W := W) (R := 0) (m := 0) (T := ∅)
      (by rw [hsem, expect_dma C c hi hp hN, hc, Nat.zero_add])) $$ [Hc HO Hat]
  · isplitr; · iexact HI
    isplitl [Hc]; · rw [hc]; iexact Hc
    isplitl [HO]; · iexact HO
    isplitr; · iapply (mayWait_above c _ n (by rw [hsem]; exact hn) hO); iexact Hlev
    iexact Hat
  iintro ⟨HO, Hat, -, Hpay⟩
  rw [hsem]
  ihave Hp := (Entails.of_eq (rest_dma C c hi hp)) $$ Hpay
  imod (Rounds.cell_close ER (rd C) (Set.mem_univ (K (c, ⟨i, by omega⟩))) (fun h => h) (R := 0 + 1) (duties_later C (dcell c i))) $$ [Hat] with Hz
  · isplitr; · iexact HI
    iexact Hat
  iapply Hk
  isplitl [HO]; · iexists _; iexact HO
  isplitl [Hz]; · iexact Hz
  iexact Hp

/-- An unused DMA cell of its own is closed. -/
theorem step_idle (c : Dev nD) {i : ℕ} (hi : i < 40) (hp : paid c i = false) :
    iprop(records C K ∗ atPos ER (dcell c i) 0 ∅ 0) ⊢ (|={Set.univ}=> semVal (dcell c i) 0 : sProp 𝕄) := by
  iintro ⟨#HR, Hat⟩
  ihave #HI := (records_dma C K c i hi) $$ HR
  icases HI with ⟨#HI, #Hr⟩
  iapply (Rounds.cell_close ER (rd C) (Set.mem_univ (K (c, ⟨i, by omega⟩))) (fun h => h) (R := 0) (fun r _ => duties_idle C c hi hp r))
  isplitr; · iexact HI
  iexact Hat

/-- One transfer on a ring: device `c` sends slot `s` of `M` into slot `t` of `n`'s, paying cell `iS` of its own and
    cell `iV` of `n`'s. -/
theorem step_send {α : Type} {Q : α → sProp 𝕄} (M : CommM) (c n : Dev nD) {iS iV s t : ℕ} (hs : s < 8) (ht : t < 8) (hiS : iS < 32) (hiV : iV < 32) (hpS : paid c iS = true) (hpV : paid n iV = true)
    (Y : Fin 4 → Vec F S1x1x64x512 .bf16) (hS : slotAny M c s hs ⊢ dmaPay C c iS) (hV : slotIs M n t ht Y ⊢ dmaPay C n iV)
    (hN : (slotM M t ht).view.dmaCredit = N1)
    {sS sem : DmaSem sig} (hsS : SemLoc.dma sS = dm iS) (hsem : SemLoc.dma sem = dm iV) (n' : Dev nD) (hn : n' = n)
    {hsc : (slotM M t ht : Memref sig (Dev.tc n' : Thread nD τ).2.kind .vmem S4x64x512 .bf16).view.ref.isScScratch = false} {hsrc : (slotM M s hs).view.WordExact} {hdst : (slotM M t ht).view.WordExact}
    {hty : DmaTarget.Typed .vmem (.dma sem) (.remote (Dev.tc n' : Thread nD τ) (slotM M t ht) (.dma sS) hsc)}
    {k : PUnit → Prog (TpuEff nD τ sig (Elt F) Λ₀ .tc) α} (O : CellTallies nD τ sig Unit) :
    iprop(records C K ∗ slotIs M c s hs Y ∗ slotAny M n t ht ∗ owesAny c (O + tallyAt (dcell n iV) () N1)
        ∗ dutyTok ER (dcell c iS) 0 0 ∗ dutyTok ER (dcell n iV) 0 0)
      ⊢ iprop(((cred (tallyAt (dcell c iS) () N1) ∗ owesAny c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM M s hs) (.remote (Dev.tc n' : Thread nD τ) (slotM M t ht) (.dma sS) hsc) (.dma sem) hsrc hdst hty) k) Q) := by
  subst hn
  iintro ⟨#HR, Hsrc, Hdst, Ho, HtS, HtV⟩ Hk
  unfold owesAny
  icases Ho with ⟨%W, HO⟩
  ihave #HI := (records_dma C K c iS (by omega)) $$ HR
  icases HI with ⟨#HIS, #HrS⟩
  ihave #HI := (records_dma C K n' iV (by omega)) $$ HR
  icases HI with ⟨#HIV, #HrV⟩
  unfold slotIs slotAny at *
  icases Hsrc with ⟨%fs, %hY, Hsrc⟩
  icases Hdst with ⟨%fd, Hdst⟩
  have eS : (dcell c iS) = ((c : Thread nD τ), SemLoc.dma sS) := by rw [hsS]
  have eV : (dcell n' iV) = ((n' : Thread nD τ), SemLoc.dma sem) := by rw [hsem]
  rw [eS, eV]
  unfold slotPts at *
  rw [← slotM_set, ← slotM_set]
  have h₁ : ((slotM M s hs).view.loc (c : Thread nD τ) ↦[(slotM M s hs).view.set]{fullShare} fs) ⊢ (rd C).payload ((c : Thread nD τ), SemLoc.dma sS) 0 0 := by
    rw [← eS, payload_dma C c (by omega), slotM_set]; iintro H; iapply hS; iexists fs; iexact H
  have h₂ : ((slotM M t ht).view.loc (n' : Thread nD τ) ↦[(slotM M t ht).view.set]{fullShare} ((slotM M t ht).view.write (Elt F) fd ((slotM M s hs).view.read (Elt F) fs) Finset.univ))
      ⊢ (rd C).payload ((n' : Thread nD τ), SemLoc.dma sem) 0 0 := by
    rw [← eV, payload_dma C n' (by omega), slotM_set]; iintro H; iapply hV; iexists _; isplitr; swap; · iexact H
    ipureintro; exact hY.transfer (View.read_write_univ _ _)
  iapply (Rounds.wp_send_pointsTo 𝒱₀ ER (rd C) (c : Thread nD τ) none (κ₁ := K (c, ⟨iS, by omega⟩)) (κ₂ := K (n', ⟨iV, by omega⟩))
    (r₁ := 0) (r₂ := 0) (d₁ := 0) (d₂ := 0) (fs := fs) (fd := fd) (c' := (Dev.tc n' : Thread nD τ)) (src := slotM M s hs) (dst := slotM M t ht) (q := fullShare) (sem := SemLoc.dma sem)
    (by rw [← eS, duties_dma C c (by omega) hpS]; exact Finset.mem_singleton_self _) (by rw [← eV, duties_dma C n' (by omega) hpV]; exact Finset.mem_singleton_self _)
    () () N1 hN (by rw [← eS]; exact amount_1 C c hiS 0) (by rw [← eV]; exact amount_1 C n' hiV 0) O rfl (W := W)
    h₁ h₂) $$ [Hsrc Hdst HO HtS HtV]
  · isplitr; · iexact HIS
    isplitr; · iexact HIV
    isplitl [Hsrc]; · iexact Hsrc
    isplitl [Hdst]; · iexact Hdst
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists W; iexact HO

end Steps

end Cert.KProof
end
-- ==== Proof.Steps.lean ====
module

public import proofs.«01_k».proof.Proof.Proto

/-!
# The steps of the protocol as the program takes them

A transfer on either ring, the waits after it, and the transfers and waits between planes: each a rule for the one
operation, with the schedule's tables read off.
-/

@[expose] public section

set_option maxRecDepth 16384

noncomputable section

namespace Cert.KProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (C : Cont F) (K : Dev nD × Fin 41 → ℕ)

/-! ### One step on the rings -/

/-- What `c` owes before step `s`. -/
def Oat (c : Dev nD) (s : ℕ) : CellTallies nD τ sig Unit := Ohop c (7 - s)
/-- What `c` owes between the two transfers of step `s`. -/
def Omid (c : Dev nD) (s : ℕ) : CellTallies nD τ sig Unit := Oat c (s + 1) + tallyAt (dcell (prv c) (24 + (s + 1))) () N1

theorem Oat_step (c : Dev nD) (s : ℕ) (hs : s < 7) : Oat c s = Omid c s + tallyAt (dcell (nxt c) (8 + (s + 1))) () N1 := by
  unfold Omid Oat
  obtain ⟨n, hn⟩ : ∃ n, n = 6 - s := ⟨_, rfl⟩
  have e1 : 7 - s = n + 1 := by omega
  have e2 : 7 - (s + 1) = n := by omega
  have e3 : 7 - n = s + 1 := by omega
  rw [e1, e2]
  show (Ohop c n + tallyAt (dcell (prv c) (24 + (7 - n))) () N1) + tallyAt (dcell (nxt c) (8 + (7 - n))) () N1 = _
  rw [e3]
theorem Above.Oat (c : Dev nD) (s k : ℕ) (h : k + 7 < 9 + s) (hk : k < 9) : Above k (Oat c s) := Above.Ohop c _ _ (by omega) (by omega)

theorem paid_iff (c : Dev nD) (i : ℕ) (h : i ≠ 7 ∧ i ≠ 8 ∧ i ≠ 23 ∧ i ≠ 24 ∧ i ≠ 32 + (zOf c).val ∧ i ≠ 36 + (zOf c).val) : paid c i = true := by
  unfold paid; simp [h.1, h.2.1, h.2.2.1, h.2.2.2.1, h.2.2.2.2.1, h.2.2.2.2.2]
theorem not_paid (c : Dev nD) (i : ℕ) (h : i = 7 ∨ i = 8 ∨ i = 23 ∨ i = 24 ∨ i = 32 + (zOf c).val ∨ i = 36 + (zOf c).val) : paid c i = false := by
  unfold paid; rcases h with h | h | h | h | h | h <;> simp [h]

theorem pay_s1r (c : Dev nD) (s : ℕ) (h : s < 8) : dmaPay C c s = slotAny rM c s h := by unfold dmaPay; rw [dif_pos h]
theorem pay_s1l (c : Dev nD) (s : ℕ) (h : s < 8) : dmaPay C c (16 + s) = slotAny lM c s h := by
  unfold dmaPay; rw [dif_neg (by omega), dif_neg (by omega), dif_pos (by omega)]
  have : ∀ a (ha : a < 8), a = s → (slotAny lM c a ha : sProp 𝕄) = slotAny lM c s h := by rintro _ _ rfl; rfl
  exact this _ _ (by omega)
theorem pay_v1r (c : Dev nD) (s : ℕ) (h : s < 7) : dmaPay C c (8 + (s + 1)) = slotIs rM c (s + 1) (by omega) (C.r s (prv c)) := by
  unfold dmaPay; rw [dif_neg (by omega), dif_pos (by omega)]
  have : ∀ a b (ha : a < 8), a = s + 1 → b = s → (slotIs rM c a ha (C.r b (prv c)) : sProp 𝕄) = slotIs rM c (s + 1) (by omega) (C.r s (prv c)) := by rintro _ _ _ rfl rfl; rfl
  exact this _ _ _ (by omega) (by omega)
theorem pay_v1l (c : Dev nD) (s : ℕ) (h : s < 7) : dmaPay C c (24 + (s + 1)) = slotIs lM c (s + 1) (by omega) (C.l s (nxt c)) := by
  unfold dmaPay; rw [dif_neg (by omega), dif_neg (by omega), dif_neg (by omega), dif_pos (by omega)]
  have : ∀ a b (ha : a < 8), a = s + 1 → b = s → (slotIs lM c a ha (C.l b (nxt c)) : sProp 𝕄) = slotIs lM c (s + 1) (by omega) (C.l s (nxt c)) := by rintro _ _ _ rfl rfl; rfl
  exact this _ _ _ (by omega) (by omega)
theorem pay_s2 (c : Dev nD) (i : ℕ) (h : i < 4) : dmaPay C c (32 + i) = rowAny s2M c i h := by
  unfold dmaPay; rw [dif_neg (by omega), dif_neg (by omega), dif_neg (by omega), dif_neg (by omega), dif_pos (by omega)]
  have : ∀ a (ha : a < 4), a = i → (rowAny s2M c a ha : sProp 𝕄) = rowAny s2M c i h := by rintro _ _ rfl; rfl
  exact this _ _ (by omega)
theorem pay_v2 (c : Dev nD) (i : ℕ) (h : i < 4) :
    dmaPay C c (36 + i) = rowIs v2M c i h (C.zr (pl ⟨i, h⟩ c) (zOf c)) (C.zl (pl ⟨i, h⟩ c) (zOf c)) := by
  unfold dmaPay
  rw [dif_neg (by omega), dif_neg (by omega), dif_neg (by omega), dif_neg (by omega), dif_neg (by omega), dif_pos (by omega)]
  have : ∀ a (ha : a < 4), a = i → (rowIs v2M c a ha (C.zr (pl ⟨a, ha⟩ c) (zOf c)) (C.zl (pl ⟨a, ha⟩ c) (zOf c)) : sProp 𝕄)
      = rowIs v2M c i h (C.zr (pl ⟨i, h⟩ c) (zOf c)) (C.zl (pl ⟨i, h⟩ c) (zOf c)) := by rintro _ _ rfl; rfl
  exact this _ _ (by omega)

/-- Step `s`'s transfer to the right. -/
theorem hop_send_r {α : Type} {Q : α → sProp 𝕄} (c : Dev nD) (s t : ℕ) (hs : s < 7) (ht : t = s + 1) (n' : Dev nD) (hn : n' = nxt c)
    {hsc : (slotM rM t (by omega) : Memref sig (Dev.tc n' : Thread nD τ).2.kind .vmem S4x64x512 .bf16).view.ref.isScScratch = false} {hsrc : (slotM rM s (by omega)).view.WordExact} {hdst : (slotM rM t (by omega)).view.WordExact}
    {hty : DmaTarget.Typed .vmem (.dma (sem1 cc0_scratch8 t (by omega)).sem) (.remote (Dev.tc n' : Thread nD τ) (slotM rM t (by omega)) (.dma (sem1 cc0_scratch7 s (by omega)).sem) hsc)}
    {k : PUnit → Prog (TpuEff nD τ sig (Elt F) Λ₀ .tc) α} :
    iprop(records C K ∗ slotIs rM c s (by omega) (C.r s c) ∗ slotAny rM (nxt c) (s + 1) (by omega) ∗ owesAny c (Oat c s)
        ∗ dutyTok ER (dcell c s) 0 0 ∗ dutyTok ER (dcell (nxt c) (8 + (s + 1))) 0 0)
      ⊢ iprop(((cred (tallyAt (dcell c s) () N1) ∗ owesAny c (Omid c s)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM rM s (by omega)) (.remote (Dev.tc n' : Thread nD τ) (slotM rM t (by omega)) (.dma (sem1 cc0_scratch7 s (by omega)).sem) hsc)
                (.dma (sem1 cc0_scratch8 t (by omega)).sem) hsrc hdst hty) k) Q) := by
  subst ht
  rw [Oat_step c s hs]
  have z1 := (zOf c).isLt
  have z2 := (zOf (nxt c)).isLt
  exact step_send (iS := s) (iV := 8 + (s + 1)) (s := s) (t := s + 1) C K rM c (nxt c) (by omega) (by omega) (by omega) (by omega) (paid_iff _ _ (by omega)) (paid_iff _ _ (by omega)) (C.r s c)
    (by rw [pay_s1r C c s (by omega)]) (by rw [pay_v1r C _ s hs, prv_nxt]) rfl (sem_s1r s (by omega)) (sem_v1r (s + 1) (by omega)) n' hn (Omid c s)

/-- Step `s`'s transfer to the left. -/
theorem hop_send_l {α : Type} {Q : α → sProp 𝕄} (c : Dev nD) (s t : ℕ) (hs : s < 7) (ht : t = s + 1) (n' : Dev nD) (hn : n' = prv c)
    {hsc : (slotM lM t (by omega) : Memref sig (Dev.tc n' : Thread nD τ).2.kind .vmem S4x64x512 .bf16).view.ref.isScScratch = false} {hsrc : (slotM lM s (by omega)).view.WordExact} {hdst : (slotM lM t (by omega)).view.WordExact}
    {hty : DmaTarget.Typed .vmem (.dma (sem1 cc0_scratch10 t (by omega)).sem) (.remote (Dev.tc n' : Thread nD τ) (slotM lM t (by omega)) (.dma (sem1 cc0_scratch9 s (by omega)).sem) hsc)}
    {k : PUnit → Prog (TpuEff nD τ sig (Elt F) Λ₀ .tc) α} :
    iprop(records C K ∗ slotIs lM c s (by omega) (C.l s c) ∗ slotAny lM (prv c) (s + 1) (by omega) ∗ owesAny c (Omid c s)
        ∗ dutyTok ER (dcell c (16 + s)) 0 0 ∗ dutyTok ER (dcell (prv c) (24 + (s + 1))) 0 0)
      ⊢ iprop(((cred (tallyAt (dcell c (16 + s)) () N1) ∗ owesAny c (Oat c (s + 1))) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM lM s (by omega)) (.remote (Dev.tc n' : Thread nD τ) (slotM lM t (by omega)) (.dma (sem1 cc0_scratch9 s (by omega)).sem) hsc)
                (.dma (sem1 cc0_scratch10 t (by omega)).sem) hsrc hdst hty) k) Q) := by
  subst ht
  have z1 := (zOf c).isLt
  have z2 := (zOf (prv c)).isLt
  unfold Omid
  exact step_send (iS := 16 + s) (iV := 24 + (s + 1)) (s := s) (t := s + 1) C K lM c (prv c) (by omega) (by omega) (by omega) (by omega) (paid_iff _ _ (by omega)) (paid_iff _ _ (by omega)) (C.l s c)
    (by rw [pay_s1l C c s (by omega)]) (by rw [pay_v1l C _ s hs, nxt_prv]) rfl (sem_s1l s (by omega)) (sem_v1l (s + 1) (by omega)) n' hn (Oat c (s + 1))

/-- The wait on an own ring cell `i` after step `s`'s transfers. -/
theorem hop_wait {α : Type} {Q : α → sProp 𝕄} (c : Dev nD) (s i : ℕ) (hs : s < 7) (hi : i < 32) (hi' : i ≠ 7 ∧ i ≠ 8 ∧ i ≠ 23 ∧ i ≠ 24)
    {A : DmaSems sig S8} {t : ℕ} {ht : t < 8} (hsem : SemLoc.dma (sem1 A t ht).sem = dm i) (hl : lv (dcell c i) () ≤ s + 2) (P : sProp 𝕄) (hP : dmaPay C c i = P)
    {M : CommM} {a b : ℕ} {ha : a < 8} {hb : b < 8} {hsrc : (slotM M a ha).view.WordExact} {hdst : (slotM M b hb).view.WordExact} (hc : (slotM M b hb).view.dmaCredit = N1)
    {k : PUnit → Prog (TpuEff nD τ sig (Elt F) Λ₀ .tc) α} :
    iprop(records C K ∗ cred (tallyAt (dcell c i) () N1) ∗ owesAny c (Oat c (s + 1)) ∗ atPos ER (dcell c i) 0 ∅ 0)
      ⊢ iprop(((owesAny c (Oat c (s + 1)) ∗ semVal (dcell c i) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem1 A t ht).sem (slotM M a ha) (slotM M b hb) hsrc hdst) k) Q) := by
  subst hP
  have z1 := (zOf c).isLt
  exact step_wait C K c (by omega) (paid_iff _ _ (by omega)) (amount_1 C c hi 0) hsem hc (Oat c (s + 1)) _ rfl (Above.Oat c (s + 1) _ (by omega) (by omega))

theorem lv_s1 (c : Dev nD) (i : ℕ) (hi : i < 8 ∨ (16 ≤ i ∧ i < 24) ∨ (32 ≤ i ∧ i < 36)) : lv (dcell c i) () = 0 := by
  show (if 13 ≤ 5 + i % 40 ∧ 5 + i % 40 < 21 then _ else if 29 ≤ 5 + i % 40 ∧ 5 + i % 40 < 37 then _ else if 41 ≤ 5 + i % 40 then _ else _) = _
  rw [if_neg (by omega), if_neg (by omega), if_neg (by omega)]

theorem hop_wait_sr {α : Type} {Q : α → sProp 𝕄} (c : Dev nD) (s : ℕ) (hs : s < 7)
    {a b : ℕ} {ha : a < 8} {hb : b < 8} {hsrc : (slotM rM a ha).view.WordExact} {hdst : (slotM rM b hb).view.WordExact}
    {k : PUnit → Prog (TpuEff nD τ sig (Elt F) Λ₀ .tc) α} :
    iprop(records C K ∗ cred (tallyAt (dcell c s) () N1) ∗ owesAny c (Oat c (s + 1)) ∗ atPos ER (dcell c s) 0 ∅ 0)
      ⊢ iprop(((owesAny c (Oat c (s + 1)) ∗ semVal (dcell c s) 0 ∗ slotAny rM c s (by omega))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem1 cc0_scratch7 s (by omega)).sem (slotM rM a ha) (slotM rM b hb) hsrc hdst) k) Q) :=
  hop_wait (a := a) (b := b) (ha := ha) (hb := hb) (hsrc := hsrc) (hdst := hdst) (k := k) (M := rM) C K c s s hs (by omega) (by omega) (sem_s1r s (by omega)) (by rw [lv_s1 c s (by omega)]; omega) _ (pay_s1r C c s (by omega)) rfl
theorem hop_wait_sl {α : Type} {Q : α → sProp 𝕄} (c : Dev nD) (s : ℕ) (hs : s < 7)
    {a b : ℕ} {ha : a < 8} {hb : b < 8} {hsrc : (slotM lM a ha).view.WordExact} {hdst : (slotM lM b hb).view.WordExact}
    {k : PUnit → Prog (TpuEff nD τ sig (Elt F) Λ₀ .tc) α} :
    iprop(records C K ∗ cred (tallyAt (dcell c (16 + s)) () N1) ∗ owesAny c (Oat c (s + 1)) ∗ atPos ER (dcell c (16 + s)) 0 ∅ 0)
      ⊢ iprop(((owesAny c (Oat c (s + 1)) ∗ semVal (dcell c (16 + s)) 0 ∗ slotAny lM c s (by omega))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem1 cc0_scratch9 s (by omega)).sem (slotM lM a ha) (slotM lM b hb) hsrc hdst) k) Q) :=
  hop_wait (a := a) (b := b) (ha := ha) (hb := hb) (hsrc := hsrc) (hdst := hdst) (k := k) (M := lM) C K c s (16 + s) hs (by omega) (by omega) (sem_s1l s (by omega)) (by rw [lv_s1 c (16 + s) (by omega)]; omega) _ (pay_s1l C c s (by omega)) rfl
theorem hop_wait_vr {α : Type} {Q : α → sProp 𝕄} (c : Dev nD) (s t : ℕ) (hs : s < 7) (ht : t = s + 1)
    {a b : ℕ} {ha : a < 8} {hb : b < 8} {hsrc : (slotM rM a ha).view.WordExact} {hdst : (slotM rM b hb).view.WordExact}
    {k : PUnit → Prog (TpuEff nD τ sig (Elt F) Λ₀ .tc) α} :
    iprop(records C K ∗ cred (tallyAt (dcell c (8 + (s + 1))) () N1) ∗ owesAny c (Oat c (s + 1)) ∗ atPos ER (dcell c (8 + (s + 1))) 0 ∅ 0)
      ⊢ iprop(((owesAny c (Oat c (s + 1)) ∗ semVal (dcell c (8 + (s + 1))) 0 ∗ slotIs rM c t (by omega) (C.r s (prv c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem1 cc0_scratch8 t (by omega)).sem (slotM rM a ha) (slotM rM b hb) hsrc hdst) k) Q) := by
  subst ht
  exact hop_wait (a := a) (b := b) (ha := ha) (hb := hb) (hsrc := hsrc) (hdst := hdst) (k := k) (M := rM) C K c s (8 + (s + 1)) hs (by omega) (by omega) (sem_v1r (s + 1) (by omega)) (by rw [lv_v1r c (s + 1) (by omega)]) _ (pay_v1r C c s (by omega)) rfl
theorem hop_wait_vl {α : Type} {Q : α → sProp 𝕄} (c : Dev nD) (s t : ℕ) (hs : s < 7) (ht : t = s + 1)
    {a b : ℕ} {ha : a < 8} {hb : b < 8} {hsrc : (slotM lM a ha).view.WordExact} {hdst : (slotM lM b hb).view.WordExact}
    {k : PUnit → Prog (TpuEff nD τ sig (Elt F) Λ₀ .tc) α} :
    iprop(records C K ∗ cred (tallyAt (dcell c (24 + (s + 1))) () N1) ∗ owesAny c (Oat c (s + 1)) ∗ atPos ER (dcell c (24 + (s + 1))) 0 ∅ 0)
      ⊢ iprop(((owesAny c (Oat c (s + 1)) ∗ semVal (dcell c (24 + (s + 1))) 0 ∗ slotIs lM c t (by omega) (C.l s (nxt c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem1 cc0_scratch10 t (by omega)).sem (slotM lM a ha) (slotM lM b hb) hsrc hdst) k) Q) := by
  subst ht
  exact hop_wait (a := a) (b := b) (ha := ha) (hb := hb) (hsrc := hsrc) (hdst := hdst) (k := k) (M := lM) C K c s (24 + (s + 1)) hs (by omega) (by omega) (sem_v1l (s + 1) (by omega)) (by rw [lv_v1l c (s + 1) (by omega)]) _ (pay_v1l C c s (by omega)) rfl

/-! ### Between planes -/

/-- The transfer to plane `i`. -/
theorem step_send2 {α : Type} {Q : α → sProp 𝕄} (c : Dev nD) (i : ℕ) (hi : i < 4) (hz : (⟨i, hi⟩ : Fin 4) ≠ zOf c)
    {off : Fin 3 → ℕ} {off' : Fin 1 → ℕ} (hoff : off = ![(zOf c).val, 0, 0]) (hoff' : off' = ![(zOf c).val]) {inb : ∀ a : Fin 3, off a + S1x64x1024.size a ≤ S4x64x1024.size a}
    {inb' : ∀ a : Fin 1, off' a + S1.size a ≤ S4.size a} (n' : Dev nD) (hn : n' = pl ⟨i, hi⟩ c)
    {hsc : ((v2M.slice (Rect.unit (s := S4x64x1024) off S1x64x1024.size inb) (fun _ => rfl)).squeeze S64x1024 squeezes_S1x64x1024_S64x1024 : Memref sig (Dev.tc n' : Thread nD τ).2.kind .vmem S64x1024 .bf16).view.ref.isScScratch = false}
    {hsrc : (planeM s2M i hi).view.WordExact} {hdst : ((v2M.slice (Rect.unit (s := S4x64x1024) off S1x64x1024.size inb) (fun _ => rfl)).squeeze S64x1024 squeezes_S1x64x1024_S64x1024).view.WordExact}
    {hty : DmaTarget.Typed .vmem (.dma ((cc0_scratch12.slice (Rect.unit (s := S4) off' S1.size inb')).squeeze S_ squeezes_S1_S_).sem)
      (.remote (Dev.tc n' : Thread nD τ) ((v2M.slice (Rect.unit (s := S4x64x1024) off S1x64x1024.size inb) (fun _ => rfl)).squeeze S64x1024 squeezes_S1x64x1024_S64x1024) (.dma (sem2 cc0_scratch11 i hi).sem) hsc)}
    {k : PUnit → Prog (TpuEff nD τ sig (Elt F) Λ₀ .tc) α} (O : CellTallies nD τ sig Unit) :
    iprop(records C K ∗ rowIs s2M c i hi (C.zr c ⟨i, hi⟩) (C.zl c ⟨i, hi⟩) ∗ rowAny v2M (pl ⟨i, hi⟩ c) (zOf c).val (zOf c).isLt ∗ owesAny c (O + P2 c ⟨i, hi⟩)
        ∗ dutyTok ER (dcell c (32 + i)) 0 0 ∗ dutyTok ER (dcell (pl ⟨i, hi⟩ c) (36 + (zOf c).val)) 0 0)
      ⊢ iprop(((cred (tallyAt (dcell c (32 + i)) () N2) ∗ owesAny c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (planeM s2M i hi) (.remote (Dev.tc n' : Thread nD τ) ((v2M.slice (Rect.unit (s := S4x64x1024) off S1x64x1024.size inb) (fun _ => rfl)).squeeze S64x1024 squeezes_S1x64x1024_S64x1024) (.dma (sem2 cc0_scratch11 i hi).sem) hsc)
                (.dma ((cc0_scratch12.slice (Rect.unit (s := S4) off' S1.size inb')).squeeze S_ squeezes_S1_S_).sem) hsrc hdst hty) k) Q) := by
  subst hn; subst hoff; subst hoff'
  have z1 := (zOf c).isLt
  have hz' : i ≠ (zOf c).val := fun h => hz (Fin.ext h)
  have hzn : zOf (pl ⟨i, hi⟩ c) = ⟨i, hi⟩ := zOf_pl _ _
  have hpS : paid c (32 + i) = true := paid_iff _ _ (by omega)
  have hpV : paid (pl ⟨i, hi⟩ c) (36 + (zOf c).val) = true := paid_iff _ _ (by rw [hzn]; show _ ∧ _ ∧ _ ∧ _ ∧ _ ≠ 32 + i ∧ _ ≠ 36 + i; omega)
  rw [show P2 c ⟨i, hi⟩ = tallyAt (dcell (pl ⟨i, hi⟩ c) (36 + (zOf c).val)) () N2 from if_neg hz]
  iintro ⟨#HR, Hsrc, Hdst, Ho, HtS, HtV⟩ Hk
  unfold owesAny
  icases Ho with ⟨%W, HO⟩
  ihave #HI := (records_dma C K c (32 + i) (by omega)) $$ HR
  icases HI with ⟨#HIS, #HrS⟩
  ihave #HI := (records_dma C K (pl ⟨i, hi⟩ c) (36 + (zOf c).val) (by omega)) $$ HR
  icases HI with ⟨#HIV, #HrV⟩
  have eS : (dcell c (32 + i)) = ((c : Thread nD τ), SemLoc.dma (sem2 cc0_scratch11 i hi).sem) := by rw [sem_s2]
  have eV : (dcell (pl ⟨i, hi⟩ c) (36 + (zOf c).val)) = ((pl ⟨i, hi⟩ c : Thread nD τ), SemLoc.dma (sem2 cc0_scratch12 (zOf c).val (zOf c).isLt).sem) := by rw [sem_v2]
  unfold rowIs rowAny
  icases Hsrc with ⟨%fs, %hY, Hsrc⟩
  icases Hdst with ⟨%fd, Hdst⟩
  rw [eS, eV]
  unfold rowPts
  rw [← planeM_set, ← planeM_set]
  have h₁ : ((planeM s2M i hi).view.loc (c : Thread nD τ) ↦[(planeM s2M i hi).view.set]{fullShare} fs) ⊢ (rd C).payload ((c : Thread nD τ), SemLoc.dma (sem2 cc0_scratch11 i hi).sem) 0 0 := by
    rw [← eS, payload_dma C c (by omega), planeM_set, pay_s2 C c i hi]; unfold rowAny rowPts; iintro H; iexists fs; iexact H
  have h₂ : ((planeM v2M (zOf c).val (zOf c).isLt).view.loc (pl ⟨i, hi⟩ c : Thread nD τ) ↦[(planeM v2M (zOf c).val (zOf c).isLt).view.set]{fullShare} ((planeM v2M (zOf c).val (zOf c).isLt).view.write (Elt F) fd ((planeM s2M i hi).view.read (Elt F) fs) Finset.univ))
      ⊢ (rd C).payload ((pl ⟨i, hi⟩ c : Thread nD τ), SemLoc.dma (sem2 cc0_scratch12 (zOf c).val (zOf c).isLt).sem) 0 0 := by
    rw [← eV, payload_dma C _ (by omega), planeM_set, pay_v2 C _ _ (zOf c).isLt, hzn, pl_pl, pl_zOf]; unfold rowIs rowPts; iintro H; iexists _; isplitr; swap; · iexact H
    ipureintro; exact hY.transfer (View.read_write_univ _ _)
  iapply (Rounds.wp_send_pointsTo 𝒱₀ ER (rd C) (c : Thread nD τ) none (κ₁ := K (c, ⟨32 + i, by omega⟩)) (κ₂ := K (pl ⟨i, hi⟩ c, ⟨36 + (zOf c).val, by omega⟩))
    (r₁ := 0) (r₂ := 0) (d₁ := 0) (d₂ := 0) (fs := fs) (fd := fd) (c' := (Dev.tc (pl ⟨i, hi⟩ c) : Thread nD τ)) (src := planeM s2M i hi) (dst := planeM v2M (zOf c).val (zOf c).isLt) (q := fullShare) (sem := SemLoc.dma (sem2 cc0_scratch12 (zOf c).val (zOf c).isLt).sem)
    (by rw [← eS, duties_dma C c (by omega) hpS]; exact Finset.mem_singleton_self _) (by rw [← eV, duties_dma C _ (by omega) hpV]; exact Finset.mem_singleton_self _)
    () () N2 rfl (by rw [← eS]; exact amount_2 C c (by omega) (by omega) 0) (by rw [← eV]; exact amount_2 C _ (by omega) (by omega) 0) O rfl (W := W)
    h₁ h₂) $$ [Hsrc Hdst HO HtS HtV]
  · isplitr; · iexact HIS
    isplitr; · iexact HIV
    isplitl [Hsrc]; · iexact Hsrc
    isplitl [Hdst]; · iexact Hdst
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists W; iexact HO

/-- The wait for the departure to plane `i`. -/
theorem wait_s2 {α : Type} {Q : α → sProp 𝕄} (c : Dev nD) (i : ℕ) (hi : i < 4) (hz : (⟨i, hi⟩ : Fin 4) ≠ zOf c)
    {dst : Memref sig .tc .vmem S64x1024 .bf16} {hdst : dst.view.WordExact} {src : Memref sig .tc .vmem S64x1024 .bf16} {hsrc : src.view.WordExact}
    (hc : dst.view.dmaCredit = N2)
    {k : PUnit → Prog (TpuEff nD τ sig (Elt F) Λ₀ .tc) α} (O : CellTallies nD τ sig Unit) (hO : Above 0 O) :
    iprop(records C K ∗ cred (tallyAt (dcell c (32 + i)) () N2) ∗ owesAny c O ∗ atPos ER (dcell c (32 + i)) 0 ∅ 0)
      ⊢ iprop(((owesAny c O ∗ semVal (dcell c (32 + i)) 0 ∗ rowAny s2M c i hi)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem2 cc0_scratch11 i hi).sem src dst hsrc hdst) k) Q) := by
  have hz' : i ≠ (zOf c).val := fun h => hz (Fin.ext h)
  have z1 := (zOf c).isLt
  rw [← pay_s2 C c i hi]
  exact step_wait C K c (by omega) (paid_iff _ _ (by omega)) (amount_2 C c (by omega) (by omega) 0) (sem_s2 i hi) hc O 0 (lv_s1 c _ (by omega)) hO
/-- The wait for the arrival from plane `i`. -/
theorem wait_v2 {α : Type} {Q : α → sProp 𝕄} (c : Dev nD) (i : ℕ) (hi : i < 4) (hz : (⟨i, hi⟩ : Fin 4) ≠ zOf c)
    {dst : Memref sig .tc .vmem S64x1024 .bf16} {hdst : dst.view.WordExact} {src : Memref sig .tc .vmem S64x1024 .bf16} {hsrc : src.view.WordExact}
    (hc : dst.view.dmaCredit = N2)
    {k : PUnit → Prog (TpuEff nD τ sig (Elt F) Λ₀ .tc) α} :
    iprop(records C K ∗ cred (tallyAt (dcell c (36 + i)) () N2) ∗ owesAny c 0 ∗ atPos ER (dcell c (36 + i)) 0 ∅ 0)
      ⊢ iprop(((owesAny c 0 ∗ semVal (dcell c (36 + i)) 0 ∗ rowIs v2M c i hi (C.zr (pl ⟨i, hi⟩ c) (zOf c)) (C.zl (pl ⟨i, hi⟩ c) (zOf c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem2 cc0_scratch12 i hi).sem src dst hsrc hdst) k) Q) := by
  have hz' : i ≠ (zOf c).val := fun h => hz (Fin.ext h)
  have z1 := (zOf c).isLt
  rw [← pay_v2 C c i hi]
  exact step_wait C K c (by omega) (paid_iff _ _ (by omega)) (amount_2 C c (by omega) (by omega) 0) (sem_v2 i hi) hc 0 _ rfl (Above.zero _)

end Cert.KProof
end
-- ==== Proof.Slots.lean ====
module

public import proofs.«01_k».proof.Proof.Steps
public import Idealize.ShloMosaic.Lib.Ring

/-!
# Buffers held slot by slot

A ring buffer held whole is its eight slots; a plane buffer held whole is its four rows. Both ways round.
-/

@[expose] public section

set_option maxRecDepth 16384

noncomputable section

namespace Cert.KProof

open Cert.KernelIdeal Cert.KernelIdeal.Gen

open Idealize.ShloMosaic
open Idealize.ShloMosaic.TcCoe
open Idealize.ShloMosaic.Ring (pointsTo_blocks pointsTo_blocks_join_exists)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

theorem mem_slotRect (s : ℕ) (h : s < 8) (i : S8x4x64x512.Idx) : i ∈ (slotRect s h).set ↔ (i 0).val = s := by
  refine Rect.mem_set_unit.trans ⟨fun hi => ?_, fun hi a => ?_⟩
  · have h0 : s ≤ (i 0).val ∧ (i 0).val < s + 1 := hi 0
    omega
  · have h1 : (i 1).val < 4 := (i 1).isLt
    have h2 : (i 2).val < 64 := (i 2).isLt
    have h3 : (i 3).val < 512 := (i 3).isLt
    fin_cases a
    · show s ≤ (i 0).val ∧ (i 0).val < s + 1; omega
    · show 0 ≤ (i 1).val ∧ (i 1).val < 0 + 4; omega
    · show 0 ≤ (i 2).val ∧ (i 2).val < 0 + 64; omega
    · show 0 ≤ (i 3).val ∧ (i 3).val < 0 + 512; omega
theorem mem_planeRect (s : ℕ) (h : s < 4) (i : S4x64x1024.Idx) : i ∈ (planeRect s h).set ↔ (i 0).val = s := by
  refine Rect.mem_set_unit.trans ⟨fun hi => ?_, fun hi a => ?_⟩
  · have h0 : s ≤ (i 0).val ∧ (i 0).val < s + 1 := hi 0
    omega
  · have h1 : (i 1).val < 64 := (i 1).isLt
    have h2 : (i 2).val < 1024 := (i 2).isLt
    fin_cases a
    · show s ≤ (i 0).val ∧ (i 0).val < s + 1; omega
    · show 0 ≤ (i 1).val ∧ (i 1).val < 0 + 64; omega
    · show 0 ≤ (i 2).val ∧ (i 2).val < 0 + 1024; omega

section Whole

variable (M : CommM) (hM : M.view.set = Finset.univ) (P : PlaneM) (hP : P.view.set = Finset.univ) (c : Dev nD)

theorem slot_disj (b b' : Fin 8) (h : b ≠ b') : Disjoint (M.view.setOn (slotRect b.val b.isLt).set) (M.view.setOn (slotRect b'.val b'.isLt).set) := by
  rw [Finset.disjoint_left]
  intro i hi hi'
  obtain ⟨k, hk, rfl⟩ := Finset.mem_map.mp hi
  obtain ⟨k', hk', e⟩ := Finset.mem_map.mp hi'
  have e := M.view.emb.injective e
  subst e
  rw [mem_slotRect] at hk hk'
  exact h (Fin.ext (hk.symm.trans hk'))
include hM in
theorem slot_cover : (Finset.univ : Finset (Fin 8)).biUnion (fun b => M.view.setOn (slotRect b.val b.isLt).set) = Finset.univ := by
  refine Finset.eq_univ_iff_forall.mpr fun i => ?_
  obtain ⟨k, -, rfl⟩ := Finset.mem_map.mp (show i ∈ Finset.univ.map M.view.emb from by
    have h : i ∈ M.view.set := by rw [hM]; exact Finset.mem_univ _
    exact h)
  exact Finset.mem_biUnion.mpr ⟨k 0, Finset.mem_univ _, Finset.mem_map.mpr ⟨k, (mem_slotRect _ _ k).mpr rfl, rfl⟩⟩
theorem row_disj (b b' : Fin 4) (h : b ≠ b') : Disjoint (P.view.setOn (planeRect b.val b.isLt).set) (P.view.setOn (planeRect b'.val b'.isLt).set) := by
  rw [Finset.disjoint_left]
  intro i hi hi'
  obtain ⟨k, hk, rfl⟩ := Finset.mem_map.mp hi
  obtain ⟨k', hk', e⟩ := Finset.mem_map.mp hi'
  have e := P.view.emb.injective e
  subst e
  rw [mem_planeRect] at hk hk'
  exact h (Fin.ext (hk.symm.trans hk'))
include hP in
theorem row_cover : (Finset.univ : Finset (Fin 4)).biUnion (fun b => P.view.setOn (planeRect b.val b.isLt).set) = Finset.univ := by
  refine Finset.eq_univ_iff_forall.mpr fun i => ?_
  obtain ⟨k, -, rfl⟩ := Finset.mem_map.mp (show i ∈ Finset.univ.map P.view.emb from by
    have h : i ∈ P.view.set := by rw [hP]; exact Finset.mem_univ _
    exact h)
  exact Finset.mem_biUnion.mpr ⟨k 0, Finset.mem_univ _, Finset.mem_map.mpr ⟨k, (mem_planeRect _ _ k).mpr rfl, rfl⟩⟩

include hM in
omit [FloatOps F] in
/-- A ring buffer held whole is slot 0 at its contents and the others. -/
theorem slots_split (f : Buf (Elt F) (M.view.loc (c : Thread nD τ))) :
    (M.view.loc (c : Thread nD τ) ↦{fullShare} f) ⊢ (iprop(slotPts M c 0 (by decide) f ∗ slots17 M c) : sProp 𝕄) := by
  rw [pointsTo_blocks _ (slot_disj M) (slot_cover M hM) f, bigSep_univ_eq_bigSepL [0, 1, 2, 3, 4, 5, 6, 7] (by decide) (by decide)]
  simp only [bigSepL_cons_cons, bigSepL_singleton]
  show (iprop(slotPts M c 0 (by decide) f ∗ slotPts M c 1 (by decide) f ∗ slotPts M c 2 (by decide) f ∗ slotPts M c 3 (by decide) f ∗ slotPts M c 4 (by decide) f ∗ slotPts M c 5 (by decide) f ∗ slotPts M c 6 (by decide) f ∗ slotPts M c 7 (by decide) f) : sProp 𝕄) ⊢ _
  unfold slots17 slotAny slotPts
  iintro ⟨H0, H1, H2, H3, H4, H5, H6, H7⟩
  isplitl [H0]; · iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

include hM in
omit [FloatOps F] in
/-- The eight slots of a ring buffer are the buffer. -/
theorem slots_join :
    (iprop(slotAny M c 0 (by decide) ∗ slots17 M c) : sProp 𝕄) ⊢ iprop(∃ g, M.view.loc (c : Thread nD τ) ↦{fullShare} g) := by
  have h := fun f₀ => pointsTo_blocks_join_exists (Ix := Unit) (Name := ℕ) (U := UU) (Lvl := ℕ) (Val := Elt F) (ℓ := M.view.loc (c : Thread nD τ)) _ (slot_disj M) (slot_cover M hM) (q := fullShare) f₀
  rw [bigSep_univ_eq_bigSepL [0, 1, 2, 3, 4, 5, 6, 7] (by decide) (by decide)] at h
  simp only [bigSepL_cons_cons, bigSepL_singleton] at h
  replace h : Buf (Elt F) (M.view.loc (c : Thread nD τ)) → ((iprop(slotAny M c 0 (by decide) ∗ slotAny M c 1 (by decide) ∗ slotAny M c 2 (by decide) ∗ slotAny M c 3 (by decide) ∗ slotAny M c 4 (by decide) ∗ slotAny M c 5 (by decide) ∗ slotAny M c 6 (by decide) ∗ slotAny M c 7 (by decide)) : sProp 𝕄) ⊢ iprop(∃ g, M.view.loc (c : Thread nD τ) ↦{fullShare} g)) := h
  unfold slots17 slotAny slotPts at *
  iintro ⟨⟨%f, H0⟩, H1, H2, H3, H4, H5, H6, H7⟩
  iapply (h f)
  isplitl [H0]; · iexists f; iexact H0
  isplitl [H1]; · iexact H1
  isplitl [H2]; · iexact H2
  isplitl [H3]; · iexact H3
  isplitl [H4]; · iexact H4
  isplitl [H5]; · iexact H5
  isplitl [H6]; · iexact H6
  iexact H7

include hP in
omit [FloatOps F] in
/-- A plane buffer held whole is its rows. -/
theorem rows_split (f : Buf (Elt F) (P.view.loc (c : Thread nD τ))) :
    (P.view.loc (c : Thread nD τ) ↦{fullShare} f) ⊢ (iprop(rowPts P c 0 (by decide) f ∗ rowPts P c 1 (by decide) f ∗ rowPts P c 2 (by decide) f ∗ rowPts P c 3 (by decide) f) : sProp 𝕄) := by
  rw [pointsTo_blocks _ (row_disj P) (row_cover P hP) f, bigSep_univ_eq_bigSepL [0, 1, 2, 3] (by decide) (by decide)]
  simp only [bigSepL_cons_cons, bigSepL_singleton]
  show (iprop(rowPts P c 0 (by decide) f ∗ rowPts P c 1 (by decide) f ∗ rowPts P c 2 (by decide) f ∗ rowPts P c 3 (by decide) f) : sProp 𝕄) ⊢ _
  unfold rowPts
  iintro ⟨H0, H1, H2, H3⟩
  isplitl [H0]; · iexact H0
  isplitl [H1]; · iexact H1
  isplitl [H2]; · iexact H2
  iexact H3

include hP in
omit [FloatOps F] in
/-- The four rows of a plane buffer are the buffer. -/
theorem rows_join :
    (iprop(rowAny P c 0 (by decide) ∗ rowAny P c 1 (by decide) ∗ rowAny P c 2 (by decide) ∗ rowAny P c 3 (by decide)) : sProp 𝕄)
      ⊢ iprop(∃ g, P.view.loc (c : Thread nD τ) ↦{fullShare} g) := by
  have h := fun f₀ => pointsTo_blocks_join_exists (Ix := Unit) (Name := ℕ) (U := UU) (Lvl := ℕ) (Val := Elt F) (ℓ := P.view.loc (c : Thread nD τ)) _ (row_disj P) (row_cover P hP) (q := fullShare) f₀
  rw [bigSep_univ_eq_bigSepL [0, 1, 2, 3] (by decide) (by decide)] at h
  simp only [bigSepL_cons_cons, bigSepL_singleton] at h
  replace h : Buf (Elt F) (P.view.loc (c : Thread nD τ)) → ((iprop(rowAny P c 0 (by decide) ∗ rowAny P c 1 (by decide) ∗ rowAny P c 2 (by decide) ∗ rowAny P c 3 (by decide)) : sProp 𝕄) ⊢ iprop(∃ g, P.view.loc (c : Thread nD τ) ↦{fullShare} g)) := h
  unfold rowAny rowPts at *
  iintro ⟨⟨%f, H0⟩, H1, H2, H3⟩
  iapply (h f)
  isplitl [H0]; · iexists f; iexact H0
  isplitl [H1]; · iexact H1
  isplitl [H2]; · iexact H2
  iexact H3

end Whole

end Cert.KProof
end
-- ==== Proof.Hand.lean ====
module

public import proofs.«01_k».proof.Proof.Slots
public import proofs.«01_k».proof.Proof.Steps
/-!
# What a device starts and ends with

The ghost state of one device, bundled by the part of the run that uses it, and the trades at the two ends: the
receive rows and slots handed to the senders at the start, the buffers put together again at the end.
-/
@[expose] public section

set_option maxRecDepth 16384

noncomputable section

namespace Cert.KProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (C : Cont F) (K : Dev nD × Fin 41 → ℕ)

/-- The ghost state of the barrier: its five tokens, its position and its credit. -/
def barIn (c : Dev nD) : sProp 𝕄 :=
  iprop(dutyTok ER (bcell (prv c)) 0 0 ∗ dutyTok ER (bcell (nxt c)) 0 1 ∗ dutyTok ER (bcell (pl (zOf c + 1) c)) 0 4
    ∗ dutyTok ER (bcell (pl (zOf c + 2) c)) 0 3 ∗ dutyTok ER (bcell (pl (zOf c + 3) c)) 0 2
    ∗ atPos ER (bcell c) 0 ∅ 0 ∗ cred (tallyAt (bcell c) () 5))
/-- The ghost state of step `s` on the rings. -/
def hopIn (c : Dev nD) (s : ℕ) : sProp 𝕄 :=
  iprop(dutyTok ER (dcell c s) 0 0 ∗ dutyTok ER (dcell (nxt c) (8 + (s + 1))) 0 0 ∗ dutyTok ER (dcell c (16 + s)) 0 0 ∗ dutyTok ER (dcell (prv c) (24 + (s + 1))) 0 0
    ∗ atPos ER (dcell c s) 0 ∅ 0 ∗ atPos ER (dcell c (8 + (s + 1))) 0 ∅ 0 ∗ atPos ER (dcell c (16 + s)) 0 ∅ 0 ∗ atPos ER (dcell c (24 + (s + 1))) 0 ∅ 0
    ∗ cred (tallyAt (dcell c (8 + (s + 1))) () N1) ∗ cred (tallyAt (dcell c (24 + (s + 1))) () N1))
/-- The same, opened. -/
theorem hop_open (c : Dev nD) (s : ℕ) : (hopIn c s : sProp 𝕄) ⊢
    iprop(dutyTok ER (dcell c s) 0 0 ∗ dutyTok ER (dcell (nxt c) (8 + (s + 1))) 0 0 ∗ dutyTok ER (dcell c (16 + s)) 0 0 ∗ dutyTok ER (dcell (prv c) (24 + (s + 1))) 0 0
    ∗ atPos ER (dcell c s) 0 ∅ 0 ∗ atPos ER (dcell c (8 + (s + 1))) 0 ∅ 0 ∗ atPos ER (dcell c (16 + s)) 0 ∅ 0 ∗ atPos ER (dcell c (24 + (s + 1))) 0 ∅ 0
    ∗ cred (tallyAt (dcell c (8 + (s + 1))) () N1) ∗ cred (tallyAt (dcell c (24 + (s + 1))) () N1)) := .rfl
/-- The cells of step `s`, done, and the two slots it sent from. -/
def hopOut (c : Dev nD) (s : ℕ) (hs : s < 8) : sProp 𝕄 :=
  iprop(semVal (dcell c s) 0 ∗ semVal (dcell c (8 + (s + 1))) 0 ∗ semVal (dcell c (16 + s)) 0 ∗ semVal (dcell c (24 + (s + 1))) 0
    ∗ slotAny rM c s hs ∗ slotAny lM c s hs)
/-- The ghost state of the exchange with plane `i`. -/
def planeIn (c : Dev nD) (i : Fin 4) : sProp 𝕄 :=
  iprop(atPos ER (dcell c (32 + i.val)) 0 ∅ 0 ∗ atPos ER (dcell c (36 + i.val)) 0 ∅ 0
    ∗ if i = zOf c then emp else iprop(dutyTok ER (dcell c (32 + i.val)) 0 0 ∗ dutyTok ER (dcell (pl i c) (36 + (zOf c).val)) 0 0 ∗ cred (tallyAt (dcell c (36 + i.val)) () N2)))
/-- The four ring cells no transfer uses. -/
def idleIn (c : Dev nD) : sProp 𝕄 :=
  iprop(atPos ER (dcell c 7) 0 ∅ 0 ∗ atPos ER (dcell c 8) 0 ∅ 0 ∗ atPos ER (dcell c 23) 0 ∅ 0 ∗ atPos ER (dcell c 24) 0 ∅ 0)
def idleOut (c : Dev nD) : sProp 𝕄 :=
  iprop(semVal (dcell c 7) 0 ∗ semVal (dcell c 8) 0 ∗ semVal (dcell c 23) 0 ∗ semVal (dcell c 24) 0)

/-- The whole receive buffer between planes as the row a device keeps and the three it lends. -/
theorem rows_hand (c : Dev nD) (f : Buf (Elt F) (v2M.view.loc (c : Thread nD τ))) :
    (v2M.view.loc (c : Thread nD τ) ↦{fullShare} f) ⊢ (iprop(rowPts v2M c (zOf c).val (zOf c).isLt f ∗ barPay (pl (zOf c + 1) c) 4 ∗ barPay (pl (zOf c + 2) c) 3 ∗ barPay (pl (zOf c + 3) c) 2) : sProp 𝕄) := by
  have e4 : (barPay (pl (zOf c + 1) c) 4 : sProp 𝕄) = rowAny v2M c (zOf c + 1).val (zOf c + 1).isLt := by
    show rowAny v2M (pl (zOf (pl (zOf c + 1) c) + 3) (pl (zOf c + 1) c)) (zOf (pl (zOf c + 1) c)).val (zOf (pl (zOf c + 1) c)).isLt = _
    rw [zOf_pl, pl_pl, (by decide : ∀ z : Fin 4, z + 1 + 3 = z) (zOf c), pl_zOf]
  have e3 : (barPay (pl (zOf c + 2) c) 3 : sProp 𝕄) = rowAny v2M c (zOf c + 2).val (zOf c + 2).isLt := by
    show rowAny v2M (pl (zOf (pl (zOf c + 2) c) + 2) (pl (zOf c + 2) c)) (zOf (pl (zOf c + 2) c)).val (zOf (pl (zOf c + 2) c)).isLt = _
    rw [zOf_pl, pl_pl, (by decide : ∀ z : Fin 4, z + 2 + 2 = z) (zOf c), pl_zOf]
  have e2 : (barPay (pl (zOf c + 3) c) 2 : sProp 𝕄) = rowAny v2M c (zOf c + 3).val (zOf c + 3).isLt := by
    show rowAny v2M (pl (zOf (pl (zOf c + 3) c) + 1) (pl (zOf c + 3) c)) (zOf (pl (zOf c + 3) c)).val (zOf (pl (zOf c + 3) c)).isLt = _
    rw [zOf_pl, pl_pl, (by decide : ∀ z : Fin 4, z + 3 + 1 = z) (zOf c), pl_zOf]
  rw [e4, e3, e2]
  generalize zOf c = z
  have key : ∀ z : Fin 4, (iprop(rowPts v2M c 0 (by decide) f ∗ rowPts v2M c 1 (by decide) f ∗ rowPts v2M c 2 (by decide) f ∗ rowPts v2M c 3 (by decide) f) : sProp 𝕄)
      ⊢ iprop(rowPts v2M c z.val z.isLt f ∗ rowAny v2M c (z + 1).val (z + 1).isLt ∗ rowAny v2M c (z + 2).val (z + 2).isLt ∗ rowAny v2M c (z + 3).val (z + 3).isLt) := by
    intro z
    unfold rowAny
    iintro ⟨H0, H1, H2, H3⟩
    match z with
    | 0 => isplitl [H0]; · iexact H0
           isplitl [H1]; · iexists f; iexact H1
           isplitl [H2]; · iexists f; iexact H2
           iexists f; iexact H3
    | 1 => isplitl [H1]; · iexact H1
           isplitl [H2]; · iexists f; iexact H2
           isplitl [H3]; · iexists f; iexact H3
           iexists f; iexact H0
    | 2 => isplitl [H2]; · iexact H2
           isplitl [H3]; · iexists f; iexact H3
           isplitl [H0]; · iexists f; iexact H0
           iexists f; iexact H1
    | 3 => isplitl [H3]; · iexact H3
           isplitl [H0]; · iexists f; iexact H0
           isplitl [H1]; · iexists f; iexact H1
           iexists f; iexact H2
  iintro H
  iapply (key z)
  iapply (rows_split v2M (View.set_whole _) c f)
  iexact H

/-- The right ring's slots as the left neighbour's barrier duty hands them over. -/
theorem hand_right (c : Dev nD) : (slots17 rM c : sProp 𝕄) ⊢ barPay (prv c) 0 := by
  show _ ⊢ (slots17 rM (nxt (prv c)) : sProp 𝕄); rw [nxt_prv]
/-- The left ring's slots as the right neighbour's barrier duty hands them over. -/
theorem hand_left (c : Dev nD) : (slots17 lM c : sProp 𝕄) ⊢ barPay (nxt c) 1 := by
  show _ ⊢ (slots17 lM (prv (nxt c)) : sProp 𝕄); rw [prv_nxt]
/-- The obligations at launch, as the signals pay them. -/
theorem owes_start (c : Dev nD) : (owesAny c (O₀ c) : sProp 𝕄)
    ⊢ owesAny c (((((Ohop c 7 + tallyAt (bcell (pl (zOf c + 3) c)) () 1) + tallyAt (bcell (pl (zOf c + 2) c)) () 1) + tallyAt (bcell (pl (zOf c + 1) c)) () 1)
      + tallyAt (bcell (nxt c)) () 1) + tallyAt (bcell (prv c)) () 1) := .rfl

end Cert.KProof
end
-- ==== Proof.Contents.lean ====
module

public import proofs.«01_k».proof.Proof.Hand
public import Idealize.ShloMosaic.Lib.WritesUnit
/-!
# What the transfers carry

The contents of every buffer as functions of the four arrays every device reads: the gates, a block of 256 rows
times four experts, the running sums on the two rings, the finished halves and the device's result.
-/
@[expose] public section

set_option maxRecDepth 16384

noncomputable section

namespace Cert.KProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- The arrays of all devices, as staged. -/
structure Bufs (F : FTy → Type) where
  x : Dev nD → (cc0_stg0_0 : Ref sig .tc).ty.Contents (Elt F)
  rw : Dev nD → (cc0_stg1_0 : Ref sig .tc).ty.Contents (Elt F)
  ix : Dev nD → (cc0_stg2_0 : Ref sig .tc).ty.Contents (Elt F)
  ew : Dev nD → (cc0_stg3_0 : Ref sig .tc).ty.Contents (Elt F)

/-- The order of the ring of a plane. -/
def lutB : Fin 8 → Fin 8 := ![0, 1, 2, 5, 6, 7, 4, 3]
/-- A device's place in that order. -/
def lutI : Fin 8 → Fin 8 := ![0, 1, 2, 7, 6, 3, 4, 5]
/-- A device's position in its plane. -/
def pOf (c : Dev nD) : Fin 8 := ⟨c.val % 8, by omega⟩
/-- The row block device `c` computes for slot `s` of the right ring. -/
def qR (c : Dev nD) (s : ℕ) : Fin 8 := lutB ⟨((lutI (pOf c)).val + 15 - s) % 8, by omega⟩
/-- The row block device `c` computes for slot `s` of the left ring. -/
def qL (c : Dev nD) (s : ℕ) : Fin 8 := lutB ⟨((lutI (pOf c)).val + 1 + s) % 8, by omega⟩

theorem off1_eq : ∀ (c : Dev nD) (zz : Fin 4), k0_off1 c (BitVec.ofNat 32 (8 * zz.val)) = ![512 * zz.val + 64 * (qR c 0).val, 0] := by decide +kernel
theorem off2_eq : ∀ (c : Dev nD) (zz : Fin 4), k0_off2 c (BitVec.ofNat 32 (8 * zz.val)) = ![512 * zz.val + 64 * (qR c 0).val, 0] := by decide +kernel
theorem off3_eq : ∀ (c : Dev nD) (zz : Fin 4), k0_off3 c (BitVec.ofNat 32 (8 * zz.val)) = ![512 * zz.val + 64 * (qL c 0).val, 0] := by decide +kernel
theorem off4_eq : ∀ (c : Dev nD) (zz : Fin 4), k0_off4 c (BitVec.ofNat 32 (8 * zz.val)) = ![512 * zz.val + 64 * (qL c 0).val, 0] := by decide +kernel
theorem off5_eq : ∀ (c : Dev nD) (zz : Fin 4) (s : Fin 7), k0_off5 c (BitVec.ofNat 32 (8 * zz.val)) (BitVec.ofNat 32 s.val) = ![512 * zz.val + 64 * (qR c (s.val + 1)).val, 0] := by decide +kernel
theorem off6_eq : ∀ (c : Dev nD) (zz : Fin 4) (s : Fin 7), k0_off6 c (BitVec.ofNat 32 (8 * zz.val)) (BitVec.ofNat 32 s.val) = ![512 * zz.val + 64 * (qR c (s.val + 1)).val, 0] := by decide +kernel
theorem off7_eq : ∀ (c : Dev nD) (zz : Fin 4) (s : Fin 7), k0_off7 c (BitVec.ofNat 32 (8 * zz.val)) (BitVec.ofNat 32 s.val) = ![512 * zz.val + 64 * (qL c (s.val + 1)).val, 0] := by decide +kernel
theorem off8_eq : ∀ (c : Dev nD) (zz : Fin 4) (s : Fin 7), k0_off8 c (BitVec.ofNat 32 (8 * zz.val)) (BitVec.ofNat 32 s.val) = ![512 * zz.val + 64 * (qL c (s.val + 1)).val, 0] := by decide +kernel

/-! ## The 256 rows of a block of products -/

/-- Entry `(i, j)` of a 64-row array. -/
def ix64 {D : ℕ} (i : ℕ) (hi : i < 64) (j : Fin D) : (⟨2, ![64, D]⟩ : Shape).Idx := fun a => match a with
  | ⟨0, _⟩ => (⟨i, hi⟩ : Fin 64)
  | ⟨1, _⟩ => j

/-- Four arrays of 64 rows as one of 256. -/
def stk {α : Type} {D : ℕ} (p : Fin 4 → (⟨2, ![64, D]⟩ : Shape).Idx → α) : (⟨2, ![256, D]⟩ : Shape).Idx → α := fun y =>
  p ⟨(y 0).val / 64, by have : (y 0).val < 256 := (y 0).isLt; omega⟩ (ix64 ((y 0).val % 64) (by omega) (y 1))

/-- A buffer of 256 rows into which four arrays of 64 rows were stored holds the four, whatever was stored before. -/
theorem read_stk {D : ℕ} {e : EltTy} (v : View sig .tc .vmem (⟨2, ![256, D]⟩ : Shape) e) (f : v.ty.Contents (Elt F))
    (p : Fin 4 → (⟨2, ![64, D]⟩ : Shape).Idx → Elt F e) (L : List (View.Piece (Elt F) (⟨2, ![256, D]⟩ : Shape) e))
    (h0 : ∀ a, (![0, 0] : Fin 2 → ℕ) a + (⟨2, ![64, D]⟩ : Shape).size a ≤ (⟨2, ![256, D]⟩ : Shape).size a)
    (h1 : ∀ a, (![64, 0] : Fin 2 → ℕ) a + (⟨2, ![64, D]⟩ : Shape).size a ≤ (⟨2, ![256, D]⟩ : Shape).size a)
    (h2 : ∀ a, (![128, 0] : Fin 2 → ℕ) a + (⟨2, ![64, D]⟩ : Shape).size a ≤ (⟨2, ![256, D]⟩ : Shape).size a)
    (h3 : ∀ a, (![192, 0] : Fin 2 → ℕ) a + (⟨2, ![64, D]⟩ : Shape).size a ≤ (⟨2, ![256, D]⟩ : Shape).size a)
    (y : (⟨2, ![256, D]⟩ : Shape).Idx) :
    v.read (Elt F) (v.writes (Elt F) f
      ((⟨Rect.unit (s := (⟨2, ![256, D]⟩ : Shape)) ![192, 0] (⟨2, ![64, D]⟩ : Shape).size h3, p 3⟩ : View.Piece (Elt F) (⟨2, ![256, D]⟩ : Shape) e)
      :: (⟨Rect.unit (s := (⟨2, ![256, D]⟩ : Shape)) ![128, 0] (⟨2, ![64, D]⟩ : Shape).size h2, p 2⟩ : View.Piece (Elt F) (⟨2, ![256, D]⟩ : Shape) e)
      :: (⟨Rect.unit (s := (⟨2, ![256, D]⟩ : Shape)) ![64, 0] (⟨2, ![64, D]⟩ : Shape).size h1, p 1⟩ : View.Piece (Elt F) (⟨2, ![256, D]⟩ : Shape) e)
      :: (⟨Rect.unit (s := (⟨2, ![256, D]⟩ : Shape)) ![0, 0] (⟨2, ![64, D]⟩ : Shape).size h0, p 0⟩ : View.Piece (Elt F) (⟨2, ![256, D]⟩ : Shape) e) :: L)) y
      = stk p y := by
  have hy : (y 0).val < 256 := (y 0).isLt
  have hit : ∀ (k : Fin 4) (o : ℕ) (ho : o = 64 * k.val) (inb) (L), o ≤ (y 0).val → (y 0).val < o + 64 →
      v.read (Elt F) (v.writes (Elt F) f ((⟨Rect.unit (s := (⟨2, ![256, D]⟩ : Shape)) ![o, 0] (⟨2, ![64, D]⟩ : Shape).size inb, p k⟩ : View.Piece (Elt F) (⟨2, ![256, D]⟩ : Shape) e) :: L)) y = stk p y := by
    intro k o ho inb L hl hu
    rw [View.read_writes_cons_rows_of_mem v f inb (p k) L y (ix64 ((y 0).val % 64) (by omega) (y 1)) rfl
      (by show (y 0).val = o + (y 0).val % 64; omega) rfl]
    unfold stk
    congr 1
    exact Fin.ext (by show k.val = (y 0).val / 64; omega)
  by_cases c3 : 192 ≤ (y 0).val
  · exact hit 3 192 rfl h3 _ c3 (by omega)
  rw [View.read_writes_cons_rows_of_not_mem v f h3 _ _ y rfl rfl (.inl (by omega))]
  by_cases c2 : 128 ≤ (y 0).val
  · exact hit 2 128 rfl h2 _ c2 (by omega)
  rw [View.read_writes_cons_rows_of_not_mem v f h2 _ _ y rfl rfl (.inl (by omega))]
  by_cases c1 : 64 ≤ (y 0).val
  · exact hit 1 64 rfl h1 _ c1 (by omega)
  rw [View.read_writes_cons_rows_of_not_mem v f h1 _ _ y rfl rfl (.inl (by omega))]
  exact hit 0 0 rfl h0 _ (by omega) (by omega)

/-! ## The rows of `x` and of the gates -/

theorem inbRow (D : ℕ) (zz : Fin 4) (q : Fin 8) : ∀ a, (![512 * zz.val + 64 * q.val, 0] : Fin 2 → ℕ) a + (⟨2, ![64, D]⟩ : Shape).size a ≤ (⟨2, ![2048, D]⟩ : Shape).size a := by
  intro a; have := zz.isLt; have := q.isLt
  fin_cases a
  · show 512 * zz.val + 64 * q.val + 64 ≤ 2048; omega
  · show 0 + D ≤ D; omega

/-- Row block `q` of plane `zz` of `x`. -/
def xRow (f : (cc0_stg0_0 : Ref sig .tc).ty.Contents (Elt F)) (q : Fin 8) (zz : Fin 4) : Vec F S64x512 .bf16 :=
  xM.view.readAt (Elt F) (Rect.unit (s := S2048x512) ![512 * zz.val + 64 * q.val, 0] S64x512.size (inbRow 512 zz q)).toLoadRect f
/-- The rows of block `q` of all planes. -/
def xBlk (f : (cc0_stg0_0 : Ref sig .tc).ty.Contents (Elt F)) (q : Fin 8) : Vec F S256x512 .bf16 := stk (D := 512) fun zz =>
  shapeCast S64x512 (shapeCast S64x512 (xRow f q zz) shapeCasts_S64x512_S64x512) shapeCasts_S64x512_S64x512

/-- The row of an entry, in a column. -/
def ixCol (y : S2048x4.Idx) : S2048x1.Idx := fun a => match a with | ⟨0, _⟩ => y 0 | ⟨1, _⟩ => (0 : Fin 1)
/-- Four columns as one array. -/
def gates (K : Fin 4 → Vec F S2048x1 .f32) : Vec F S2048x4 .f32 := fun y => K (y 1) (ixCol y)
/-- Row block `q` of plane `zz` of the gates. -/
def gRow (K : Fin 4 → Vec F S2048x1 .f32) (q : Fin 8) (zz : Fin 4) : Vec F S64x4 .f32 := fun y =>
  gates K (fun a => match a with
    | ⟨0, _⟩ => (⟨512 * zz.val + 64 * q.val + (y 0).val, by have : (y 0).val < 64 := (y 0).isLt; have := zz.isLt; have := q.isLt; show _ < 2048; omega⟩ : Fin 2048)
    | ⟨1, _⟩ => y 1)
/-- The gates of the rows of block `q` for the expert `e`. -/
def gBlk (K : Fin 4 → Vec F S2048x1 .f32) (q : Fin 8) (e : Fin 4) : Vec F S256x1 .f32 := fun y =>
  stk (D := 4) (fun zz => shapeCast S64x4 (gRow K q zz) shapeCasts_S64x4_S64x4) (fun a => match a with | ⟨0, _⟩ => y 0 | ⟨1, _⟩ => e)

/-- The rows stored into the block buffer, read back. -/
theorem xg_eq (f : (cc0_stg0_0 : Ref sig .tc).ty.Contents (Elt F)) (q : Fin 8) {o0 o1 o2 o3 : Fin 2 → ℕ}
    {i0 : ∀ a, o0 a + S64x512.size a ≤ S2048x512.size a} {i1 : ∀ a, o1 a + S64x512.size a ≤ S2048x512.size a}
    {i2 : ∀ a, o2 a + S64x512.size a ≤ S2048x512.size a} {i3 : ∀ a, o3 a + S64x512.size a ≤ S2048x512.size a}
    (e0 : o0 = ![512 * (0 : Fin 4).val + 64 * q.val, 0]) (e1 : o1 = ![512 * (1 : Fin 4).val + 64 * q.val, 0])
    (e2 : o2 = ![512 * (2 : Fin 4).val + 64 * q.val, 0]) (e3 : o3 = ![512 * (3 : Fin 4).val + 64 * q.val, 0])
    (h0 : ∀ a, (![0, 0] : Fin 2 → ℕ) a + S64x512.size a ≤ S256x512.size a) (h1 : ∀ a, (![64, 0] : Fin 2 → ℕ) a + S64x512.size a ≤ S256x512.size a)
    (h2 : ∀ a, (![128, 0] : Fin 2 → ℕ) a + S64x512.size a ≤ S256x512.size a) (h3 : ∀ a, (![192, 0] : Fin 2 → ℕ) a + S64x512.size a ≤ S256x512.size a)
    (hh : ∀ a, (![0, 0] : Fin 2 → ℕ) a + S256x512.size a ≤ S256x512.size a)
    (L : List (View.Piece (Elt F) S256x512 .bf16)) :
    xgM.view.readCov (Val := Elt F)
      ((⟨Rect.unit (s := S256x512) ![192, 0] S64x512.size h3, shapeCast S64x512 (shapeCast S64x512 (xM.view.readAt (Elt F) (Rect.unit (s := S2048x512) o3 S64x512.size i3).toLoadRect f) shapeCasts_S64x512_S64x512) shapeCasts_S64x512_S64x512⟩ : View.Piece (Elt F) S256x512 .bf16)
      :: (⟨Rect.unit (s := S256x512) ![128, 0] S64x512.size h2, shapeCast S64x512 (shapeCast S64x512 (xM.view.readAt (Elt F) (Rect.unit (s := S2048x512) o2 S64x512.size i2).toLoadRect f) shapeCasts_S64x512_S64x512) shapeCasts_S64x512_S64x512⟩ : View.Piece (Elt F) S256x512 .bf16)
      :: (⟨Rect.unit (s := S256x512) ![64, 0] S64x512.size h1, shapeCast S64x512 (shapeCast S64x512 (xM.view.readAt (Elt F) (Rect.unit (s := S2048x512) o1 S64x512.size i1).toLoadRect f) shapeCasts_S64x512_S64x512) shapeCasts_S64x512_S64x512⟩ : View.Piece (Elt F) S256x512 .bf16)
      :: (⟨Rect.unit (s := S256x512) ![0, 0] S64x512.size h0, shapeCast S64x512 (shapeCast S64x512 (xM.view.readAt (Elt F) (Rect.unit (s := S2048x512) o0 S64x512.size i0).toLoadRect f) shapeCasts_S64x512_S64x512) shapeCasts_S64x512_S64x512⟩ : View.Piece (Elt F) S256x512 .bf16) :: L)
      (Rect.unit (s := S256x512) ![0, 0] S256x512.size hh).toLoadRect = xBlk f q := by
  subst e0; subst e1; subst e2; subst e3
  funext y
  unfold View.readCov
  show xgM.view.read (Elt F) _ ((Rect.unit (s := S256x512) ![0, 0] S256x512.size hh).emb y) = _
  rw [show (Rect.unit (s := S256x512) ![0, 0] S256x512.size hh).emb y = y from funext fun a => Fin.ext (match a with
    | ⟨0, _⟩ => (by show 0 + 1 * (y 0).val = (y 0).val; omega)
    | ⟨1, _⟩ => (by show 0 + 1 * (y 1).val = (y 1).val; omega))]
  exact read_stk xgM.view _ (fun zz => shapeCast S64x512 (shapeCast S64x512 (xRow f q zz) shapeCasts_S64x512_S64x512) shapeCasts_S64x512_S64x512) L h0 h1 h2 h3 y

/-- Four columns stored, a row block read back. -/
theorem gRow_eq (K : Fin 4 → Vec F S2048x1 .f32) (g : (cc0_scratch0 : Ref sig .tc).ty.Contents (Elt F)) (q : Fin 8) (zz : Fin 4) {o : Fin 2 → ℕ} {i : ∀ a, o a + S64x4.size a ≤ S2048x4.size a}
    (e : o = ![512 * zz.val + 64 * q.val, 0])
    (h0 : ∀ a, (![0, 0] : Fin 2 → ℕ) a + S2048x1.size a ≤ S2048x4.size a) (h1 : ∀ a, (![0, 1] : Fin 2 → ℕ) a + S2048x1.size a ≤ S2048x4.size a)
    (h2 : ∀ a, (![0, 2] : Fin 2 → ℕ) a + S2048x1.size a ≤ S2048x4.size a) (h3 : ∀ a, (![0, 3] : Fin 2 → ℕ) a + S2048x1.size a ≤ S2048x4.size a) :
    coM.view.readAt (Elt F) (Rect.unit (s := S2048x4) o S64x4.size i).toLoadRect (coM.view.writes (Elt F) g
      [(⟨Rect.unit (s := S2048x4) ![0, 3] S2048x1.size h3, K 3⟩ : View.Piece (Elt F) S2048x4 .f32), ⟨Rect.unit (s := S2048x4) ![0, 2] S2048x1.size h2, K 2⟩,
       ⟨Rect.unit (s := S2048x4) ![0, 1] S2048x1.size h1, K 1⟩, ⟨Rect.unit (s := S2048x4) ![0, 0] S2048x1.size h0, K 0⟩]) = gRow K q zz := by
  subst e
  have main : ∀ y : S2048x4.Idx, coM.view.read (Elt F) (coM.view.writes (Elt F) g
      [(⟨Rect.unit (s := S2048x4) ![0, 3] S2048x1.size h3, K 3⟩ : View.Piece (Elt F) S2048x4 .f32), ⟨Rect.unit (s := S2048x4) ![0, 2] S2048x1.size h2, K 2⟩,
       ⟨Rect.unit (s := S2048x4) ![0, 1] S2048x1.size h1, K 1⟩, ⟨Rect.unit (s := S2048x4) ![0, 0] S2048x1.size h0, K 0⟩]) y = gates K y := by
    intro y
    have hy : (y 1).val < 4 := (y 1).isLt
    have hit : ∀ (k : Fin 4) (inb) (L), (y 1).val = k.val →
        coM.view.read (Elt F) (coM.view.writes (Elt F) g ((⟨Rect.unit (s := S2048x4) ![0, k.val] S2048x1.size inb, K k⟩ : View.Piece (Elt F) S2048x4 .f32) :: L)) y = gates K y := by
      intro k inb L hk
      rw [View.read_writes_cons_unit_of_mem coM.view g inb (K k) L y (ixCol y) rfl
        (fun a => match a with | ⟨0, _⟩ => (Nat.zero_add _).symm | ⟨1, _⟩ => hk)]
      unfold gates
      exact congrFun (congrArg K (Fin.ext hk.symm)) _
    by_cases c3 : (y 1).val = 3
    · exact hit 3 h3 _ c3
    rw [View.read_writes_cons_unit_of_not_mem coM.view g h3 _ _ y rfl (1 : Fin 2) (.inl (by show (y 1).val < 3; omega))]
    by_cases c2 : (y 1).val = 2
    · exact hit 2 h2 _ c2
    rw [View.read_writes_cons_unit_of_not_mem coM.view g h2 _ _ y rfl (1 : Fin 2) (.inl (by show (y 1).val < 2; omega))]
    by_cases c1 : (y 1).val = 1
    · exact hit 1 h1 _ c1
    rw [View.read_writes_cons_unit_of_not_mem coM.view g h1 _ _ y rfl (1 : Fin 2) (.inl (by show (y 1).val < 1; omega))]
    exact hit 0 h0 _ (by show (y 1).val = 0; omega)
  funext j
  show coM.view.read (Elt F) _ ((Rect.unit (s := S2048x4) _ S64x4.size i).emb j) = _
  rw [main]
  unfold gRow
  congr 1
  funext a
  match a with
  | ⟨0, _⟩ => exact Fin.ext (by show 512 * zz.val + 64 * q.val + 1 * (j 0).val = 512 * zz.val + 64 * q.val + (j 0).val; omega)
  | ⟨1, _⟩ => exact Fin.ext (by show 0 + 1 * (j 1).val = (j 1).val; omega)

/-- The gates' rows stored into the block buffer, one expert's column read back. -/
theorem cg_eq (K : Fin 4 → Vec F S2048x1 .f32) (q : Fin 8) (e : Fin 4) {p0 p1 p2 p3 : Vec F S64x4 .f32}
    (e0 : p0 = gRow K q 0) (e1 : p1 = gRow K q 1) (e2 : p2 = gRow K q 2) (e3 : p3 = gRow K q 3)
    (h0 : ∀ a, (![0, 0] : Fin 2 → ℕ) a + S64x4.size a ≤ S256x4.size a) (h1 : ∀ a, (![64, 0] : Fin 2 → ℕ) a + S64x4.size a ≤ S256x4.size a)
    (h2 : ∀ a, (![128, 0] : Fin 2 → ℕ) a + S64x4.size a ≤ S256x4.size a) (h3 : ∀ a, (![192, 0] : Fin 2 → ℕ) a + S64x4.size a ≤ S256x4.size a)
    (hh : ∀ a, (![0, e.val] : Fin 2 → ℕ) a + S256x1.size a ≤ S256x4.size a)
    (L : List (View.Piece (Elt F) S256x4 .f32)) :
    cgM.view.readCov (Val := Elt F)
      ((⟨Rect.unit (s := S256x4) ![192, 0] S64x4.size h3, shapeCast S64x4 p3 shapeCasts_S64x4_S64x4⟩ : View.Piece (Elt F) S256x4 .f32)
      :: (⟨Rect.unit (s := S256x4) ![128, 0] S64x4.size h2, shapeCast S64x4 p2 shapeCasts_S64x4_S64x4⟩ : View.Piece (Elt F) S256x4 .f32)
      :: (⟨Rect.unit (s := S256x4) ![64, 0] S64x4.size h1, shapeCast S64x4 p1 shapeCasts_S64x4_S64x4⟩ : View.Piece (Elt F) S256x4 .f32)
      :: (⟨Rect.unit (s := S256x4) ![0, 0] S64x4.size h0, shapeCast S64x4 p0 shapeCasts_S64x4_S64x4⟩ : View.Piece (Elt F) S256x4 .f32) :: L)
      (Rect.unit (s := S256x4) ![0, e.val] S256x1.size hh).toLoadRect = gBlk K q e := by
  subst e0; subst e1; subst e2; subst e3
  funext j
  unfold View.readCov
  show cgM.view.read (Elt F) _ ((Rect.unit (s := S256x4) ![0, e.val] S256x1.size hh).emb j) = _
  rw [read_stk cgM.view _ (fun zz => shapeCast S64x4 (gRow K q zz) shapeCasts_S64x4_S64x4) L h0 h1 h2 h3]
  unfold gBlk
  congr 1
  funext a
  match a with
  | ⟨0, _⟩ => exact Fin.ext (by show 0 + 1 * (j 0).val = (j 0).val; omega)
  | ⟨1, _⟩ => exact Fin.ext (by show e.val + 1 * (j 1).val = e.val; have : (j 1).val < 1 := (j 1).isLt; omega)

end Cert.KProof
end
-- ==== Proof.Spec.lean ====
module

public import proofs.«01_k».proof.Proof.Contents
/-!
# The contents, device by device

The gates, the blocks of products, the running sums on the two rings, the finished halves and the result, as functions
of the staged arrays; and the buffers that hold them after the stores.
-/
@[expose] public section

set_option maxRecDepth 16384

noncomputable section

namespace Cert.KProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The devices and places the transfers name -/

theorem dev6_eq : ∀ c : Dev nD, (⟨k0_dev6 c, k0_dev6_lt c⟩ : Dev nD) = nxt c := by decide +kernel
theorem dev7_eq : ∀ c : Dev nD, (⟨k0_dev7 c, k0_dev7_lt c⟩ : Dev nD) = prv c := by decide +kernel
theorem dev8_eq : ∀ c : Dev nD, (⟨k0_dev8 c, k0_dev8_lt c⟩ : Dev nD) = nxt c := by decide +kernel
theorem dev9_eq : ∀ c : Dev nD, (⟨k0_dev9 c, k0_dev9_lt c⟩ : Dev nD) = prv c := by decide +kernel
theorem dev10_eq : ∀ c : Dev nD, (⟨k0_dev10 c, k0_dev10_lt c⟩ : Dev nD) = nxt c := by decide +kernel
theorem dev11_eq : ∀ c : Dev nD, (⟨k0_dev11 c, k0_dev11_lt c⟩ : Dev nD) = prv c := by decide +kernel
theorem dev12_eq : ∀ c : Dev nD, (⟨k0_dev12 c, k0_dev12_lt c⟩ : Dev nD) = nxt c := by decide +kernel
theorem dev13_eq : ∀ c : Dev nD, (⟨k0_dev13 c, k0_dev13_lt c⟩ : Dev nD) = prv c := by decide +kernel
theorem dev14_eq : ∀ c : Dev nD, (⟨k0_dev14 c, k0_dev14_lt c⟩ : Dev nD) = nxt c := by decide +kernel
theorem dev15_eq : ∀ c : Dev nD, (⟨k0_dev15 c, k0_dev15_lt c⟩ : Dev nD) = prv c := by decide +kernel
theorem dev16_eq : ∀ c : Dev nD, (⟨k0_dev16 c, k0_dev16_lt c⟩ : Dev nD) = nxt c := by decide +kernel
theorem dev17_eq : ∀ c : Dev nD, (⟨k0_dev17 c, k0_dev17_lt c⟩ : Dev nD) = prv c := by decide +kernel
theorem dev18_eq : ∀ c : Dev nD, (⟨k0_dev18 c, k0_dev18_lt c⟩ : Dev nD) = nxt c := by decide +kernel
theorem dev19_eq : ∀ c : Dev nD, (⟨k0_dev19 c, k0_dev19_lt c⟩ : Dev nD) = prv c := by decide +kernel
theorem dev20_val : ∀ c : Dev nD, k0_dev20 c = (pl 0 c).val := by decide +kernel
theorem off9_eq : ∀ c : Dev nD, k0_off9 c = ![(zOf c).val] := by decide +kernel
theorem off10_eq : ∀ c : Dev nD, k0_off10 c = ![(zOf c).val, 0, 0] := by decide +kernel
theorem cond1_eq : ∀ c : Dev nD, (k0_cond1 c = 1#1) ↔ zOf c ≠ 0 := by decide +kernel
theorem dev21_val : ∀ c : Dev nD, k0_dev21 c = (pl 1 c).val := by decide +kernel
theorem off11_eq : ∀ c : Dev nD, k0_off11 c = ![(zOf c).val] := by decide +kernel
theorem off12_eq : ∀ c : Dev nD, k0_off12 c = ![(zOf c).val, 0, 0] := by decide +kernel
theorem cond2_eq : ∀ c : Dev nD, (k0_cond2 c = 1#1) ↔ zOf c ≠ 1 := by decide +kernel
theorem dev22_val : ∀ c : Dev nD, k0_dev22 c = (pl 2 c).val := by decide +kernel
theorem off13_eq : ∀ c : Dev nD, k0_off13 c = ![(zOf c).val] := by decide +kernel
theorem off14_eq : ∀ c : Dev nD, k0_off14 c = ![(zOf c).val, 0, 0] := by decide +kernel
theorem cond3_eq : ∀ c : Dev nD, (k0_cond3 c = 1#1) ↔ zOf c ≠ 2 := by decide +kernel
theorem dev23_val : ∀ c : Dev nD, k0_dev23 c = (pl 3 c).val := by decide +kernel
theorem off15_eq : ∀ c : Dev nD, k0_off15 c = ![(zOf c).val] := by decide +kernel
theorem off16_eq : ∀ c : Dev nD, k0_off16 c = ![(zOf c).val, 0, 0] := by decide +kernel
theorem cond4_eq : ∀ c : Dev nD, (k0_cond4 c = 1#1) ↔ zOf c ≠ 3 := by decide +kernel

/-! ## One device's gates -/

/-- A device's number, as the body computes it. -/
def meW (c : Dev nD) : BitVec 32 := Scalar.remsi (Scalar.divsi (Dev.word c) 1#32) 32#32
/-- A device's plane, as the body computes it. -/
def zW (c : Dev nD) : BitVec 32 :=
  Scalar.select (Scalar.andi (Scalar.cmpi .ne (Scalar.subi (Scalar.extui (Scalar.cmpi .sgt (meW c) 0#32)) (Scalar.extui (Scalar.cmpi .slt (meW c) 0#32)))
      (Scalar.subi (Scalar.extui (Scalar.cmpi .sgt 8#32 0#32)) (Scalar.extui (Scalar.cmpi .slt 8#32 0#32))))
    (Scalar.cmpi .ne (Scalar.remsi (meW c) 8#32) 0#32)) (Scalar.subi (Scalar.divsi (meW c) 8#32) 1#32) (Scalar.divsi (meW c) 8#32)

section
variable (fx : (cc0_stg0_0 : Ref sig .tc).ty.Contents (Elt F)) (fr : (cc0_stg1_0 : Ref sig .tc).ty.Contents (Elt F)) (fi : (cc0_stg2_0 : Ref sig .tc).ty.Contents (Elt F))
/-- `x`, `router_W` and the two columns of expert numbers, loaded. -/
def xAll : Vec F S2048x512 .bf16 := xM.view.readAt (Elt F) (Rect.unit (s := S2048x512) ![0, 0] S2048x512.size inb_S2048x512_S2048x512_0_0).toLoadRect fx
def rwAll : Vec F S512x128 .bf16 := rwM.view.readAt (Elt F) (Rect.unit (s := S512x128) ![0, 0] S512x128.size inb_S512x128_S512x128_0_0).toLoadRect fr
def ix0 : Vec F S2048x1 .i32 := ixM.view.readAt (Elt F) (Rect.unit (s := S2048x2) ![0, 0] S2048x1.size inb_S2048x2_S2048x1_0_0).toLoadRect fi
def ix1 : Vec F S2048x1 .i32 := ixM.view.readAt (Elt F) (Rect.unit (s := S2048x2) ![0, 1] S2048x1.size inb_S2048x2_S2048x1_0_1).toLoadRect fi
/-- The two gates of every token. -/
def w0V : FVec F S2048x1 .f32 := k0_pay5 (xAll fx) (rwAll fr) (ix0 fi) (ix1 fi)
def w1V : FVec F S2048x1 .f32 := k0_pay6 (xAll fx) (rwAll fr) (ix0 fi) (ix1 fi)
/-- The gates of device `c`'s four experts. -/
def cols (c : Dev nD) (e : Fin 4) : Vec F S2048x1 .f32 := match e with
  | ⟨0, _⟩ => k0_pay8 (k0_pay3 (ix0 fi)) (k0_pay4 (ix1 fi)) (w0V fx fr fi) (w1V fx fr fi) (Scalar.addi (Scalar.muli (meW c) 4#32) 0#32) (k0_pay7 (meW c))
  | ⟨1, _⟩ => k0_pay9 (meW c) (k0_pay3 (ix0 fi)) (k0_pay4 (ix1 fi)) (w0V fx fr fi) (w1V fx fr fi)
  | ⟨2, _⟩ => k0_pay10 (meW c) (k0_pay3 (ix0 fi)) (k0_pay4 (ix1 fi)) (w0V fx fr fi) (w1V fx fr fi)
  | ⟨3, _⟩ => k0_pay11 (k0_pay3 (ix0 fi)) (k0_pay4 (ix1 fi)) (w0V fx fr fi) (w1V fx fr fi) (Scalar.muli (meW c) 4#32)
end

/-! ## A block of products -/

/-- The weights of the expert `e`. -/
def wE (fe : (cc0_stg3_0 : Ref sig .tc).ty.Contents (Elt F)) (e : Fin 4) : FVec F S512x1024 .bf16 := match e with
  | ⟨0, _⟩ => shapeCast S512x1024 (ewM.view.readAt (Elt F) (Rect.unit (s := S4x512x1024) ![0, 0, 0] S1x512x1024.size inb_S4x512x1024_S1x512x1024_0_0_0).toLoadRect fe) shapeCasts_S1x512x1024_S512x1024
  | ⟨1, _⟩ => shapeCast S512x1024 (ewM.view.readAt (Elt F) (Rect.unit (s := S4x512x1024) ![1, 0, 0] S1x512x1024.size inb_S4x512x1024_S1x512x1024_1_0_0).toLoadRect fe) shapeCasts_S1x512x1024_S512x1024
  | ⟨2, _⟩ => shapeCast S512x1024 (ewM.view.readAt (Elt F) (Rect.unit (s := S4x512x1024) ![2, 0, 0] S1x512x1024.size inb_S4x512x1024_S1x512x1024_2_0_0).toLoadRect fe) shapeCasts_S1x512x1024_S512x1024
  | ⟨3, _⟩ => shapeCast S512x1024 (ewM.view.readAt (Elt F) (Rect.unit (s := S4x512x1024) ![3, 0, 0] S1x512x1024.size inb_S4x512x1024_S1x512x1024_3_0_0).toLoadRect fe) shapeCasts_S1x512x1024_S512x1024

/-- One expert's part: the gate times the product with the half of the weights that starts at column `o`. -/
def eone (o : ℕ) (h : S512x1024.Slices ![0, o] S512x512) (X : Vec F S256x512 .bf16) (g : Vec F S256x1 .f32) (w : FVec F S512x1024 .bf16) : FVec F S256x512 .f32 :=
  mulf (broadcastTo S256x512 g broadcasts_S256x1_S256x512)
    (matmul dot_S256x512_S512x512_S256x512_1_0_0_1_n_n none X (extractStridedSlice S512x512 ![0, o] w h) (constant S256x512 .f32 0x00000000#32))
/-- The four experts' parts added up. -/
def eblk (o : ℕ) (h : S512x1024.Slices ![0, o] S512x512) (X0 X1 X2 X3 : Vec F S256x512 .bf16) (g0 g1 g2 g3 : Vec F S256x1 .f32) (w0 w1 w2 w3 : FVec F S512x1024 .bf16) : FVec F S256x512 .f32 :=
  addf (addf (addf (eone o h X0 g0 w0) (eone o h X1 g1 w1)) (eone o h X2 g2 w2)) (eone o h X3 g3 w3)
/-- The four experts' parts of row block `q`. -/
def acc (o : ℕ) (h : S512x1024.Slices ![0, o] S512x512) (fx : (cc0_stg0_0 : Ref sig .tc).ty.Contents (Elt F)) (K : Fin 4 → Vec F S2048x1 .f32) (W : Fin 4 → FVec F S512x1024 .bf16) (q : Fin 8) : FVec F S256x512 .f32 :=
  eblk o h (xBlk fx q) (xBlk fx q) (xBlk fx q) (xBlk fx q) (gBlk K q 0) (gBlk K q 1) (gBlk K q 2) (gBlk K q 3) (W 0) (W 1) (W 2) (W 3)

theorem acc_eq {o : ℕ} {h : S512x1024.Slices ![0, o] S512x512} {fx : (cc0_stg0_0 : Ref sig .tc).ty.Contents (Elt F)} {K : Fin 4 → Vec F S2048x1 .f32} {W : Fin 4 → FVec F S512x1024 .bf16} {q : Fin 8}
    {X0 X1 X2 X3 : Vec F S256x512 .bf16} {g0 g1 g2 g3 : Vec F S256x1 .f32}
    (e0 : X0 = xBlk fx q) (e1 : X1 = xBlk fx q) (e2 : X2 = xBlk fx q) (e3 : X3 = xBlk fx q)
    (d0 : g0 = gBlk K q 0) (d1 : g1 = gBlk K q 1) (d2 : g2 = gBlk K q 2) (d3 : g3 = gBlk K q 3) :
    eblk o h X0 X1 X2 X3 g0 g1 g2 g3 (W 0) (W 1) (W 2) (W 3) = acc o h fx K W q := by
  subst e0; subst e1; subst e2; subst e3; subst d0; subst d1; subst d2; subst d3; rfl

/-- The rows of plane `zz` of a block. -/
def sl (zz : Fin 4) (A : FVec F S256x512 .f32) : FVec F S64x512 .f32 := match zz with
  | ⟨0, _⟩ => extractStridedSlice S64x512 ![0, 0] A slices_S256x512_o0_0_S64x512
  | ⟨1, _⟩ => extractStridedSlice S64x512 ![64, 0] A slices_S256x512_o64_0_S64x512
  | ⟨2, _⟩ => extractStridedSlice S64x512 ![128, 0] A slices_S256x512_o128_0_S64x512
  | ⟨3, _⟩ => extractStridedSlice S64x512 ![192, 0] A slices_S256x512_o192_0_S64x512

/-- What the first store of a block leaves. -/
def put1 (A : FVec F S64x512 .f32) : Vec F S1x1x64x512 .bf16 := shapeCast S1x1x64x512 (truncf .bf16 A bitsLt_bf16_f32) shapeCasts_S64x512_S1x1x64x512
/-- An arrived block plus a part. -/
def fin1 (v : Vec F S1x1x64x512 .bf16) (A : FVec F S64x512 .f32) : FVec F S64x512 .f32 :=
  addf (extf .f32 (shapeCast S64x512 v shapeCasts_S1x1x64x512_S64x512) bitsLt_bf16_f32) A
/-- What the transfer between planes carries of a finished half. -/
def put2 (A : FVec F S64x512 .f32) : Vec F S1x64x512 .bf16 := shapeCast S1x64x512 (truncf .bf16 A bitsLt_bf16_f32) shapeCasts_S64x512_S1x64x512

/-! ## The rings and the exchange between planes -/

variable (B : Bufs F)

/-- A device's four columns of gates. -/
def colsOf (c : Dev nD) : Fin 4 → Vec F S2048x1 .f32 := cols (B.x c) (B.rw c) (B.ix c) c
/-- Device `c`'s block for slot `s` of the right ring. -/
def accR (c : Dev nD) (s : ℕ) : FVec F S256x512 .f32 := acc 0 slices_S512x1024_o0_0_S512x512 (B.x c) (colsOf B c) (wE (B.ew c)) (qR c s)
/-- Device `c`'s block for slot `s` of the left ring. -/
def accL (c : Dev nD) (s : ℕ) : FVec F S256x512 .f32 := acc 512 slices_S512x1024_o0_512_S512x512 (B.x c) (colsOf B c) (wE (B.ew c)) (qL c s)
/-- Slot `s` of the right ring as device `c` sends it. -/
def YR : ℕ → Dev nD → Fin 4 → Vec F S1x1x64x512 .bf16
  | 0, c, zz => put1 (sl zz (accR B c 0))
  | s + 1, c, zz => put1 (fin1 (YR s (prv c) zz) (sl zz (accR B c (s + 1))))
/-- Slot `s` of the left ring as device `c` sends it. -/
def YL : ℕ → Dev nD → Fin 4 → Vec F S1x1x64x512 .bf16
  | 0, c, zz => put1 (sl zz (accL B c 0))
  | s + 1, c, zz => put1 (fin1 (YL s (nxt c) zz) (sl zz (accL B c (s + 1))))
/-- The finished left-hand columns of plane `zz`'s rows. -/
def FR (c : Dev nD) (zz : Fin 4) : FVec F S64x512 .f32 := fin1 (YR B 6 (prv c) zz) (sl zz (accR B c 7))
/-- The finished right-hand columns. -/
def FL (c : Dev nD) (zz : Fin 4) : FVec F S64x512 .f32 := fin1 (YL B 6 (nxt c) zz) (sl zz (accL B c 7))
/-- What every transfer carries. -/
def cont : Cont F := ⟨YR B, YL B, fun c zz => put2 (FR B c zz), fun c zz => put2 (FL B c zz)⟩

/-- The row of zeros a device keeps in place of its own. -/
def zeroRow : Vec F S1x64x512 .bf16 := fun _ => Scalar.ofBits .bf16 0x0000#16
/-- What arrived from plane `i`. -/
def inR (c : Dev nD) (i : Fin 4) : Vec F S1x64x512 .bf16 := if i = zOf c then zeroRow else put2 (FR B (pl i c) (zOf c))
def inL (c : Dev nD) (i : Fin 4) : Vec F S1x64x512 .bf16 := if i = zOf c then zeroRow else put2 (FL B (pl i c) (zOf c))
/-- The result's left-hand columns. -/
def outR (c : Dev nD) : FVec F S64x512 .f32 :=
  k0_pay337 (zW c) (k0_pay331 (zW c) (k0_pay327 (zW c) (FR B c 0) (FR B c 1) (FR B c 2) (FR B c 3)) (k0_pay329 (F := F) (zW c)) (inR B c 0) (inR B c 1))
    (k0_pay333 (F := F) (zW c)) (k0_pay334 (inR B c 2)) (inR B c 3)
/-- The result's right-hand columns. -/
def outL (c : Dev nD) : FVec F S64x512 .f32 :=
  k0_pay1 (k0_pay335 (k0_pay332 (zW c) (k0_pay328 (zW c) (FL B c 0) (FL B c 1) (FL B c 2) (FL B c 3)) (k0_pay329 (F := F) (zW c)) (inL B c 0) (inL B c 1))
    (k0_pay333 (F := F) (zW c)) (inL B c 2)) (k0_pay336 (F := F) (zW c)) (inL B c 3)
/-- A device's result, left in its staging buffer. -/
def outBuf (c : Dev nD) : (cc0_stg4_0 : Ref sig .tc).ty.Contents (Elt F) :=
  oM.view.writes (Elt F) oM.view.junk [(⟨Rect.unit (s := S64x1024) ![0, 512] S64x512.size inb_S64x1024_S64x512_0_512, outL B c⟩ : View.Piece (Elt F) S64x1024 .f32),
    ⟨Rect.unit (s := S64x1024) ![0, 0] S64x512.size inb_S64x1024_S64x512_0_0, outR B c⟩]

/-! ## Slots and rows written block by block -/

/-- Four blocks stored into a slot are what its blocks read. -/
theorem reads_of_pieces (M : CommM) (c : Dev nD) (s : ℕ) (hs : s < 8) (f : Buf (Elt F) (M.view.loc (c : Thread nD τ))) (Y : Fin 4 → Vec F S1x1x64x512 .bf16)
    {p0 p1 p2 p3 : Vec F S1x1x64x512 .bf16} (e0 : p0 = Y 0) (e1 : p1 = Y 1) (e2 : p2 = Y 2) (e3 : p3 = Y 3) (L : List (View.Piece (Elt F) S8x4x64x512 .bf16)) :
    Reads M c s hs Y (M.view.writes (Elt F) f ((⟨winRect s hs 3 (by decide), p3⟩ : View.Piece (Elt F) S8x4x64x512 .bf16) :: (⟨winRect s hs 2 (by decide), p2⟩ : View.Piece (Elt F) S8x4x64x512 .bf16)
      :: (⟨winRect s hs 1 (by decide), p1⟩ : View.Piece (Elt F) S8x4x64x512 .bf16) :: (⟨winRect s hs 0 (by decide), p0⟩ : View.Piece (Elt F) S8x4x64x512 .bf16) :: L)) := by
  subst e0; subst e1; subst e2; subst e3
  have hit : ∀ (k : Fin 4) (L), M.view.readAt (Elt F) (winRect s hs k.val k.isLt).toLoadRect (M.view.writes (Elt F) f ((⟨winRect s hs k.val k.isLt, Y k⟩ : View.Piece (Elt F) S8x4x64x512 .bf16) :: L)) = Y k := by
    intro k L; funext j
    exact View.read_writes_cons_unit_of_mem M.view f (inbWin s hs k.val k.isLt) (Y k) L ((winRect s hs k.val k.isLt).emb j) j rfl
      (fun a => by show _ + 1 * _ = _; rw [Nat.one_mul]; rfl)
  have miss : ∀ (k m : Fin 4) (p) (L), k ≠ m → M.view.readAt (Elt F) (winRect s hs k.val k.isLt).toLoadRect (M.view.writes (Elt F) f ((⟨winRect s hs m.val m.isLt, p⟩ : View.Piece (Elt F) S8x4x64x512 .bf16) :: L))
      = M.view.readAt (Elt F) (winRect s hs k.val k.isLt).toLoadRect (M.view.writes (Elt F) f L) := by
    intro k m p L hkm; funext j
    have hj : (j 1).val < 1 := (j 1).isLt
    have hne : k.val ≠ m.val := fun h => hkm (Fin.ext h)
    exact View.read_writes_cons_unit_of_not_mem M.view f (inbWin s hs m.val m.isLt) p L ((winRect s hs k.val k.isLt).emb j) rfl (1 : Fin 4)
      (by show k.val + 1 * (j 1).val < m.val ∨ m.val + 1 ≤ k.val + 1 * (j 1).val; omega)
  intro zz
  match zz with
  | ⟨0, _⟩ => exact ((miss 0 3 _ _ (by decide)).trans (miss 0 2 _ _ (by decide))).trans ((miss 0 1 _ _ (by decide)).trans (hit 0 _))
  | ⟨1, _⟩ => exact ((miss 1 3 _ _ (by decide)).trans (miss 1 2 _ _ (by decide))).trans (hit 1 _)
  | ⟨2, _⟩ => exact (miss 2 3 _ _ (by decide)).trans (hit 2 _)
  | ⟨3, _⟩ => exact hit 3 _

/-- The first stores of a slot. -/
theorem reads_first {o : ℕ} {h : S512x1024.Slices ![0, o] S512x512} {fx : (cc0_stg0_0 : Ref sig .tc).ty.Contents (Elt F)} {K : Fin 4 → Vec F S2048x1 .f32} {W : Fin 4 → FVec F S512x1024 .bf16} {q : Fin 8}
    {X0 X1 X2 X3 : Vec F S256x512 .bf16} {g0 g1 g2 g3 : Vec F S256x1 .f32}
    (e0 : X0 = xBlk fx q) (e1 : X1 = xBlk fx q) (e2 : X2 = xBlk fx q) (e3 : X3 = xBlk fx q)
    (d0 : g0 = gBlk K q 0) (d1 : g1 = gBlk K q 1) (d2 : g2 = gBlk K q 2) (d3 : g3 = gBlk K q 3)
    {Y : Fin 4 → Vec F S1x1x64x512 .bf16} (hY : ∀ zz, put1 (sl zz (acc o h fx K W q)) = Y zz)
    (M : CommM) (c : Dev nD) (s : ℕ) (hs : s < 8) (f : Buf (Elt F) (M.view.loc (c : Thread nD τ))) :
    Reads M c s hs Y (M.view.writes (Elt F) f [(⟨winRect s hs 3 (by decide), put1 (sl 3 (eblk o h X0 X1 X2 X3 g0 g1 g2 g3 (W 0) (W 1) (W 2) (W 3)))⟩ : View.Piece (Elt F) S8x4x64x512 .bf16),
      ⟨winRect s hs 2 (by decide), put1 (sl 2 (eblk o h X0 X1 X2 X3 g0 g1 g2 g3 (W 0) (W 1) (W 2) (W 3)))⟩,
      ⟨winRect s hs 1 (by decide), put1 (sl 1 (eblk o h X0 X1 X2 X3 g0 g1 g2 g3 (W 0) (W 1) (W 2) (W 3)))⟩,
      ⟨winRect s hs 0 (by decide), put1 (sl 0 (eblk o h X0 X1 X2 X3 g0 g1 g2 g3 (W 0) (W 1) (W 2) (W 3)))⟩]) := by
  rw [acc_eq e0 e1 e2 e3 d0 d1 d2 d3]
  exact reads_of_pieces M c s hs f Y (hY 0) (hY 1) (hY 2) (hY 3) []

/-- The stores of a later slot: what arrived plus the device's own block. -/
theorem reads_step {o : ℕ} {h : S512x1024.Slices ![0, o] S512x512} {fx : (cc0_stg0_0 : Ref sig .tc).ty.Contents (Elt F)} {K : Fin 4 → Vec F S2048x1 .f32} {W : Fin 4 → FVec F S512x1024 .bf16} {q : Fin 8}
    {X0 X1 X2 X3 : Vec F S256x512 .bf16} {g0 g1 g2 g3 : Vec F S256x1 .f32} {v0 v1 v2 v3 : Vec F S1x1x64x512 .bf16} {V : Fin 4 → Vec F S1x1x64x512 .bf16}
    (e0 : X0 = xBlk fx q) (e1 : X1 = xBlk fx q) (e2 : X2 = xBlk fx q) (e3 : X3 = xBlk fx q)
    (d0 : g0 = gBlk K q 0) (d1 : g1 = gBlk K q 1) (d2 : g2 = gBlk K q 2) (d3 : g3 = gBlk K q 3)
    (k0 : v0 = V 0) (k1 : v1 = V 1) (k2 : v2 = V 2) (k3 : v3 = V 3)
    {Y : Fin 4 → Vec F S1x1x64x512 .bf16} (hY : ∀ zz, put1 (fin1 (V zz) (sl zz (acc o h fx K W q))) = Y zz)
    (M : CommM) (c : Dev nD) (s : ℕ) (hs : s < 8) (f : Buf (Elt F) (M.view.loc (c : Thread nD τ))) :
    Reads M c s hs Y (M.view.writes (Elt F) f [(⟨winRect s hs 3 (by decide), put1 (fin1 v3 (sl 3 (eblk o h X0 X1 X2 X3 g0 g1 g2 g3 (W 0) (W 1) (W 2) (W 3))))⟩ : View.Piece (Elt F) S8x4x64x512 .bf16),
      ⟨winRect s hs 2 (by decide), put1 (fin1 v2 (sl 2 (eblk o h X0 X1 X2 X3 g0 g1 g2 g3 (W 0) (W 1) (W 2) (W 3))))⟩,
      ⟨winRect s hs 1 (by decide), put1 (fin1 v1 (sl 1 (eblk o h X0 X1 X2 X3 g0 g1 g2 g3 (W 0) (W 1) (W 2) (W 3))))⟩,
      ⟨winRect s hs 0 (by decide), put1 (fin1 v0 (sl 0 (eblk o h X0 X1 X2 X3 g0 g1 g2 g3 (W 0) (W 1) (W 2) (W 3))))⟩]) := by
  rw [acc_eq e0 e1 e2 e3 d0 d1 d2 d3]
  subst k0; subst k1; subst k2; subst k3
  exact reads_of_pieces M c s hs f Y (hY 0) (hY 1) (hY 2) (hY 3) []

/-- A block of a slot not yet overwritten still reads what it read. -/
theorem reads_skip (M : CommM) (c : Dev nD) (s : ℕ) (hs : s < 8) (f : Buf (Elt F) (M.view.loc (c : Thread nD τ))) (k m : ℕ) (hk : k < 4) (hm : m < 4) (hkm : k ≠ m) (p : Vec F S1x1x64x512 .bf16) (L : List (View.Piece (Elt F) S8x4x64x512 .bf16)) :
    M.view.readAt (Elt F) (winRect s hs k hk).toLoadRect (M.view.writes (Elt F) f ((⟨winRect s hs m hm, p⟩ : View.Piece (Elt F) S8x4x64x512 .bf16) :: L))
      = M.view.readAt (Elt F) (winRect s hs k hk).toLoadRect (M.view.writes (Elt F) f L) := by
  funext j
  have hj : (j 1).val < 1 := (j 1).isLt
  exact View.read_writes_cons_unit_of_not_mem M.view f (inbWin s hs m hm) p L ((winRect s hs k hk).emb j) rfl (1 : Fin 4)
    (by show k + 1 * (j 1).val < m ∨ m + 1 ≤ k + 1 * (j 1).val; omega)

/-- Two halves stored into a row are what its halves read. -/
theorem rowReads_of_pieces (M : PlaneM) (c : Dev nD) (i : ℕ) (hi : i < 4) (f : Buf (Elt F) (M.view.loc (c : Thread nD τ))) {YR YL p0 p1 : Vec F S1x64x512 .bf16} (e0 : p0 = YR) (e1 : p1 = YL) (L : List (View.Piece (Elt F) S4x64x1024 .bf16)) :
    RowReads M c i hi YR YL (M.view.writes (Elt F) f ((⟨halfRect i hi 512 (by decide), p1⟩ : View.Piece (Elt F) S4x64x1024 .bf16) :: (⟨halfRect i hi 0 (by decide), p0⟩ : View.Piece (Elt F) S4x64x1024 .bf16) :: L)) := by
  subst e0; subst e1
  have hit : ∀ (o : ℕ) (ho : o ≤ 512) (p) (L), M.view.readAt (Elt F) (halfRect i hi o ho).toLoadRect (M.view.writes (Elt F) f ((⟨halfRect i hi o ho, p⟩ : View.Piece (Elt F) S4x64x1024 .bf16) :: L)) = p := by
    intro o ho p L; funext j
    exact View.read_writes_cons_unit_of_mem M.view f (inbHalf i hi o ho) p L ((halfRect i hi o ho).emb j) j rfl (fun a => by show _ + 1 * _ = _; rw [Nat.one_mul]; rfl)
  refine ⟨?_, hit 512 _ _ _⟩
  refine Eq.trans ?_ (hit 0 (by decide) p0 L)
  funext j
  have hj : (j 2).val < 512 := (j 2).isLt
  exact View.read_writes_cons_unit_of_not_mem M.view f (inbHalf i hi 512 (by decide)) p1 _ ((halfRect i hi 0 (by decide)).emb j) rfl (2 : Fin 3)
    (.inl (by show 0 + 1 * (j 2).val < 512; omega))

/-- The row of zeros, read. -/
theorem rowReads_zero (c : Dev nD) (i : ℕ) (hi : i < 4) (f : Buf (Elt F) (v2M.view.loc (c : Thread nD τ))) :
    RowReads v2M c i hi zeroRow zeroRow (v2M.view.writes (Elt F) f [(⟨Rect.unit (s := S4x64x1024) ![0, 0, 0] S4x64x1024.size inb_S4x64x1024_S4x64x1024_0_0_0, k0_pay2⟩ : View.Piece (Elt F) S4x64x1024 .bf16)]) := by
  have all : ∀ y : S4x64x1024.Idx, v2M.view.read (Elt F) (v2M.view.writes (Elt F) f [(⟨Rect.unit (s := S4x64x1024) ![0, 0, 0] S4x64x1024.size inb_S4x64x1024_S4x64x1024_0_0_0, k0_pay2⟩ : View.Piece (Elt F) S4x64x1024 .bf16)]) y
      = Scalar.ofBits .bf16 0x0000#16 := by
    intro y
    rw [View.read_writes_cons_unit_of_mem v2M.view f inb_S4x64x1024_S4x64x1024_0_0_0 k0_pay2 [] y y rfl (fun a => match a with
      | ⟨0, _⟩ => (Nat.zero_add _).symm | ⟨1, _⟩ => (Nat.zero_add _).symm | ⟨2, _⟩ => (Nat.zero_add _).symm)]
    rfl
  exact ⟨funext fun j => all _, funext fun j => all _⟩

/-- The result's buffer does not depend on what it held. -/
theorem out_eq (c : Dev nD) (f : Buf (Elt F) (oM.view.loc (c : Thread nD τ))) {a b : FVec F S64x512 .f32} (ea : a = outL B c) (eb : b = outR B c) (L : List (View.Piece (Elt F) S64x1024 .f32)) :
    oM.view.writes (Elt F) f ((⟨Rect.unit (s := S64x1024) ![0, 512] S64x512.size inb_S64x1024_S64x512_0_512, a⟩ : View.Piece (Elt F) S64x1024 .f32) ::
      (⟨Rect.unit (s := S64x1024) ![0, 0] S64x512.size inb_S64x1024_S64x512_0_0, b⟩ : View.Piece (Elt F) S64x1024 .f32) :: L) = outBuf B c := by
  subst ea; subst eb
  have e : ∀ (g : (cc0_stg4_0 : Ref sig .tc).ty.Contents (Elt F)), oM.view.read (Elt F) g = g := fun g => rfl
  refine (e _).symm.trans (Eq.trans ?_ (e _))
  funext y
  unfold outBuf
  have hy1 : (y 1).val < 1024 := (y 1).isLt
  by_cases h : 512 ≤ (y 1).val
  · let x : S64x512.Idx := fun a => match a with | ⟨0, _⟩ => y 0 | ⟨1, _⟩ => (⟨(y 1).val - 512, by omega⟩ : Fin 512)
    have hx : ∀ a, (y a).val = (![0, 512] : Fin 2 → ℕ) a + (x a).val := fun a => match a with | ⟨0, _⟩ => (Nat.zero_add _).symm | ⟨1, _⟩ => (by show (y 1).val = 512 + ((y 1).val - 512); omega)
    exact (View.read_writes_cons_unit_of_mem (Val := Elt F) oM.view _ inb_S64x1024_S64x512_0_512 (outL B c) _ y x rfl hx).trans
      (View.read_writes_cons_unit_of_mem (Val := Elt F) oM.view _ inb_S64x1024_S64x512_0_512 (outL B c) _ y x rfl hx).symm
  · let x : S64x512.Idx := fun a => match a with | ⟨0, _⟩ => y 0 | ⟨1, _⟩ => (⟨(y 1).val, by omega⟩ : Fin 512)
    have hx : ∀ a, (y a).val = (![0, 0] : Fin 2 → ℕ) a + (x a).val := fun a => match a with | ⟨0, _⟩ => (Nat.zero_add _).symm | ⟨1, _⟩ => (Nat.zero_add _).symm
    have hm : (y (1 : Fin 2)).val < (![0, 512] : Fin 2 → ℕ) 1 ∨ (![0, 512] : Fin 2 → ℕ) 1 + S64x512.size 1 ≤ (y (1 : Fin 2)).val := .inl (by show (y 1).val < 512; omega)
    exact ((View.read_writes_cons_unit_of_not_mem (Val := Elt F) oM.view _ inb_S64x1024_S64x512_0_512 (outL B c) _ y rfl (1 : Fin 2) hm).trans
        (View.read_writes_cons_unit_of_mem (Val := Elt F) oM.view _ inb_S64x1024_S64x512_0_0 (outR B c) _ y x rfl hx)).trans
      ((View.read_writes_cons_unit_of_not_mem (Val := Elt F) oM.view _ inb_S64x1024_S64x512_0_512 (outL B c) _ y rfl (1 : Fin 2) hm).trans
        (View.read_writes_cons_unit_of_mem (Val := Elt F) oM.view _ inb_S64x1024_S64x512_0_0 (outR B c) _ y x rfl hx)).symm

end Cert.KProof
end
-- ==== Proof.Close.lean ====
module

public import proofs.«01_k».proof.Proof.Spec
/-!
# The end of a device's body

The buffers put together again, and what the exchange between planes starts from.
-/
@[expose] public section

set_option maxRecDepth 16384

noncomputable section

namespace Cert.KProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (B : Bufs F)

/-- A finished half, from the block it adds and the part that arrived. -/
theorem half_eq {A A' : FVec F S256x512 .f32} {v v' : Vec F S1x1x64x512 .bf16} (zz : Fin 4) (hA : A = A') (hv : v = v') :
    fin1 v (sl zz A) = fin1 v' (sl zz A') := by subst hA; subst hv; rfl

/-- The cells of step `s`, done, and the slots it sent from. -/
theorem hop_close (c : Dev nD) (s : ℕ) (hs : s < 8) :
    (iprop(semVal (dcell c s) 0 ∗ semVal (dcell c (8 + (s + 1))) 0 ∗ semVal (dcell c (16 + s)) 0 ∗ semVal (dcell c (24 + (s + 1))) 0
      ∗ slotAny rM c s hs ∗ slotAny lM c s hs) : sProp 𝕄) ⊢ hopOut c s hs := .rfl

/-- The cells of step `s`, done. -/
def hopV (c : Dev nD) (s : ℕ) : sProp 𝕄 :=
  iprop(semVal (dcell c s) 0 ∗ semVal (dcell c (8 + (s + 1))) 0 ∗ semVal (dcell c (16 + s)) 0 ∗ semVal (dcell c (24 + (s + 1))) 0)
/-- The rings' buffers whole again and their cells done. -/
def ringOut (c : Dev nD) : sProp 𝕄 :=
  iprop((∃ g, rM.view.loc (c : Thread nD τ) ↦{fullShare} g) ∗ (∃ g, lM.view.loc (c : Thread nD τ) ↦{fullShare} g)
    ∗ hopV c 0 ∗ hopV c 1 ∗ hopV c 2 ∗ hopV c 3 ∗ hopV c 4 ∗ hopV c 5 ∗ hopV c 6)

theorem ring_close (c : Dev nD) (fr : Buf (Elt F) (rM.view.loc (c : Thread nD τ))) (fl : Buf (Elt F) (lM.view.loc (c : Thread nD τ))) :
    (iprop(hopOut c 0 (by decide) ∗ hopOut c 1 (by decide) ∗ hopOut c 2 (by decide) ∗ hopOut c 3 (by decide) ∗ hopOut c 4 (by decide) ∗ hopOut c 5 (by decide) ∗ hopOut c 6 (by decide)
      ∗ slotPts rM c 7 (by decide) fr ∗ slotPts lM c 7 (by decide) fl) : sProp 𝕄) ⊢ ringOut c := by
  unfold hopOut ringOut hopV
  iintro ⟨⟨A0, B0, C0, D0, R0, L0⟩, ⟨A1, B1, C1, D1, R1, L1⟩, ⟨A2, B2, C2, D2, R2, L2⟩, ⟨A3, B3, C3, D3, R3, L3⟩, ⟨A4, B4, C4, D4, R4, L4⟩, ⟨A5, B5, C5, D5, R5, L5⟩, ⟨A6, B6, C6, D6, R6, L6⟩, R7, L7⟩
  isplitl [R0 R1 R2 R3 R4 R5 R6 R7]
  · iapply (slots_join rM (View.set_whole _) c)
    unfold slots17
    isplitl [R0]; · iexact R0
    isplitl [R1]; · iexact R1
    isplitl [R2]; · iexact R2
    isplitl [R3]; · iexact R3
    isplitl [R4]; · iexact R4
    isplitl [R5]; · iexact R5
    isplitl [R6]; · iexact R6
    unfold slotAny; iexists fr; iexact R7
  isplitl [L0 L1 L2 L3 L4 L5 L6 L7]
  · iapply (slots_join lM (View.set_whole _) c)
    unfold slots17
    isplitl [L0]; · iexact L0
    isplitl [L1]; · iexact L1
    isplitl [L2]; · iexact L2
    isplitl [L3]; · iexact L3
    isplitl [L4]; · iexact L4
    isplitl [L5]; · iexact L5
    isplitl [L6]; · iexact L6
    unfold slotAny; iexists fl; iexact L7
  isplitl [A0 B0 C0 D0]
  · isplitl [A0]; · iexact A0
    isplitl [B0]; · iexact B0
    isplitl [C0]; · iexact C0
    iexact D0
  isplitl [A1 B1 C1 D1]
  · isplitl [A1]; · iexact A1
    isplitl [B1]; · iexact B1
    isplitl [C1]; · iexact C1
    iexact D1
  isplitl [A2 B2 C2 D2]
  · isplitl [A2]; · iexact A2
    isplitl [B2]; · iexact B2
    isplitl [C2]; · iexact C2
    iexact D2
  isplitl [A3 B3 C3 D3]
  · isplitl [A3]; · iexact A3
    isplitl [B3]; · iexact B3
    isplitl [C3]; · iexact C3
    iexact D3
  isplitl [A4 B4 C4 D4]
  · isplitl [A4]; · iexact A4
    isplitl [B4]; · iexact B4
    isplitl [C4]; · iexact C4
    iexact D4
  isplitl [A5 B5 C5 D5]
  · isplitl [A5]; · iexact A5
    isplitl [B5]; · iexact B5
    isplitl [C5]; · iexact C5
    iexact D5
  isplitl [A6]; · iexact A6
  isplitl [B6]; · iexact B6
  isplitl [C6]; · iexact C6
  iexact D6
/-- The cells of the exchange with plane `i`, done. -/
def planeOut (c : Dev nD) (i : ℕ) : sProp 𝕄 := iprop(semVal (dcell c (32 + i)) 0 ∗ semVal (dcell c (36 + i)) 0)

/-- What the exchange with another plane starts from. -/
theorem plane_open (c : Dev nD) (i : ℕ) (hi : i < 4) (h : (⟨i, hi⟩ : Fin 4) ≠ zOf c) : (planeIn c ⟨i, hi⟩ : sProp 𝕄) ⊢
    iprop(atPos ER (dcell c (32 + i)) 0 ∅ 0 ∗ atPos ER (dcell c (36 + i)) 0 ∅ 0
      ∗ dutyTok ER (dcell c (32 + i)) 0 0 ∗ dutyTok ER (dcell (pl ⟨i, hi⟩ c) (36 + (zOf c).val)) 0 0 ∗ cred (tallyAt (dcell c (36 + i)) () N2)) := by
  unfold planeIn; rw [if_neg h]
/-- A device's own plane takes part in no transfer. -/
theorem plane_own (c : Dev nD) (i : ℕ) (hi : i < 4) (h : (⟨i, hi⟩ : Fin 4) = zOf c) : (planeIn c ⟨i, hi⟩ : sProp 𝕄) ⊢
    iprop(atPos ER (dcell c (32 + i)) 0 ∅ 0 ∗ atPos ER (dcell c (36 + i)) 0 ∅ 0) := by
  unfold planeIn; rw [if_pos h]
  iintro ⟨A, B, -⟩
  isplitl [A]; · iexact A
  iexact B
/-- The row of a named plane. -/
theorem row_at (c : Dev nD) {j i : Fin 4} (h : j = i) : (rowAny v2M (pl j c) (zOf c).val (zOf c).isLt : sProp 𝕄) ⊢ rowAny v2M (pl i c) (zOf c).val (zOf c).isLt := by
  subst h; exact .rfl
/-- What is owed after the rings. -/
theorem owes_planes (c : Dev nD) : (owesAny c (Oat c (6 + 1)) : sProp 𝕄) ⊢ owesAny c ((((0 + P2 c ⟨3, by decide⟩) + P2 c ⟨2, by decide⟩) + P2 c ⟨1, by decide⟩) + P2 c ⟨0, by decide⟩) := by
  rw [zero_add]; exact .rfl
/-- A device owes its own plane nothing. -/
theorem owes_own (c : Dev nD) (O : CellTallies nD τ sig Unit) (i : ℕ) (hi : i < 4) (h : (⟨i, hi⟩ : Fin 4) = zOf c) : (owesAny c (O + P2 c ⟨i, hi⟩) : sProp 𝕄) ⊢ owesAny c O := by
  unfold P2; rw [if_pos h, add_zero]

/-- A device's own row holds zeros. -/
theorem own_zero (c : Dev nD) (i : ℕ) (hi : i < 4) (h : (⟨i, hi⟩ : Fin 4) = zOf c) (f : Buf (Elt F) (v2M.view.loc (c : Thread nD τ))) :
    (rowPts v2M c (zOf c).val (zOf c).isLt (v2M.view.writes (Elt F) f [(⟨Rect.unit (s := S4x64x1024) ![0, 0, 0] S4x64x1024.size inb_S4x64x1024_S4x64x1024_0_0_0, k0_pay2⟩ : View.Piece (Elt F) S4x64x1024 .bf16)]) : sProp 𝕄)
      ⊢ rowIs v2M c i hi zeroRow zeroRow := by
  rw [← h]
  unfold rowIs
  iintro H
  iexists _
  isplitr [H]; swap; · iexact H
  ipureintro
  exact rowReads_zero c i hi f
theorem inR_own (c : Dev nD) (i : Fin 4) (h : i = zOf c) : zeroRow = inR B c i := by unfold inR; rw [if_pos h]
theorem inL_own (c : Dev nD) (i : Fin 4) (h : i = zOf c) : zeroRow = inL B c i := by unfold inL; rw [if_pos h]
theorem inR_other (c : Dev nD) (i : Fin 4) (h : i ≠ zOf c) : put2 (FR B (pl i c) (zOf c)) = inR B c i := by unfold inR; rw [if_neg h]
theorem inL_other (c : Dev nD) (i : Fin 4) (h : i ≠ zOf c) : put2 (FL B (pl i c) (zOf c)) = inL B c i := by unfold inL; rw [if_neg h]
/-- A row at known contents is a row. -/
theorem row_any (M : PlaneM) (c : Dev nD) (i : ℕ) (hi : i < 4) (f : Buf (Elt F) (M.view.loc (c : Thread nD τ))) : (rowPts M c i hi f : sProp 𝕄) ⊢ rowAny M c i hi := by
  unfold rowAny; iintro H; iexists f; iexact H

/-- The result's left-hand columns, from the device's own parts and what arrived. -/
theorem outR_eq (c : Dev nD) {z : BitVec 32} (hz : z = zW c) {f0 f1 f2 f3 : FVec F S64x512 .f32} {i0 i1 i2 i3 : Vec F S1x64x512 .bf16} (h0 : f0 = FR B c 0) (h1 : f1 = FR B c 1) (h2 : f2 = FR B c 2) (h3 : f3 = FR B c 3)
    (e0 : i0 = inR B c 0) (e1 : i1 = inR B c 1) (e2 : i2 = inR B c 2) (e3 : i3 = inR B c 3) :
    k0_pay337 z (k0_pay331 z (k0_pay327 z f0 f1 f2 f3) (k0_pay329 (F := F) z) i0 i1) (k0_pay333 (F := F) z) (k0_pay334 i2) i3 = outR B c := by
  subst hz; subst h0; subst h1; subst h2; subst h3; subst e0; subst e1; subst e2; subst e3; rfl
/-- The result's right-hand columns, likewise. -/
theorem outL_eq (c : Dev nD) {z : BitVec 32} (hz : z = zW c) {f0 f1 f2 f3 : FVec F S64x512 .f32} {i0 i1 i2 i3 : Vec F S1x64x512 .bf16} (h0 : f0 = FL B c 0) (h1 : f1 = FL B c 1) (h2 : f2 = FL B c 2) (h3 : f3 = FL B c 3)
    (e0 : i0 = inL B c 0) (e1 : i1 = inL B c 1) (e2 : i2 = inL B c 2) (e3 : i3 = inL B c 3) :
    k0_pay1 (k0_pay335 (k0_pay332 z (k0_pay328 z f0 f1 f2 f3) (k0_pay329 (F := F) z) i0 i1) (k0_pay333 (F := F) z) i2) (k0_pay336 (F := F) z) i3 = outL B c := by
  subst hz; subst h0; subst h1; subst h2; subst h3; subst e0; subst e1; subst e2; subst e3; rfl

/-- What a device's body leaves. -/
def runOut (c : Dev nD) : sProp 𝕄 :=
  iprop((xM.view.loc (c : Thread nD τ) ↦{fullShare} B.x c) ∗ (rwM.view.loc (c : Thread nD τ) ↦{fullShare} B.rw c) ∗ (ixM.view.loc (c : Thread nD τ) ↦{fullShare} B.ix c) ∗ (ewM.view.loc (c : Thread nD τ) ↦{fullShare} B.ew c)
    ∗ (oM.view.loc (c : Thread nD τ) ↦{fullShare} outBuf B c) ∗ (∃ g, coM.view.loc (c : Thread nD τ) ↦{fullShare} g) ∗ (∃ g, xgM.view.loc (c : Thread nD τ) ↦{fullShare} g) ∗ (∃ g, cgM.view.loc (c : Thread nD τ) ↦{fullShare} g)
    ∗ (∃ g, s2M.view.loc (c : Thread nD τ) ↦{fullShare} g) ∗ (∃ g, v2M.view.loc (c : Thread nD τ) ↦{fullShare} g)
    ∗ owesAny c 0 ∗ semVal (bcell c) 0 ∗ ringOut c ∗ idleOut c ∗ planeOut c 0 ∗ planeOut c 1 ∗ planeOut c 2 ∗ planeOut c 3)

end Cert.KProof
end
-- ==== Proof.Run.lean ====
module

public import proofs.«01_k».proof.Proof.Close
/-!
# One device's body

The body at a symbolic device, from the staged arrays and the ghost state to the result's buffer.
-/
@[expose] public section

set_option maxRecDepth 16384

noncomputable section

namespace Cert.KProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (B : Bufs F) (K : Dev nD × Fin 41 → ℕ)

set_option maxHeartbeats 80000000 in
/-- One device's body, from what the launch deals it to its end: the buffers it owns, whatever they hold, the tokens and
    credits of its cells, and its arguments; at the end the result buffer holds `outBuf B c`. -/
theorem run {Q : PUnit → sProp 𝕄} (c : Dev nD) (fo : Buf (Elt F) (oM.view.loc (c : Thread nD τ)))
    (fco : Buf (Elt F) (coM.view.loc (c : Thread nD τ))) (fxg : Buf (Elt F) (xgM.view.loc (c : Thread nD τ))) (fcg : Buf (Elt F) (cgM.view.loc (c : Thread nD τ)))
    (gr : Buf (Elt F) (rM.view.loc (c : Thread nD τ))) (gl : Buf (Elt F) (lM.view.loc (c : Thread nD τ))) (gs : Buf (Elt F) (s2M.view.loc (c : Thread nD τ))) (gv : Buf (Elt F) (v2M.view.loc (c : Thread nD τ))) :
    iprop(records (cont B) K
      ∗ (xM.view.loc (c : Thread nD τ) ↦{fullShare} B.x c) ∗ (rwM.view.loc (c : Thread nD τ) ↦{fullShare} B.rw c) ∗ (ixM.view.loc (c : Thread nD τ) ↦{fullShare} B.ix c) ∗ (ewM.view.loc (c : Thread nD τ) ↦{fullShare} B.ew c)
      ∗ (oM.view.loc (c : Thread nD τ) ↦{fullShare} fo) ∗ (coM.view.loc (c : Thread nD τ) ↦{fullShare} fco) ∗ (xgM.view.loc (c : Thread nD τ) ↦{fullShare} fxg) ∗ (cgM.view.loc (c : Thread nD τ) ↦{fullShare} fcg)
      ∗ (rM.view.loc (c : Thread nD τ) ↦{fullShare} gr) ∗ (lM.view.loc (c : Thread nD τ) ↦{fullShare} gl)
      ∗ (s2M.view.loc (c : Thread nD τ) ↦{fullShare} gs) ∗ (v2M.view.loc (c : Thread nD τ) ↦{fullShare} gv) ∗ owesAny c (O₀ c) ∗ barIn c
      ∗ (hopIn c 0 ∗ hopIn c 1 ∗ hopIn c 2 ∗ hopIn c 3 ∗ hopIn c 4 ∗ hopIn c 5 ∗ hopIn c 6) ∗ idleIn c
      ∗ (planeIn c ⟨0, by decide⟩ ∗ planeIn c ⟨1, by decide⟩ ∗ planeIn c ⟨2, by decide⟩ ∗ planeIn c ⟨3, by decide⟩) ∗ (runOut B c -∗ Q ⟨⟩))
    ⊢ wp frame (wpE (defs₀ (F := F)) 𝒱₀ (c : Thread nD τ) none) Set.univ
      (cc0_body xM (Memref.isWhole_whole _) rwM (Memref.isWhole_whole _) ixM (Memref.isWhole_whole _) ewM (Memref.isWhole_whole _) oM (Memref.isWhole_whole _)
        coM (Memref.isWhole_whole _) xgM (Memref.isWhole_whole _) cgM (Memref.isWhole_whole _) rM (Memref.isWhole_whole _) lM (Memref.isWhole_whole _) s2M (Memref.isWhole_whole _) v2M (Memref.isWhole_whole _)
        cc0_scratch7 cc0_scratch8 cc0_scratch9 cc0_scratch10 cc0_scratch11 cc0_scratch12) Q := by
  unfold cc0_body
  iintro ⟨#HR, Hx, Hrw, Hix, Hew, Ho, Hco, Hxg, Hcg, Hr, Hl, Hs2, Hv2, HO, Hbar, ⟨Hh0, Hh1, Hh2, Hh3, Hh4, Hh5, Hh6⟩, Hidle, ⟨Hz0, Hz1, Hz2, Hz3⟩, HQ⟩
  ihave Hr := (slots_split rM (View.set_whole _) c gr) $$ Hr
  icases Hr with ⟨Hr0, Hr17⟩
  ihave Hl := (slots_split lM (View.set_whole _) c gl) $$ Hl
  icases Hl with ⟨Hl0, Hl17⟩
  unfold slotPts barIn
  icases Hbar with ⟨Ht1, Ht2, Ht3, Ht4, Ht5, Hbat, Hbc⟩
  sl_exec
  ihave Hv2 := (rows_hand c _) $$ Hv2
  icases Hv2 with ⟨Hv2, Hp3, Hp4, Hp5⟩
  ihave Hr17 := (hand_right c) $$ Hr17
  ihave Hl17 := (hand_left c) $$ Hl17
  ihave HO := (owes_start c) $$ HO
  iapply (step_signal (cont B) K c (prv c) 0 _ (dev1_eq c) (1#32).toInt (by decide) _) $$ [HO Ht1 Hr17]
  · isplitr; · iexact HR
    isplitl [HO]; · iexact HO
    isplitl [Ht1]; · iexact Ht1
    iexact Hr17
  iintro HO
  sl_exec
  iapply (step_signal (cont B) K c (nxt c) 1 _ (dev2_eq c) (1#32).toInt (by decide) _) $$ [HO Ht2 Hl17]
  · isplitr; · iexact HR
    isplitl [HO]; · iexact HO
    isplitl [Ht2]; · iexact Ht2
    iexact Hl17
  iintro HO
  sl_exec
  iapply (step_signal (cont B) K c _ 4 _ (dev3_eq c) (1#32).toInt (by decide) _) $$ [HO Ht3 Hp3]
  · isplitr; · iexact HR
    isplitl [HO]; · iexact HO
    isplitl [Ht3]; · iexact Ht3
    iexact Hp3
  iintro HO
  sl_exec
  iapply (step_signal (cont B) K c _ 3 _ (dev4_eq c) (1#32).toInt (by decide) _) $$ [HO Ht4 Hp4]
  · isplitr; · iexact HR
    isplitl [HO]; · iexact HO
    isplitl [Ht4]; · iexact Ht4
    iexact Hp4
  iintro HO
  sl_exec
  iapply (step_signal (cont B) K c _ 2 _ (dev5_eq c) (1#32).toInt (by decide) _) $$ [HO Ht5 Hp5]
  · isplitr; · iexact HR
    isplitl [HO]; · iexact HO
    isplitl [Ht5]; · iexact Ht5
    iexact Hp5
  iintro HO
  sl_exec
  iapply (step_barrier (cont B) K c (5#32).toInt (by decide) (Ohop c 7) (Above.Ohop c 7 1 (by decide) (by decide))) $$ [HO Hbat Hbc]
  · isplitr; · iexact HR
    isplitl [Hbc]; · iexact Hbc
    isplitl [HO]; · iexact HO
    iexact Hbat
  iintro ⟨HO, Hbv, Hrn, Hlp, Hq1, Hq2, Hq3⟩
  unfold slots17
  icases Hrn with ⟨Hrn1, Hrn2, Hrn3, Hrn4, Hrn5, Hrn6, Hrn7⟩
  icases Hlp with ⟨Hlp1, Hlp2, Hlp3, Hlp4, Hlp5, Hlp6, Hlp7⟩
  sl_exec
  ihave Hh0 := (hop_open c 0) $$ Hh0
  icases Hh0 with ⟨Ta, Tb, Tc, Td, Pa, Pb, Pc, Pd, Cb, Cd⟩
  iapply (hop_send_r (cont B) K c 0 1 (by decide) rfl _ (dev6_eq c)) $$ [Hr0 Hrn1 HO Ta Tb]
  · isplitr; · iexact HR
    isplitl [Hr0]
    · unfold slotIs slotPts
      iexists _
      isplitr [Hr0]; swap; · iexact Hr0
      ipureintro
      refine reads_first (h := slices_S512x1024_o0_0_S512x512) (fx := B.x c) (K := colsOf B c) (W := wE (B.ew c)) (q := qR c 0) ?_ ?_ ?_ ?_ ?_ ?_ ?_ ?_ (fun _ => rfl) rM c 0 (by decide) _
      · exact xg_eq (B.x c) (qR c 0) (off1_eq c 0) (off1_eq c 1) (off1_eq c 2) (off1_eq c 3) _ _ _ _ _ _
      · exact xg_eq (B.x c) (qR c 0) (off1_eq c 0) (off1_eq c 1) (off1_eq c 2) (off1_eq c 3) _ _ _ _ _ _
      · exact xg_eq (B.x c) (qR c 0) (off1_eq c 0) (off1_eq c 1) (off1_eq c 2) (off1_eq c 3) _ _ _ _ _ _
      · exact xg_eq (B.x c) (qR c 0) (off1_eq c 0) (off1_eq c 1) (off1_eq c 2) (off1_eq c 3) _ _ _ _ _ _
      · refine cg_eq (colsOf B c) (qR c 0) 0 ?_ ?_ ?_ ?_ _ _ _ _ _ _
        · exact gRow_eq (colsOf B c) _ (qR c 0) 0 (off2_eq c 0) _ _ _ _
        · exact gRow_eq (colsOf B c) _ (qR c 0) 1 (off2_eq c 1) _ _ _ _
        · exact gRow_eq (colsOf B c) _ (qR c 0) 2 (off2_eq c 2) _ _ _ _
        · exact gRow_eq (colsOf B c) _ (qR c 0) 3 (off2_eq c 3) _ _ _ _
      · refine cg_eq (colsOf B c) (qR c 0) 1 ?_ ?_ ?_ ?_ _ _ _ _ _ _
        · exact gRow_eq (colsOf B c) _ (qR c 0) 0 (off2_eq c 0) _ _ _ _
        · exact gRow_eq (colsOf B c) _ (qR c 0) 1 (off2_eq c 1) _ _ _ _
        · exact gRow_eq (colsOf B c) _ (qR c 0) 2 (off2_eq c 2) _ _ _ _
        · exact gRow_eq (colsOf B c) _ (qR c 0) 3 (off2_eq c 3) _ _ _ _
      · refine cg_eq (colsOf B c) (qR c 0) 2 ?_ ?_ ?_ ?_ _ _ _ _ _ _
        · exact gRow_eq (colsOf B c) _ (qR c 0) 0 (off2_eq c 0) _ _ _ _
        · exact gRow_eq (colsOf B c) _ (qR c 0) 1 (off2_eq c 1) _ _ _ _
        · exact gRow_eq (colsOf B c) _ (qR c 0) 2 (off2_eq c 2) _ _ _ _
        · exact gRow_eq (colsOf B c) _ (qR c 0) 3 (off2_eq c 3) _ _ _ _
      · refine cg_eq (colsOf B c) (qR c 0) 3 ?_ ?_ ?_ ?_ _ _ _ _ _ _
        · exact gRow_eq (colsOf B c) _ (qR c 0) 0 (off2_eq c 0) _ _ _ _
        · exact gRow_eq (colsOf B c) _ (qR c 0) 1 (off2_eq c 1) _ _ _ _
        · exact gRow_eq (colsOf B c) _ (qR c 0) 2 (off2_eq c 2) _ _ _ _
        · exact gRow_eq (colsOf B c) _ (qR c 0) 3 (off2_eq c 3) _ _ _ _
    isplitl [Hrn1]; · iexact Hrn1
    isplitl [HO]; · iexact HO
    isplitl [Ta]; · iexact Ta
    iexact Tb
  iintro ⟨Ca, HO⟩
  sl_exec
  iapply (hop_send_l (cont B) K c 0 1 (by decide) rfl _ (dev7_eq c)) $$ [Hl0 Hlp1 HO Tc Td]
  · isplitr; · iexact HR
    isplitl [Hl0]
    · unfold slotIs slotPts
      iexists _
      isplitr [Hl0]; swap; · iexact Hl0
      ipureintro
      refine reads_first (h := slices_S512x1024_o0_512_S512x512) (fx := B.x c) (K := colsOf B c) (W := wE (B.ew c)) (q := qL c 0) ?_ ?_ ?_ ?_ ?_ ?_ ?_ ?_ (fun _ => rfl) lM c 0 (by decide) _
      · exact xg_eq (B.x c) (qL c 0) (off3_eq c 0) (off3_eq c 1) (off3_eq c 2) (off3_eq c 3) _ _ _ _ _ _
      · exact xg_eq (B.x c) (qL c 0) (off3_eq c 0) (off3_eq c 1) (off3_eq c 2) (off3_eq c 3) _ _ _ _ _ _
      · exact xg_eq (B.x c) (qL c 0) (off3_eq c 0) (off3_eq c 1) (off3_eq c 2) (off3_eq c 3) _ _ _ _ _ _
      · exact xg_eq (B.x c) (qL c 0) (off3_eq c 0) (off3_eq c 1) (off3_eq c 2) (off3_eq c 3) _ _ _ _ _ _
      · refine cg_eq (colsOf B c) (qL c 0) 0 ?_ ?_ ?_ ?_ _ _ _ _ _ _
        · exact gRow_eq (colsOf B c) _ (qL c 0) 0 (off4_eq c 0) _ _ _ _
        · exact gRow_eq (colsOf B c) _ (qL c 0) 1 (off4_eq c 1) _ _ _ _
        · exact gRow_eq (colsOf B c) _ (qL c 0) 2 (off4_eq c 2) _ _ _ _
        · exact gRow_eq (colsOf B c) _ (qL c 0) 3 (off4_eq c 3) _ _ _ _
      · refine cg_eq (colsOf B c) (qL c 0) 1 ?_ ?_ ?_ ?_ _ _ _ _ _ _
        · exact gRow_eq (colsOf B c) _ (qL c 0) 0 (off4_eq c 0) _ _ _ _
        · exact gRow_eq (colsOf B c) _ (qL c 0) 1 (off4_eq c 1) _ _ _ _
        · exact gRow_eq (colsOf B c) _ (qL c 0) 2 (off4_eq c 2) _ _ _ _
        · exact gRow_eq (colsOf B c) _ (qL c 0) 3 (off4_eq c 3) _ _ _ _
      · refine cg_eq (colsOf B c) (qL c 0) 2 ?_ ?_ ?_ ?_ _ _ _ _ _ _
        · exact gRow_eq (colsOf B c) _ (qL c 0) 0 (off4_eq c 0) _ _ _ _
        · exact gRow_eq (colsOf B c) _ (qL c 0) 1 (off4_eq c 1) _ _ _ _
        · exact gRow_eq (colsOf B c) _ (qL c 0) 2 (off4_eq c 2) _ _ _ _
        · exact gRow_eq (colsOf B c) _ (qL c 0) 3 (off4_eq c 3) _ _ _ _
      · refine cg_eq (colsOf B c) (qL c 0) 3 ?_ ?_ ?_ ?_ _ _ _ _ _ _
        · exact gRow_eq (colsOf B c) _ (qL c 0) 0 (off4_eq c 0) _ _ _ _
        · exact gRow_eq (colsOf B c) _ (qL c 0) 1 (off4_eq c 1) _ _ _ _
        · exact gRow_eq (colsOf B c) _ (qL c 0) 2 (off4_eq c 2) _ _ _ _
        · exact gRow_eq (colsOf B c) _ (qL c 0) 3 (off4_eq c 3) _ _ _ _
    isplitl [Hlp1]; · iexact Hlp1
    isplitl [HO]; · iexact HO
    isplitl [Tc]; · iexact Tc
    iexact Td
  iintro ⟨Cc, HO⟩
  sl_exec
  iapply (hop_wait_sr (a := 1) (b := 0) (ha := by decide) (hb := by decide) (cont B) K c 0 (by decide)) $$ [HO Ca Pa]
  · isplitr; · iexact HR
    isplitl [Ca]; · iexact Ca
    isplitl [HO]; · iexact HO
    iexact Pa
  iintro ⟨HO, Va0, Hro0⟩
  sl_exec
  iapply (hop_wait_vr (a := 0) (b := 1) (ha := by decide) (hb := by decide) (cont B) K c 0 1 (by decide) rfl) $$ [HO Cb Pb]
  · isplitr; · iexact HR
    isplitl [Cb]; · iexact Cb
    isplitl [HO]; · iexact HO
    iexact Pb
  iintro ⟨HO, Vb0, Hr1⟩
  unfold slotIs
  icases Hr1 with ⟨%fr1, %hr, Hr1⟩
  unfold slotPts
  sl_exec
  iapply (hop_wait_sl (a := 1) (b := 0) (ha := by decide) (hb := by decide) (cont B) K c 0 (by decide)) $$ [HO Cc Pc]
  · isplitr; · iexact HR
    isplitl [Cc]; · iexact Cc
    isplitl [HO]; · iexact HO
    iexact Pc
  iintro ⟨HO, Vc0, Hlo0⟩
  sl_exec
  iapply (hop_wait_vl (a := 0) (b := 1) (ha := by decide) (hb := by decide) (cont B) K c 0 1 (by decide) rfl) $$ [HO Cd Pd]
  · isplitr; · iexact HR
    isplitl [Cd]; · iexact Cd
    isplitl [HO]; · iexact HO
    iexact Pd
  iintro ⟨HO, Vd0, Hl1⟩
  unfold slotIs
  icases Hl1 with ⟨%fl1, %hl, Hl1⟩
  unfold slotPts
  sl_exec
  ihave Hg0 := (hop_close c 0 (by decide)) $$ [Va0 Vb0 Vc0 Vd0 Hro0 Hlo0]
  · isplitl [Va0]; · iexact Va0
    isplitl [Vb0]; · iexact Vb0
    isplitl [Vc0]; · iexact Vc0
    isplitl [Vd0]; · iexact Vd0
    isplitl [Hro0]; · iexact Hro0
    iexact Hlo0
  ihave Hh1 := (hop_open c 1) $$ Hh1
  icases Hh1 with ⟨Ta, Tb, Tc, Td, Pa, Pb, Pc, Pd, Cb, Cd⟩
  iapply (hop_send_r (cont B) K c 1 2 (by decide) rfl _ (dev8_eq c)) $$ [Hr1 Hrn2 HO Ta Tb]
  · isplitr; · iexact HR
    isplitl [Hr1]
    · unfold slotIs slotPts
      iexists _
      isplitr [Hr1]; swap; · iexact Hr1
      ipureintro
      refine reads_step (h := slices_S512x1024_o0_0_S512x512) (fx := B.x c) (K := colsOf B c) (W := wE (B.ew c)) (q := qR c 1) (V := YR B 0 (prv c)) ?_ ?_ ?_ ?_ ?_ ?_ ?_ ?_ ?_ ?_ ?_ ?_ (fun _ => rfl) rM c 1 (by decide) _
      · exact xg_eq (B.x c) (qR c 1) (off5_eq c 0 ⟨0, by decide⟩) (off5_eq c 1 ⟨0, by decide⟩) (off5_eq c 2 ⟨0, by decide⟩) (off5_eq c 3 ⟨0, by decide⟩) _ _ _ _ _ _
      · exact xg_eq (B.x c) (qR c 1) (off5_eq c 0 ⟨0, by decide⟩) (off5_eq c 1 ⟨0, by decide⟩) (off5_eq c 2 ⟨0, by decide⟩) (off5_eq c 3 ⟨0, by decide⟩) _ _ _ _ _ _
      · exact xg_eq (B.x c) (qR c 1) (off5_eq c 0 ⟨0, by decide⟩) (off5_eq c 1 ⟨0, by decide⟩) (off5_eq c 2 ⟨0, by decide⟩) (off5_eq c 3 ⟨0, by decide⟩) _ _ _ _ _ _
      · exact xg_eq (B.x c) (qR c 1) (off5_eq c 0 ⟨0, by decide⟩) (off5_eq c 1 ⟨0, by decide⟩) (off5_eq c 2 ⟨0, by decide⟩) (off5_eq c 3 ⟨0, by decide⟩) _ _ _ _ _ _
      · refine cg_eq (colsOf B c) (qR c 1) 0 ?_ ?_ ?_ ?_ _ _ _ _ _ _
        · exact gRow_eq (colsOf B c) _ (qR c 1) 0 (off6_eq c 0 ⟨0, by decide⟩) _ _ _ _
        · exact gRow_eq (colsOf B c) _ (qR c 1) 1 (off6_eq c 1 ⟨0, by decide⟩) _ _ _ _
        · exact gRow_eq (colsOf B c) _ (qR c 1) 2 (off6_eq c 2 ⟨0, by decide⟩) _ _ _ _
        · exact gRow_eq (colsOf B c) _ (qR c 1) 3 (off6_eq c 3 ⟨0, by decide⟩) _ _ _ _
      · refine cg_eq (colsOf B c) (qR c 1) 1 ?_ ?_ ?_ ?_ _ _ _ _ _ _
        · exact gRow_eq (colsOf B c) _ (qR c 1) 0 (off6_eq c 0 ⟨0, by decide⟩) _ _ _ _
        · exact gRow_eq (colsOf B c) _ (qR c 1) 1 (off6_eq c 1 ⟨0, by decide⟩) _ _ _ _
        · exact gRow_eq (colsOf B c) _ (qR c 1) 2 (off6_eq c 2 ⟨0, by decide⟩) _ _ _ _
        · exact gRow_eq (colsOf B c) _ (qR c 1) 3 (off6_eq c 3 ⟨0, by decide⟩) _ _ _ _
      · refine cg_eq (colsOf B c) (qR c 1) 2 ?_ ?_ ?_ ?_ _ _ _ _ _ _
        · exact gRow_eq (colsOf B c) _ (qR c 1) 0 (off6_eq c 0 ⟨0, by decide⟩) _ _ _ _
        · exact gRow_eq (colsOf B c) _ (qR c 1) 1 (off6_eq c 1 ⟨0, by decide⟩) _ _ _ _
        · exact gRow_eq (colsOf B c) _ (qR c 1) 2 (off6_eq c 2 ⟨0, by decide⟩) _ _ _ _
        · exact gRow_eq (colsOf B c) _ (qR c 1) 3 (off6_eq c 3 ⟨0, by decide⟩) _ _ _ _
      · refine cg_eq (colsOf B c) (qR c 1) 3 ?_ ?_ ?_ ?_ _ _ _ _ _ _
        · exact gRow_eq (colsOf B c) _ (qR c 1) 0 (off6_eq c 0 ⟨0, by decide⟩) _ _ _ _
        · exact gRow_eq (colsOf B c) _ (qR c 1) 1 (off6_eq c 1 ⟨0, by decide⟩) _ _ _ _
        · exact gRow_eq (colsOf B c) _ (qR c 1) 2 (off6_eq c 2 ⟨0, by decide⟩) _ _ _ _
        · exact gRow_eq (colsOf B c) _ (qR c 1) 3 (off6_eq c 3 ⟨0, by decide⟩) _ _ _ _
      · exact hr 0
      · exact hr 1
      · exact hr 2
      · exact hr 3
    isplitl [Hrn2]; · iexact Hrn2
    isplitl [HO]; · iexact HO
    isplitl [Ta]; · iexact Ta
    iexact Tb
  iintro ⟨Ca, HO⟩
  sl_exec
  iapply (hop_send_l (cont B) K c 1 2 (by decide) rfl _ (dev9_eq c)) $$ [Hl1 Hlp2 HO Tc Td]
  · isplitr; · iexact HR
    isplitl [Hl1]
    · unfold slotIs slotPts
      iexists _
      isplitr [Hl1]; swap; · iexact Hl1
      ipureintro
      refine reads_step (h := slices_S512x1024_o0_512_S512x512) (fx := B.x c) (K := colsOf B c) (W := wE (B.ew c)) (q := qL c 1) (V := YL B 0 (nxt c)) ?_ ?_ ?_ ?_ ?_ ?_ ?_ ?_ ?_ ?_ ?_ ?_ (fun _ => rfl) lM c 1 (by decide) _
      · exact xg_eq (B.x c) (qL c 1) (off7_eq c 0 ⟨0, by decide⟩) (off7_eq c 1 ⟨0, by decide⟩) (off7_eq c 2 ⟨0, by decide⟩) (off7_eq c 3 ⟨0, by decide⟩) _ _ _ _ _ _
      · exact xg_eq (B.x c) (qL c 1) (off7_eq c 0 ⟨0, by decide⟩) (off7_eq c 1 ⟨0, by decide⟩) (off7_eq c 2 ⟨0, by decide⟩) (off7_eq c 3 ⟨0, by decide⟩) _ _ _ _ _ _
      · exact xg_eq (B.x c) (qL c 1) (off7_eq c 0 ⟨0, by decide⟩) (off7_eq c 1 ⟨0, by decide⟩) (off7_eq c 2 ⟨0, by decide⟩) (off7_eq c 3 ⟨0, by decide⟩) _ _ _ _ _ _
      · exact xg_eq (B.x c) (qL c 1) (off7_eq c 0 ⟨0, by decide⟩) (off7_eq c 1 ⟨0, by decide⟩) (off7_eq c 2 ⟨0, by decide⟩) (off7_eq c 3 ⟨0, by decide⟩) _ _ _ _ _ _
      · refine cg_eq (colsOf B c) (qL c 1) 0 ?_ ?_ ?_ ?_ _ _ _ _ _ _
        · exact gRow_eq (colsOf B c) _ (qL c 1) 0 (off8_eq c 0 ⟨0, by decide⟩) _ _ _ _
        · exact gRow_eq (colsOf B c) _ (qL c 1) 1 (off8_eq c 1 ⟨0, by decide⟩) _ _ _ _
        · exact gRow_eq (colsOf B c) _ (qL c 1) 2 (off8_eq c 2 ⟨0, by decide⟩) _ _ _ _
        · exact gRow_eq (colsOf B c) _ (qL c 1) 3 (off8_eq c 3 ⟨0, by decide⟩) _ _ _ _
      · refine cg_eq (colsOf B c) (qL c 1) 1 ?_ ?_ ?_ ?_ _ _ _ _ _ _
        · exact gRow_eq (colsOf B c) _ (qL c 1) 0 (off8_eq c 0 ⟨0, by decide⟩) _ _ _ _
        · exact gRow_eq (colsOf B c) _ (qL c 1) 1 (off8_eq c 1 ⟨0, by decide⟩) _ _ _ _
        · exact gRow_eq (colsOf B c) _ (qL c 1) 2 (off8_eq c 2 ⟨0, by decide⟩) _ _ _ _
        · exact gRow_eq (colsOf B c) _ (qL c 1) 3 (off8_eq c 3 ⟨0, by decide⟩) _ _ _ _
      · refine cg_eq (colsOf B c) (qL c 1) 2 ?_ ?_ ?_ ?_ _ _ _ _ _ _
        · exact gRow_eq (colsOf B c) _ (qL c 1) 0 (off8_eq c 0 ⟨0, by decide⟩) _ _ _ _
        · exact gRow_eq (colsOf B c) _ (qL c 1) 1 (off8_eq c 1 ⟨0, by decide⟩) _ _ _ _
        · exact gRow_eq (colsOf B c) _ (qL c 1) 2 (off8_eq c 2 ⟨0, by decide⟩) _ _ _ _
        · exact gRow_eq (colsOf B c) _ (qL c 1) 3 (off8_eq c 3 ⟨0, by decide⟩) _ _ _ _
      · refine cg_eq (colsOf B c) (qL c 1) 3 ?_ ?_ ?_ ?_ _ _ _ _ _ _
        · exact gRow_eq (colsOf B c) _ (qL c 1) 0 (off8_eq c 0 ⟨0, by decide⟩) _ _ _ _
        · exact gRow_eq (colsOf B c) _ (qL c 1) 1 (off8_eq c 1 ⟨0, by decide⟩) _ _ _ _
        · exact gRow_eq (colsOf B c) _ (qL c 1) 2 (off8_eq c 2 ⟨0, by decide⟩) _ _ _ _
        · exact gRow_eq (colsOf B c) _ (qL c 1) 3 (off8_eq c 3 ⟨0, by decide⟩) _ _ _ _
      · exact hl 0
      · exact hl 1
      · exact hl 2
      · exact hl 3
    isplitl [Hlp2]; · iexact Hlp2
    isplitl [HO]; · iexact HO
    isplitl [Tc]; · iexact Tc
    iexact Td
  iintro ⟨Cc, HO⟩
  sl_exec
  iapply (hop_wait_sr (a := 2) (b := 1) (ha := by decide) (hb := by decide) (cont B) K c 1 (by decide)) $$ [HO Ca Pa]
  · isplitr; · iexact HR
    isplitl [Ca]; · iexact Ca
    isplitl [HO]; · iexact HO
    iexact Pa
  iintro ⟨HO, Va1, Hro1⟩
  sl_exec
  iapply (hop_wait_vr (a := 1) (b := 2) (ha := by decide) (hb := by decide) (cont B) K c 1 2 (by decide) rfl) $$ [HO Cb Pb]
  · isplitr; · iexact HR
    isplitl [Cb]; · iexact Cb
    isplitl [HO]; · iexact HO
    iexact Pb
  iintro ⟨HO, Vb1, Hr2⟩
  unfold slotIs
  icases Hr2 with ⟨%fr2, %hr, Hr2⟩
  unfold slotPts
  sl_exec
  iapply (hop_wait_sl (a := 2) (b := 1) (ha := by decide) (hb := by decide) (cont B) K c 1 (by decide)) $$ [HO Cc Pc]
  · isplitr; · iexact HR
    isplitl [Cc]; · iexact Cc
    isplitl [HO]; · iexact HO
    iexact Pc
  iintro ⟨HO, Vc1, Hlo1⟩
  sl_exec
  iapply (hop_wait_vl (a := 1) (b := 2) (ha := by decide) (hb := by decide) (cont B) K c 1 2 (by decide) rfl) $$ [HO Cd Pd]
  · isplitr; · iexact HR
    isplitl [Cd]; · iexact Cd
    isplitl [HO]; · iexact HO
    iexact Pd
  iintro ⟨HO, Vd1, Hl2⟩
  unfold slotIs
  icases Hl2 with ⟨%fl2, %hl, Hl2⟩
  unfold slotPts
  sl_exec
  ihave Hg1 := (hop_close c 1 (by decide)) $$ [Va1 Vb1 Vc1 Vd1 Hro1 Hlo1]
  · isplitl [Va1]; · iexact Va1
    isplitl [Vb1]; · iexact Vb1
    isplitl [Vc1]; · iexact Vc1
    isplitl [Vd1]; · iexact Vd1
    isplitl [Hro1]; · iexact Hro1
    iexact Hlo1
  ihave Hh2 := (hop_open c 2) $$ Hh2
  icases Hh2 with ⟨Ta, Tb, Tc, Td, Pa, Pb, Pc, Pd, Cb, Cd⟩
  iapply (hop_send_r (cont B) K c 2 3 (by decide) rfl _ (dev10_eq c)) $$ [Hr2 Hrn3 HO Ta Tb]
  · isplitr; · iexact HR
    isplitl [Hr2]
    · unfold slotIs slotPts
      iexists _
      isplitr [Hr2]; swap; · iexact Hr2
      ipureintro
      refine reads_step (h := slices_S512x1024_o0_0_S512x512) (fx := B.x c) (K := colsOf B c) (W := wE (B.ew c)) (q := qR c 2) (V := YR B 1 (prv c)) ?_ ?_ ?_ ?_ ?_ ?_ ?_ ?_ ?_ ?_ ?_ ?_ (fun _ => rfl) rM c 2 (by decide) _
      · exact xg_eq (B.x c) (qR c 2) (off5_eq c 0 ⟨1, by decide⟩) (off5_eq c 1 ⟨1, by decide⟩) (off5_eq c 2 ⟨1, by decide⟩) (off5_eq c 3 ⟨1, by decide⟩) _ _ _ _ _ _
      · exact xg_eq (B.x c) (qR c 2) (off5_eq c 0 ⟨1, by decide⟩) (off5_eq c 1 ⟨1, by decide⟩) (off5_eq c 2 ⟨1, by decide⟩) (off5_eq c 3 ⟨1, by decide⟩) _ _ _ _ _ _
      · exact xg_eq (B.x c) (qR c 2) (off5_eq c 0 ⟨1, by decide⟩) (off5_eq c 1 ⟨1, by decide⟩) (off5_eq c 2 ⟨1, by decide⟩) (off5_eq c 3 ⟨1, by decide⟩) _ _ _ _ _ _
      · exact xg_eq (B.x c) (qR c 2) (off5_eq c 0 ⟨1, by decide⟩) (off5_eq c 1 ⟨1, by decide⟩) (off5_eq c 2 ⟨1, by decide⟩) (off5_eq c 3 ⟨1, by decide⟩) _ _ _ _ _ _
      · refine cg_eq (colsOf B c) (qR c 2) 0 ?_ ?_ ?_ ?_ _ _ _ _ _ _
        · exact gRow_eq (colsOf B c) _ (qR c 2) 0 (off6_eq c 0 ⟨1, by decide⟩) _ _ _ _
        · exact gRow_eq (colsOf B c) _ (qR c 2) 1 (off6_eq c 1 ⟨1, by decide⟩) _ _ _ _
        · exact gRow_eq (colsOf B c) _ (qR c 2) 2 (off6_eq c 2 ⟨1, by decide⟩) _ _ _ _
        · exact gRow_eq (colsOf B c) _ (qR c 2) 3 (off6_eq c 3 ⟨1, by decide⟩) _ _ _ _
      · refine cg_eq (colsOf B c) (qR c 2) 1 ?_ ?_ ?_ ?_ _ _ _ _ _ _
        · exact gRow_eq (colsOf B c) _ (qR c 2) 0 (off6_eq c 0 ⟨1, by decide⟩) _ _ _ _
        · exact gRow_eq (colsOf B c) _ (qR c 2) 1 (off6_eq c 1 ⟨1, by decide⟩) _ _ _ _
        · exact gRow_eq (colsOf B c) _ (qR c 2) 2 (off6_eq c 2 ⟨1, by decide⟩) _ _ _ _
        · exact gRow_eq (colsOf B c) _ (qR c 2) 3 (off6_eq c 3 ⟨1, by decide⟩) _ _ _ _
      · refine cg_eq (colsOf B c) (qR c 2) 2 ?_ ?_ ?_ ?_ _ _ _ _ _ _
        · exact gRow_eq (colsOf B c) _ (qR c 2) 0 (off6_eq c 0 ⟨1, by decide⟩) _ _ _ _
        · exact gRow_eq (colsOf B c) _ (qR c 2) 1 (off6_eq c 1 ⟨1, by decide⟩) _ _ _ _
        · exact gRow_eq (colsOf B c) _ (qR c 2) 2 (off6_eq c 2 ⟨1, by decide⟩) _ _ _ _
        · exact gRow_eq (colsOf B c) _ (qR c 2) 3 (off6_eq c 3 ⟨1, by decide⟩) _ _ _ _
      · refine cg_eq (colsOf B c) (qR c 2) 3 ?_ ?_ ?_ ?_ _ _ _ _ _ _
        · exact gRow_eq (colsOf B c) _ (qR c 2) 0 (off6_eq c 0 ⟨1, by decide⟩) _ _ _ _
        · exact gRow_eq (colsOf B c) _ (qR c 2) 1 (off6_eq c 1 ⟨1, by decide⟩) _ _ _ _
        · exact gRow_eq (colsOf B c) _ (qR c 2) 2 (off6_eq c 2 ⟨1, by decide⟩) _ _ _ _
        · exact gRow_eq (colsOf B c) _ (qR c 2) 3 (off6_eq c 3 ⟨1, by decide⟩) _ _ _ _
      · exact hr 0
      · exact hr 1
      · exact hr 2
      · exact hr 3
    isplitl [Hrn3]; · iexact Hrn3
    isplitl [HO]; · iexact HO
    isplitl [Ta]; · iexact Ta
    iexact Tb
  iintro ⟨Ca, HO⟩
  sl_exec
  iapply (hop_send_l (cont B) K c 2 3 (by decide) rfl _ (dev11_eq c)) $$ [Hl2 Hlp3 HO Tc Td]
  · isplitr; · iexact HR
    isplitl [Hl2]
    · unfold slotIs slotPts
      iexists _
      isplitr [Hl2]; swap; · iexact Hl2
      ipureintro
      refine reads_step (h := slices_S512x1024_o0_512_S512x512) (fx := B.x c) (K := colsOf B c) (W := wE (B.ew c)) (q := qL c 2) (V := YL B 1 (nxt c)) ?_ ?_ ?_ ?_ ?_ ?_ ?_ ?_ ?_ ?_ ?_ ?_ (fun _ => rfl) lM c 2 (by decide) _
      · exact xg_eq (B.x c) (qL c 2) (off7_eq c 0 ⟨1, by decide⟩) (off7_eq c 1 ⟨1, by decide⟩) (off7_eq c 2 ⟨1, by decide⟩) (off7_eq c 3 ⟨1, by decide⟩) _ _ _ _ _ _
      · exact xg_eq (B.x c) (qL c 2) (off7_eq c 0 ⟨1, by decide⟩) (off7_eq c 1 ⟨1, by decide⟩) (off7_eq c 2 ⟨1, by decide⟩) (off7_eq c 3 ⟨1, by decide⟩) _ _ _ _ _ _
      · exact xg_eq (B.x c) (qL c 2) (off7_eq c 0 ⟨1, by decide⟩) (off7_eq c 1 ⟨1, by decide⟩) (off7_eq c 2 ⟨1, by decide⟩) (off7_eq c 3 ⟨1, by decide⟩) _ _ _ _ _ _
      · exact xg_eq (B.x c) (qL c 2) (off7_eq c 0 ⟨1, by decide⟩) (off7_eq c 1 ⟨1, by decide⟩) (off7_eq c 2 ⟨1, by decide⟩) (off7_eq c 3 ⟨1, by decide⟩) _ _ _ _ _ _
      · refine cg_eq (colsOf B c) (qL c 2) 0 ?_ ?_ ?_ ?_ _ _ _ _ _ _
        · exact gRow_eq (colsOf B c) _ (qL c 2) 0 (off8_eq c 0 ⟨1, by decide⟩) _ _ _ _
        · exact gRow_eq (colsOf B c) _ (qL c 2) 1 (off8_eq c 1 ⟨1, by decide⟩) _ _ _ _
        · exact gRow_eq (colsOf B c) _ (qL c 2) 2 (off8_eq c 2 ⟨1, by decide⟩) _ _ _ _
        · exact gRow_eq (colsOf B c) _ (qL c 2) 3 (off8_eq c 3 ⟨1, by decide⟩) _ _ _ _
      · refine cg_eq (colsOf B c) (qL c 2) 1 ?_ ?_ ?_ ?_ _ _ _ _ _ _
        · exact gRow_eq (colsOf B c) _ (qL c 2) 0 (off8_eq c 0 ⟨1, by decide⟩) _ _ _ _
        · exact gRow_eq (colsOf B c) _ (qL c 2) 1 (off8_eq c 1 ⟨1, by decide⟩) _ _ _ _
        · exact gRow_eq (colsOf B c) _ (qL c 2) 2 (off8_eq c 2 ⟨1, by decide⟩) _ _ _ _
        · exact gRow_eq (colsOf B c) _ (qL c 2) 3 (off8_eq c 3 ⟨1, by decide⟩) _ _ _ _
      · refine cg_eq (colsOf B c) (qL c 2) 2 ?_ ?_ ?_ ?_ _ _ _ _ _ _
        · exact gRow_eq (colsOf B c) _ (qL c 2) 0 (off8_eq c 0 ⟨1, by decide⟩) _ _ _ _
        · exact gRow_eq (colsOf B c) _ (qL c 2) 1 (off8_eq c 1 ⟨1, by decide⟩) _ _ _ _
        · exact gRow_eq (colsOf B c) _ (qL c 2) 2 (off8_eq c 2 ⟨1, by decide⟩) _ _ _ _
        · exact gRow_eq (colsOf B c) _ (qL c 2) 3 (off8_eq c 3 ⟨1, by decide⟩) _ _ _ _
      · refine cg_eq (colsOf B c) (qL c 2) 3 ?_ ?_ ?_ ?_ _ _ _ _ _ _
        · exact gRow_eq (colsOf B c) _ (qL c 2) 0 (off8_eq c 0 ⟨1, by decide⟩) _ _ _ _
        · exact gRow_eq (colsOf B c) _ (qL c 2) 1 (off8_eq c 1 ⟨1, by decide⟩) _ _ _ _
        · exact gRow_eq (colsOf B c) _ (qL c 2) 2 (off8_eq c 2 ⟨1, by decide⟩) _ _ _ _
        · exact gRow_eq (colsOf B c) _ (qL c 2) 3 (off8_eq c 3 ⟨1, by decide⟩) _ _ _ _
      · exact hl 0
      · exact hl 1
      · exact hl 2
      · exact hl 3
    isplitl [Hlp3]; · iexact Hlp3
    isplitl [HO]; · iexact HO
    isplitl [Tc]; · iexact Tc
    iexact Td
  iintro ⟨Cc, HO⟩
  sl_exec
  iapply (hop_wait_sr (a := 3) (b := 2) (ha := by decide) (hb := by decide) (cont B) K c 2 (by decide)) $$ [HO Ca Pa]
  · isplitr; · iexact HR
    isplitl [Ca]; · iexact Ca
    isplitl [HO]; · iexact HO
    iexact Pa
  iintro ⟨HO, Va2, Hro2⟩
  sl_exec
  iapply (hop_wait_vr (a := 2) (b := 3) (ha := by decide) (hb := by decide) (cont B) K c 2 3 (by decide) rfl) $$ [HO Cb Pb]
  · isplitr; · iexact HR
    isplitl [Cb]; · iexact Cb
    isplitl [HO]; · iexact HO
    iexact Pb
  iintro ⟨HO, Vb2, Hr3⟩
  unfold slotIs
  icases Hr3 with ⟨%fr3, %hr, Hr3⟩
  unfold slotPts
  sl_exec
  iapply (hop_wait_sl (a := 3) (b := 2) (ha := by decide) (hb := by decide) (cont B) K c 2 (by decide)) $$ [HO Cc Pc]
  · isplitr; · iexact HR
    isplitl [Cc]; · iexact Cc
    isplitl [HO]; · iexact HO
    iexact Pc
  iintro ⟨HO, Vc2, Hlo2⟩
  sl_exec
  iapply (hop_wait_vl (a := 2) (b := 3) (ha := by decide) (hb := by decide) (cont B) K c 2 3 (by decide) rfl) $$ [HO Cd Pd]
  · isplitr; · iexact HR
    isplitl [Cd]; · iexact Cd
    isplitl [HO]; · iexact HO
    iexact Pd
  iintro ⟨HO, Vd2, Hl3⟩
  unfold slotIs
  icases Hl3 with ⟨%fl3, %hl, Hl3⟩
  unfold slotPts
  sl_exec
  ihave Hg2 := (hop_close c 2 (by decide)) $$ [Va2 Vb2 Vc2 Vd2 Hro2 Hlo2]
  · isplitl [Va2]; · iexact Va2
    isplitl [Vb2]; · iexact Vb2
    isplitl [Vc2]; · iexact Vc2
    isplitl [Vd2]; · iexact Vd2
    isplitl [Hro2]; · iexact Hro2
    iexact Hlo2
  ihave Hh3 := (hop_open c 3) $$ Hh3
  icases Hh3 with ⟨Ta, Tb, Tc, Td, Pa, Pb, Pc, Pd, Cb, Cd⟩
  iapply (hop_send_r (cont B) K c 3 4 (by decide) rfl _ (dev12_eq c)) $$ [Hr3 Hrn4 HO Ta Tb]
  · isplitr; · iexact HR
    isplitl [Hr3]
    · unfold slotIs slotPts
      iexists _
      isplitr [Hr3]; swap; · iexact Hr3
      ipureintro
      refine reads_step (h := slices_S512x1024_o0_0_S512x512) (fx := B.x c) (K := colsOf B c) (W := wE (B.ew c)) (q := qR c 3) (V := YR B 2 (prv c)) ?_ ?_ ?_ ?_ ?_ ?_ ?_ ?_ ?_ ?_ ?_ ?_ (fun _ => rfl) rM c 3 (by decide) _
      · exact xg_eq (B.x c) (qR c 3) (off5_eq c 0 ⟨2, by decide⟩) (off5_eq c 1 ⟨2, by decide⟩) (off5_eq c 2 ⟨2, by decide⟩) (off5_eq c 3 ⟨2, by decide⟩) _ _ _ _ _ _
      · exact xg_eq (B.x c) (qR c 3) (off5_eq c 0 ⟨2, by decide⟩) (off5_eq c 1 ⟨2, by decide⟩) (off5_eq c 2 ⟨2, by decide⟩) (off5_eq c 3 ⟨2, by decide⟩) _ _ _ _ _ _
      · exact xg_eq (B.x c) (qR c 3) (off5_eq c 0 ⟨2, by decide⟩) (off5_eq c 1 ⟨2, by decide⟩) (off5_eq c 2 ⟨2, by decide⟩) (off5_eq c 3 ⟨2, by decide⟩) _ _ _ _ _ _
      · exact xg_eq (B.x c) (qR c 3) (off5_eq c 0 ⟨2, by decide⟩) (off5_eq c 1 ⟨2, by decide⟩) (off5_eq c 2 ⟨2, by decide⟩) (off5_eq c 3 ⟨2, by decide⟩) _ _ _ _ _ _
      · refine cg_eq (colsOf B c) (qR c 3) 0 ?_ ?_ ?_ ?_ _ _ _ _ _ _
        · exact gRow_eq (colsOf B c) _ (qR c 3) 0 (off6_eq c 0 ⟨2, by decide⟩) _ _ _ _
        · exact gRow_eq (colsOf B c) _ (qR c 3) 1 (off6_eq c 1 ⟨2, by decide⟩) _ _ _ _
        · exact gRow_eq (colsOf B c) _ (qR c 3) 2 (off6_eq c 2 ⟨2, by decide⟩) _ _ _ _
        · exact gRow_eq (colsOf B c) _ (qR c 3) 3 (off6_eq c 3 ⟨2, by decide⟩) _ _ _ _
      · refine cg_eq (colsOf B c) (qR c 3) 1 ?_ ?_ ?_ ?_ _ _ _ _ _ _
        · exact gRow_eq (colsOf B c) _ (qR c 3) 0 (off6_eq c 0 ⟨2, by decide⟩) _ _ _ _
        · exact gRow_eq (colsOf B c) _ (qR c 3) 1 (off6_eq c 1 ⟨2, by decide⟩) _ _ _ _
        · exact gRow_eq (colsOf B c) _ (qR c 3) 2 (off6_eq c 2 ⟨2, by decide⟩) _ _ _ _
        · exact gRow_eq (colsOf B c) _ (qR c 3) 3 (off6_eq c 3 ⟨2, by decide⟩) _ _ _ _
      · refine cg_eq (colsOf B c) (qR c 3) 2 ?_ ?_ ?_ ?_ _ _ _ _ _ _
        · exact gRow_eq (colsOf B c) _ (qR c 3) 0 (off6_eq c 0 ⟨2, by decide⟩) _ _ _ _
        · exact gRow_eq (colsOf B c) _ (qR c 3) 1 (off6_eq c 1 ⟨2, by decide⟩) _ _ _ _
        · exact gRow_eq (colsOf B c) _ (qR c 3) 2 (off6_eq c 2 ⟨2, by decide⟩) _ _ _ _
        · exact gRow_eq (colsOf B c) _ (qR c 3) 3 (off6_eq c 3 ⟨2, by decide⟩) _ _ _ _
      · refine cg_eq (colsOf B c) (qR c 3) 3 ?_ ?_ ?_ ?_ _ _ _ _ _ _
        · exact gRow_eq (colsOf B c) _ (qR c 3) 0 (off6_eq c 0 ⟨2, by decide⟩) _ _ _ _
        · exact gRow_eq (colsOf B c) _ (qR c 3) 1 (off6_eq c 1 ⟨2, by decide⟩) _ _ _ _
        · exact gRow_eq (colsOf B c) _ (qR c 3) 2 (off6_eq c 2 ⟨2, by decide⟩) _ _ _ _
        · exact gRow_eq (colsOf B c) _ (qR c 3) 3 (off6_eq c 3 ⟨2, by decide⟩) _ _ _ _
      · exact hr 0
      · exact hr 1
      · exact hr 2
      · exact hr 3
    isplitl [Hrn4]; · iexact Hrn4
    isplitl [HO]; · iexact HO
    isplitl [Ta]; · iexact Ta
    iexact Tb
  iintro ⟨Ca, HO⟩
  sl_exec
  iapply (hop_send_l (cont B) K c 3 4 (by decide) rfl _ (dev13_eq c)) $$ [Hl3 Hlp4 HO Tc Td]
  · isplitr; · iexact HR
    isplitl [Hl3]
    · unfold slotIs slotPts
      iexists _
      isplitr [Hl3]; swap; · iexact Hl3
      ipureintro
      refine reads_step (h := slices_S512x1024_o0_512_S512x512) (fx := B.x c) (K := colsOf B c) (W := wE (B.ew c)) (q := qL c 3) (V := YL B 2 (nxt c)) ?_ ?_ ?_ ?_ ?_ ?_ ?_ ?_ ?_ ?_ ?_ ?_ (fun _ => rfl) lM c 3 (by decide) _
      · exact xg_eq (B.x c) (qL c 3) (off7_eq c 0 ⟨2, by decide⟩) (off7_eq c 1 ⟨2, by decide⟩) (off7_eq c 2 ⟨2, by decide⟩) (off7_eq c 3 ⟨2, by decide⟩) _ _ _ _ _ _
      · exact xg_eq (B.x c) (qL c 3) (off7_eq c 0 ⟨2, by decide⟩) (off7_eq c 1 ⟨2, by decide⟩) (off7_eq c 2 ⟨2, by decide⟩) (off7_eq c 3 ⟨2, by decide⟩) _ _ _ _ _ _
      · exact xg_eq (B.x c) (qL c 3) (off7_eq c 0 ⟨2, by decide⟩) (off7_eq c 1 ⟨2, by decide⟩) (off7_eq c 2 ⟨2, by decide⟩) (off7_eq c 3 ⟨2, by decide⟩) _ _ _ _ _ _
      · exact xg_eq (B.x c) (qL c 3) (off7_eq c 0 ⟨2, by decide⟩) (off7_eq c 1 ⟨2, by decide⟩) (off7_eq c 2 ⟨2, by decide⟩) (off7_eq c 3 ⟨2, by decide⟩) _ _ _ _ _ _
      · refine cg_eq (colsOf B c) (qL c 3) 0 ?_ ?_ ?_ ?_ _ _ _ _ _ _
        · exact gRow_eq (colsOf B c) _ (qL c 3) 0 (off8_eq c 0 ⟨2, by decide⟩) _ _ _ _
        · exact gRow_eq (colsOf B c) _ (qL c 3) 1 (off8_eq c 1 ⟨2, by decide⟩) _ _ _ _
        · exact gRow_eq (colsOf B c) _ (qL c 3) 2 (off8_eq c 2 ⟨2, by decide⟩) _ _ _ _
        · exact gRow_eq (colsOf B c) _ (qL c 3) 3 (off8_eq c 3 ⟨2, by decide⟩) _ _ _ _
      · refine cg_eq (colsOf B c) (qL c 3) 1 ?_ ?_ ?_ ?_ _ _ _ _ _ _
        · exact gRow_eq (colsOf B c) _ (qL c 3) 0 (off8_eq c 0 ⟨2, by decide⟩) _ _ _ _
        · exact gRow_eq (colsOf B c) _ (qL c 3) 1 (off8_eq c 1 ⟨2, by decide⟩) _ _ _ _
        · exact gRow_eq (colsOf B c) _ (qL c 3) 2 (off8_eq c 2 ⟨2, by decide⟩) _ _ _ _
        · exact gRow_eq (colsOf B c) _ (qL c 3) 3 (off8_eq c 3 ⟨2, by decide⟩) _ _ _ _
      · refine cg_eq (colsOf B c) (qL c 3) 2 ?_ ?_ ?_ ?_ _ _ _ _ _ _
        · exact gRow_eq (colsOf B c) _ (qL c 3) 0 (off8_eq c 0 ⟨2, by decide⟩) _ _ _ _
        · exact gRow_eq (colsOf B c) _ (qL c 3) 1 (off8_eq c 1 ⟨2, by decide⟩) _ _ _ _
        · exact gRow_eq (colsOf B c) _ (qL c 3) 2 (off8_eq c 2 ⟨2, by decide⟩) _ _ _ _
        · exact gRow_eq (colsOf B c) _ (qL c 3) 3 (off8_eq c 3 ⟨2, by decide⟩) _ _ _ _
      · refine cg_eq (colsOf B c) (qL c 3) 3 ?_ ?_ ?_ ?_ _ _ _ _ _ _
        · exact gRow_eq (colsOf B c) _ (qL c 3) 0 (off8_eq c 0 ⟨2, by decide⟩) _ _ _ _
        · exact gRow_eq (colsOf B c) _ (qL c 3) 1 (off8_eq c 1 ⟨2, by decide⟩) _ _ _ _
        · exact gRow_eq (colsOf B c) _ (qL c 3) 2 (off8_eq c 2 ⟨2, by decide⟩) _ _ _ _
        · exact gRow_eq (colsOf B c) _ (qL c 3) 3 (off8_eq c 3 ⟨2, by decide⟩) _ _ _ _
      · exact hl 0
      · exact hl 1
      · exact hl 2
      · exact hl 3
    isplitl [Hlp4]; · iexact Hlp4
    isplitl [HO]; · iexact HO
    isplitl [Tc]; · iexact Tc
    iexact Td
  iintro ⟨Cc, HO⟩
  sl_exec
  iapply (hop_wait_sr (a := 4) (b := 3) (ha := by decide) (hb := by decide) (cont B) K c 3 (by decide)) $$ [HO Ca Pa]
  · isplitr; · iexact HR
    isplitl [Ca]; · iexact Ca
    isplitl [HO]; · iexact HO
    iexact Pa
  iintro ⟨HO, Va3, Hro3⟩
  sl_exec
  iapply (hop_wait_vr (a := 3) (b := 4) (ha := by decide) (hb := by decide) (cont B) K c 3 4 (by decide) rfl) $$ [HO Cb Pb]
  · isplitr; · iexact HR
    isplitl [Cb]; · iexact Cb
    isplitl [HO]; · iexact HO
    iexact Pb
  iintro ⟨HO, Vb3, Hr4⟩
  unfold slotIs
  icases Hr4 with ⟨%fr4, %hr, Hr4⟩
  unfold slotPts
  sl_exec
  iapply (hop_wait_sl (a := 4) (b := 3) (ha := by decide) (hb := by decide) (cont B) K c 3 (by decide)) $$ [HO Cc Pc]
  · isplitr; · iexact HR
    isplitl [Cc]; · iexact Cc
    isplitl [HO]; · iexact HO
    iexact Pc
  iintro ⟨HO, Vc3, Hlo3⟩
  sl_exec
  iapply (hop_wait_vl (a := 3) (b := 4) (ha := by decide) (hb := by decide) (cont B) K c 3 4 (by decide) rfl) $$ [HO Cd Pd]
  · isplitr; · iexact HR
    isplitl [Cd]; · iexact Cd
    isplitl [HO]; · iexact HO
    iexact Pd
  iintro ⟨HO, Vd3, Hl4⟩
  unfold slotIs
  icases Hl4 with ⟨%fl4, %hl, Hl4⟩
  unfold slotPts
  sl_exec
  ihave Hg3 := (hop_close c 3 (by decide)) $$ [Va3 Vb3 Vc3 Vd3 Hro3 Hlo3]
  · isplitl [Va3]; · iexact Va3
    isplitl [Vb3]; · iexact Vb3
    isplitl [Vc3]; · iexact Vc3
    isplitl [Vd3]; · iexact Vd3
    isplitl [Hro3]; · iexact Hro3
    iexact Hlo3
  ihave Hh4 := (hop_open c 4) $$ Hh4
  icases Hh4 with ⟨Ta, Tb, Tc, Td, Pa, Pb, Pc, Pd, Cb, Cd⟩
  iapply (hop_send_r (cont B) K c 4 5 (by decide) rfl _ (dev14_eq c)) $$ [Hr4 Hrn5 HO Ta Tb]
  · isplitr; · iexact HR
    isplitl [Hr4]
    · unfold slotIs slotPts
      iexists _
      isplitr [Hr4]; swap; · iexact Hr4
      ipureintro
      refine reads_step (h := slices_S512x1024_o0_0_S512x512) (fx := B.x c) (K := colsOf B c) (W := wE (B.ew c)) (q := qR c 4) (V := YR B 3 (prv c)) ?_ ?_ ?_ ?_ ?_ ?_ ?_ ?_ ?_ ?_ ?_ ?_ (fun _ => rfl) rM c 4 (by decide) _
      · exact xg_eq (B.x c) (qR c 4) (off5_eq c 0 ⟨3, by decide⟩) (off5_eq c 1 ⟨3, by decide⟩) (off5_eq c 2 ⟨3, by decide⟩) (off5_eq c 3 ⟨3, by decide⟩) _ _ _ _ _ _
      · exact xg_eq (B.x c) (qR c 4) (off5_eq c 0 ⟨3, by decide⟩) (off5_eq c 1 ⟨3, by decide⟩) (off5_eq c 2 ⟨3, by decide⟩) (off5_eq c 3 ⟨3, by decide⟩) _ _ _ _ _ _
      · exact xg_eq (B.x c) (qR c 4) (off5_eq c 0 ⟨3, by decide⟩) (off5_eq c 1 ⟨3, by decide⟩) (off5_eq c 2 ⟨3, by decide⟩) (off5_eq c 3 ⟨3, by decide⟩) _ _ _ _ _ _
      · exact xg_eq (B.x c) (qR c 4) (off5_eq c 0 ⟨3, by decide⟩) (off5_eq c 1 ⟨3, by decide⟩) (off5_eq c 2 ⟨3, by decide⟩) (off5_eq c 3 ⟨3, by decide⟩) _ _ _ _ _ _
      · refine cg_eq (colsOf B c) (qR c 4) 0 ?_ ?_ ?_ ?_ _ _ _ _ _ _
        · exact gRow_eq (colsOf B c) _ (qR c 4) 0 (off6_eq c 0 ⟨3, by decide⟩) _ _ _ _
        · exact gRow_eq (colsOf B c) _ (qR c 4) 1 (off6_eq c 1 ⟨3, by decide⟩) _ _ _ _
        · exact gRow_eq (colsOf B c) _ (qR c 4) 2 (off6_eq c 2 ⟨3, by decide⟩) _ _ _ _
        · exact gRow_eq (colsOf B c) _ (qR c 4) 3 (off6_eq c 3 ⟨3, by decide⟩) _ _ _ _
      · refine cg_eq (colsOf B c) (qR c 4) 1 ?_ ?_ ?_ ?_ _ _ _ _ _ _
        · exact gRow_eq (colsOf B c) _ (qR c 4) 0 (off6_eq c 0 ⟨3, by decide⟩) _ _ _ _
        · exact gRow_eq (colsOf B c) _ (qR c 4) 1 (off6_eq c 1 ⟨3, by decide⟩) _ _ _ _
        · exact gRow_eq (colsOf B c) _ (qR c 4) 2 (off6_eq c 2 ⟨3, by decide⟩) _ _ _ _
        · exact gRow_eq (colsOf B c) _ (qR c 4) 3 (off6_eq c 3 ⟨3, by decide⟩) _ _ _ _
      · refine cg_eq (colsOf B c) (qR c 4) 2 ?_ ?_ ?_ ?_ _ _ _ _ _ _
        · exact gRow_eq (colsOf B c) _ (qR c 4) 0 (off6_eq c 0 ⟨3, by decide⟩) _ _ _ _
        · exact gRow_eq (colsOf B c) _ (qR c 4) 1 (off6_eq c 1 ⟨3, by decide⟩) _ _ _ _
        · exact gRow_eq (colsOf B c) _ (qR c 4) 2 (off6_eq c 2 ⟨3, by decide⟩) _ _ _ _
        · exact gRow_eq (colsOf B c) _ (qR c 4) 3 (off6_eq c 3 ⟨3, by decide⟩) _ _ _ _
      · refine cg_eq (colsOf B c) (qR c 4) 3 ?_ ?_ ?_ ?_ _ _ _ _ _ _
        · exact gRow_eq (colsOf B c) _ (qR c 4) 0 (off6_eq c 0 ⟨3, by decide⟩) _ _ _ _
        · exact gRow_eq (colsOf B c) _ (qR c 4) 1 (off6_eq c 1 ⟨3, by decide⟩) _ _ _ _
        · exact gRow_eq (colsOf B c) _ (qR c 4) 2 (off6_eq c 2 ⟨3, by decide⟩) _ _ _ _
        · exact gRow_eq (colsOf B c) _ (qR c 4) 3 (off6_eq c 3 ⟨3, by decide⟩) _ _ _ _
      · exact hr 0
      · exact hr 1
      · exact hr 2
      · exact hr 3
    isplitl [Hrn5]; · iexact Hrn5
    isplitl [HO]; · iexact HO
    isplitl [Ta]; · iexact Ta
    iexact Tb
  iintro ⟨Ca, HO⟩
  sl_exec
  iapply (hop_send_l (cont B) K c 4 5 (by decide) rfl _ (dev15_eq c)) $$ [Hl4 Hlp5 HO Tc Td]
  · isplitr; · iexact HR
    isplitl [Hl4]
    · unfold slotIs slotPts
      iexists _
      isplitr [Hl4]; swap; · iexact Hl4
      ipureintro
      refine reads_step (h := slices_S512x1024_o0_512_S512x512) (fx := B.x c) (K := colsOf B c) (W := wE (B.ew c)) (q := qL c 4) (V := YL B 3 (nxt c)) ?_ ?_ ?_ ?_ ?_ ?_ ?_ ?_ ?_ ?_ ?_ ?_ (fun _ => rfl) lM c 4 (by decide) _
      · exact xg_eq (B.x c) (qL c 4) (off7_eq c 0 ⟨3, by decide⟩) (off7_eq c 1 ⟨3, by decide⟩) (off7_eq c 2 ⟨3, by decide⟩) (off7_eq c 3 ⟨3, by decide⟩) _ _ _ _ _ _
      · exact xg_eq (B.x c) (qL c 4) (off7_eq c 0 ⟨3, by decide⟩) (off7_eq c 1 ⟨3, by decide⟩) (off7_eq c 2 ⟨3, by decide⟩) (off7_eq c 3 ⟨3, by decide⟩) _ _ _ _ _ _
      · exact xg_eq (B.x c) (qL c 4) (off7_eq c 0 ⟨3, by decide⟩) (off7_eq c 1 ⟨3, by decide⟩) (off7_eq c 2 ⟨3, by decide⟩) (off7_eq c 3 ⟨3, by decide⟩) _ _ _ _ _ _
      · exact xg_eq (B.x c) (qL c 4) (off7_eq c 0 ⟨3, by decide⟩) (off7_eq c 1 ⟨3, by decide⟩) (off7_eq c 2 ⟨3, by decide⟩) (off7_eq c 3 ⟨3, by decide⟩) _ _ _ _ _ _
      · refine cg_eq (colsOf B c) (qL c 4) 0 ?_ ?_ ?_ ?_ _ _ _ _ _ _
        · exact gRow_eq (colsOf B c) _ (qL c 4) 0 (off8_eq c 0 ⟨3, by decide⟩) _ _ _ _
        · exact gRow_eq (colsOf B c) _ (qL c 4) 1 (off8_eq c 1 ⟨3, by decide⟩) _ _ _ _
        · exact gRow_eq (colsOf B c) _ (qL c 4) 2 (off8_eq c 2 ⟨3, by decide⟩) _ _ _ _
        · exact gRow_eq (colsOf B c) _ (qL c 4) 3 (off8_eq c 3 ⟨3, by decide⟩) _ _ _ _
      · refine cg_eq (colsOf B c) (qL c 4) 1 ?_ ?_ ?_ ?_ _ _ _ _ _ _
        · exact gRow_eq (colsOf B c) _ (qL c 4) 0 (off8_eq c 0 ⟨3, by decide⟩) _ _ _ _
        · exact gRow_eq (colsOf B c) _ (qL c 4) 1 (off8_eq c 1 ⟨3, by decide⟩) _ _ _ _
        · exact gRow_eq (colsOf B c) _ (qL c 4) 2 (off8_eq c 2 ⟨3, by decide⟩) _ _ _ _
        · exact gRow_eq (colsOf B c) _ (qL c 4) 3 (off8_eq c 3 ⟨3, by decide⟩) _ _ _ _
      · refine cg_eq (colsOf B c) (qL c 4) 2 ?_ ?_ ?_ ?_ _ _ _ _ _ _
        · exact gRow_eq (colsOf B c) _ (qL c 4) 0 (off8_eq c 0 ⟨3, by decide⟩) _ _ _ _
        · exact gRow_eq (colsOf B c) _ (qL c 4) 1 (off8_eq c 1 ⟨3, by decide⟩) _ _ _ _
        · exact gRow_eq (colsOf B c) _ (qL c 4) 2 (off8_eq c 2 ⟨3, by decide⟩) _ _ _ _
        · exact gRow_eq (colsOf B c) _ (qL c 4) 3 (off8_eq c 3 ⟨3, by decide⟩) _ _ _ _
      · refine cg_eq (colsOf B c) (qL c 4) 3 ?_ ?_ ?_ ?_ _ _ _ _ _ _
        · exact gRow_eq (colsOf B c) _ (qL c 4) 0 (off8_eq c 0 ⟨3, by decide⟩) _ _ _ _
        · exact gRow_eq (colsOf B c) _ (qL c 4) 1 (off8_eq c 1 ⟨3, by decide⟩) _ _ _ _
        · exact gRow_eq (colsOf B c) _ (qL c 4) 2 (off8_eq c 2 ⟨3, by decide⟩) _ _ _ _
        · exact gRow_eq (colsOf B c) _ (qL c 4) 3 (off8_eq c 3 ⟨3, by decide⟩) _ _ _ _
      · exact hl 0
      · exact hl 1
      · exact hl 2
      · exact hl 3
    isplitl [Hlp5]; · iexact Hlp5
    isplitl [HO]; · iexact HO
    isplitl [Tc]; · iexact Tc
    iexact Td
  iintro ⟨Cc, HO⟩
  sl_exec
  iapply (hop_wait_sr (a := 5) (b := 4) (ha := by decide) (hb := by decide) (cont B) K c 4 (by decide)) $$ [HO Ca Pa]
  · isplitr; · iexact HR
    isplitl [Ca]; · iexact Ca
    isplitl [HO]; · iexact HO
    iexact Pa
  iintro ⟨HO, Va4, Hro4⟩
  sl_exec
  iapply (hop_wait_vr (a := 4) (b := 5) (ha := by decide) (hb := by decide) (cont B) K c 4 5 (by decide) rfl) $$ [HO Cb Pb]
  · isplitr; · iexact HR
    isplitl [Cb]; · iexact Cb
    isplitl [HO]; · iexact HO
    iexact Pb
  iintro ⟨HO, Vb4, Hr5⟩
  unfold slotIs
  icases Hr5 with ⟨%fr5, %hr, Hr5⟩
  unfold slotPts
  sl_exec
  iapply (hop_wait_sl (a := 5) (b := 4) (ha := by decide) (hb := by decide) (cont B) K c 4 (by decide)) $$ [HO Cc Pc]
  · isplitr; · iexact HR
    isplitl [Cc]; · iexact Cc
    isplitl [HO]; · iexact HO
    iexact Pc
  iintro ⟨HO, Vc4, Hlo4⟩
  sl_exec
  iapply (hop_wait_vl (a := 4) (b := 5) (ha := by decide) (hb := by decide) (cont B) K c 4 5 (by decide) rfl) $$ [HO Cd Pd]
  · isplitr; · iexact HR
    isplitl [Cd]; · iexact Cd
    isplitl [HO]; · iexact HO
    iexact Pd
  iintro ⟨HO, Vd4, Hl5⟩
  unfold slotIs
  icases Hl5 with ⟨%fl5, %hl, Hl5⟩
  unfold slotPts
  sl_exec
  ihave Hg4 := (hop_close c 4 (by decide)) $$ [Va4 Vb4 Vc4 Vd4 Hro4 Hlo4]
  · isplitl [Va4]; · iexact Va4
    isplitl [Vb4]; · iexact Vb4
    isplitl [Vc4]; · iexact Vc4
    isplitl [Vd4]; · iexact Vd4
    isplitl [Hro4]; · iexact Hro4
    iexact Hlo4
  ihave Hh5 := (hop_open c 5) $$ Hh5
  icases Hh5 with ⟨Ta, Tb, Tc, Td, Pa, Pb, Pc, Pd, Cb, Cd⟩
  iapply (hop_send_r (cont B) K c 5 6 (by decide) rfl _ (dev16_eq c)) $$ [Hr5 Hrn6 HO Ta Tb]
  · isplitr; · iexact HR
    isplitl [Hr5]
    · unfold slotIs slotPts
      iexists _
      isplitr [Hr5]; swap; · iexact Hr5
      ipureintro
      refine reads_step (h := slices_S512x1024_o0_0_S512x512) (fx := B.x c) (K := colsOf B c) (W := wE (B.ew c)) (q := qR c 5) (V := YR B 4 (prv c)) ?_ ?_ ?_ ?_ ?_ ?_ ?_ ?_ ?_ ?_ ?_ ?_ (fun _ => rfl) rM c 5 (by decide) _
      · exact xg_eq (B.x c) (qR c 5) (off5_eq c 0 ⟨4, by decide⟩) (off5_eq c 1 ⟨4, by decide⟩) (off5_eq c 2 ⟨4, by decide⟩) (off5_eq c 3 ⟨4, by decide⟩) _ _ _ _ _ _
      · exact xg_eq (B.x c) (qR c 5) (off5_eq c 0 ⟨4, by decide⟩) (off5_eq c 1 ⟨4, by decide⟩) (off5_eq c 2 ⟨4, by decide⟩) (off5_eq c 3 ⟨4, by decide⟩) _ _ _ _ _ _
      · exact xg_eq (B.x c) (qR c 5) (off5_eq c 0 ⟨4, by decide⟩) (off5_eq c 1 ⟨4, by decide⟩) (off5_eq c 2 ⟨4, by decide⟩) (off5_eq c 3 ⟨4, by decide⟩) _ _ _ _ _ _
      · exact xg_eq (B.x c) (qR c 5) (off5_eq c 0 ⟨4, by decide⟩) (off5_eq c 1 ⟨4, by decide⟩) (off5_eq c 2 ⟨4, by decide⟩) (off5_eq c 3 ⟨4, by decide⟩) _ _ _ _ _ _
      · refine cg_eq (colsOf B c) (qR c 5) 0 ?_ ?_ ?_ ?_ _ _ _ _ _ _
        · exact gRow_eq (colsOf B c) _ (qR c 5) 0 (off6_eq c 0 ⟨4, by decide⟩) _ _ _ _
        · exact gRow_eq (colsOf B c) _ (qR c 5) 1 (off6_eq c 1 ⟨4, by decide⟩) _ _ _ _
        · exact gRow_eq (colsOf B c) _ (qR c 5) 2 (off6_eq c 2 ⟨4, by decide⟩) _ _ _ _
        · exact gRow_eq (colsOf B c) _ (qR c 5) 3 (off6_eq c 3 ⟨4, by decide⟩) _ _ _ _
      · refine cg_eq (colsOf B c) (qR c 5) 1 ?_ ?_ ?_ ?_ _ _ _ _ _ _
        · exact gRow_eq (colsOf B c) _ (qR c 5) 0 (off6_eq c 0 ⟨4, by decide⟩) _ _ _ _
        · exact gRow_eq (colsOf B c) _ (qR c 5) 1 (off6_eq c 1 ⟨4, by decide⟩) _ _ _ _
        · exact gRow_eq (colsOf B c) _ (qR c 5) 2 (off6_eq c 2 ⟨4, by decide⟩) _ _ _ _
        · exact gRow_eq (colsOf B c) _ (qR c 5) 3 (off6_eq c 3 ⟨4, by decide⟩) _ _ _ _
      · refine cg_eq (colsOf B c) (qR c 5) 2 ?_ ?_ ?_ ?_ _ _ _ _ _ _
        · exact gRow_eq (colsOf B c) _ (qR c 5) 0 (off6_eq c 0 ⟨4, by decide⟩) _ _ _ _
        · exact gRow_eq (colsOf B c) _ (qR c 5) 1 (off6_eq c 1 ⟨4, by decide⟩) _ _ _ _
        · exact gRow_eq (colsOf B c) _ (qR c 5) 2 (off6_eq c 2 ⟨4, by decide⟩) _ _ _ _
        · exact gRow_eq (colsOf B c) _ (qR c 5) 3 (off6_eq c 3 ⟨4, by decide⟩) _ _ _ _
      · refine cg_eq (colsOf B c) (qR c 5) 3 ?_ ?_ ?_ ?_ _ _ _ _ _ _
        · exact gRow_eq (colsOf B c) _ (qR c 5) 0 (off6_eq c 0 ⟨4, by decide⟩) _ _ _ _
        · exact gRow_eq (colsOf B c) _ (qR c 5) 1 (off6_eq c 1 ⟨4, by decide⟩) _ _ _ _
        · exact gRow_eq (colsOf B c) _ (qR c 5) 2 (off6_eq c 2 ⟨4, by decide⟩) _ _ _ _
        · exact gRow_eq (colsOf B c) _ (qR c 5) 3 (off6_eq c 3 ⟨4, by decide⟩) _ _ _ _
      · exact hr 0
      · exact hr 1
      · exact hr 2
      · exact hr 3
    isplitl [Hrn6]; · iexact Hrn6
    isplitl [HO]; · iexact HO
    isplitl [Ta]; · iexact Ta
    iexact Tb
  iintro ⟨Ca, HO⟩
  sl_exec
  iapply (hop_send_l (cont B) K c 5 6 (by decide) rfl _ (dev17_eq c)) $$ [Hl5 Hlp6 HO Tc Td]
  · isplitr; · iexact HR
    isplitl [Hl5]
    · unfold slotIs slotPts
      iexists _
      isplitr [Hl5]; swap; · iexact Hl5
      ipureintro
      refine reads_step (h := slices_S512x1024_o0_512_S512x512) (fx := B.x c) (K := colsOf B c) (W := wE (B.ew c)) (q := qL c 5) (V := YL B 4 (nxt c)) (X0 := run.sl.v1861 B c) (X1 := run.sl.v1861 B c) (X2 := run.sl.v1861 B c) (X3 := run.sl.v1861 B c) (g0 := run.sl.v1864 B c) (g1 := run.sl.v1870 B c) (g2 := run.sl.v1877 B c) (g3 := run.sl.v1884 B c) ?_ ?_ ?_ ?_ ?_ ?_ ?_ ?_ ?_ ?_ ?_ ?_ (fun _ => rfl) lM c 5 (by decide) _
      · exact xg_eq (B.x c) (qL c 5) (off7_eq c 0 ⟨4, by decide⟩) (off7_eq c 1 ⟨4, by decide⟩) (off7_eq c 2 ⟨4, by decide⟩) (off7_eq c 3 ⟨4, by decide⟩) _ _ _ _ _ _
      · exact xg_eq (B.x c) (qL c 5) (off7_eq c 0 ⟨4, by decide⟩) (off7_eq c 1 ⟨4, by decide⟩) (off7_eq c 2 ⟨4, by decide⟩) (off7_eq c 3 ⟨4, by decide⟩) _ _ _ _ _ _
      · exact xg_eq (B.x c) (qL c 5) (off7_eq c 0 ⟨4, by decide⟩) (off7_eq c 1 ⟨4, by decide⟩) (off7_eq c 2 ⟨4, by decide⟩) (off7_eq c 3 ⟨4, by decide⟩) _ _ _ _ _ _
      · exact xg_eq (B.x c) (qL c 5) (off7_eq c 0 ⟨4, by decide⟩) (off7_eq c 1 ⟨4, by decide⟩) (off7_eq c 2 ⟨4, by decide⟩) (off7_eq c 3 ⟨4, by decide⟩) _ _ _ _ _ _
      · refine cg_eq (colsOf B c) (qL c 5) 0 ?_ ?_ ?_ ?_ _ _ _ _ _ _
        · exact gRow_eq (colsOf B c) _ (qL c 5) 0 (off8_eq c 0 ⟨4, by decide⟩) _ _ _ _
        · exact gRow_eq (colsOf B c) _ (qL c 5) 1 (off8_eq c 1 ⟨4, by decide⟩) _ _ _ _
        · exact gRow_eq (colsOf B c) _ (qL c 5) 2 (off8_eq c 2 ⟨4, by decide⟩) _ _ _ _
        · exact gRow_eq (colsOf B c) _ (qL c 5) 3 (off8_eq c 3 ⟨4, by decide⟩) _ _ _ _
      · refine cg_eq (colsOf B c) (qL c 5) 1 ?_ ?_ ?_ ?_ _ _ _ _ _ _
        · exact gRow_eq (colsOf B c) _ (qL c 5) 0 (off8_eq c 0 ⟨4, by decide⟩) _ _ _ _
        · exact gRow_eq (colsOf B c) _ (qL c 5) 1 (off8_eq c 1 ⟨4, by decide⟩) _ _ _ _
        · exact gRow_eq (colsOf B c) _ (qL c 5) 2 (off8_eq c 2 ⟨4, by decide⟩) _ _ _ _
        · exact gRow_eq (colsOf B c) _ (qL c 5) 3 (off8_eq c 3 ⟨4, by decide⟩) _ _ _ _
      · refine cg_eq (colsOf B c) (qL c 5) 2 ?_ ?_ ?_ ?_ _ _ _ _ _ _
        · exact gRow_eq (colsOf B c) _ (qL c 5) 0 (off8_eq c 0 ⟨4, by decide⟩) _ _ _ _
        · exact gRow_eq (colsOf B c) _ (qL c 5) 1 (off8_eq c 1 ⟨4, by decide⟩) _ _ _ _
        · exact gRow_eq (colsOf B c) _ (qL c 5) 2 (off8_eq c 2 ⟨4, by decide⟩) _ _ _ _
        · exact gRow_eq (colsOf B c) _ (qL c 5) 3 (off8_eq c 3 ⟨4, by decide⟩) _ _ _ _
      · refine cg_eq (colsOf B c) (qL c 5) 3 ?_ ?_ ?_ ?_ _ _ _ _ _ _
        · exact gRow_eq (colsOf B c) _ (qL c 5) 0 (off8_eq c 0 ⟨4, by decide⟩) _ _ _ _
        · exact gRow_eq (colsOf B c) _ (qL c 5) 1 (off8_eq c 1 ⟨4, by decide⟩) _ _ _ _
        · exact gRow_eq (colsOf B c) _ (qL c 5) 2 (off8_eq c 2 ⟨4, by decide⟩) _ _ _ _
        · exact gRow_eq (colsOf B c) _ (qL c 5) 3 (off8_eq c 3 ⟨4, by decide⟩) _ _ _ _
      · exact hl 0
      · exact hl 1
      · exact hl 2
      · exact hl 3
    isplitl [Hlp6]; · iexact Hlp6
    isplitl [HO]; · iexact HO
    isplitl [Tc]; · iexact Tc
    iexact Td
  iintro ⟨Cc, HO⟩
  sl_exec
  iapply (hop_wait_sr (a := 6) (b := 5) (ha := by decide) (hb := by decide) (cont B) K c 5 (by decide)) $$ [HO Ca Pa]
  · isplitr; · iexact HR
    isplitl [Ca]; · iexact Ca
    isplitl [HO]; · iexact HO
    iexact Pa
  iintro ⟨HO, Va5, Hro5⟩
  sl_exec
  iapply (hop_wait_vr (a := 5) (b := 6) (ha := by decide) (hb := by decide) (cont B) K c 5 6 (by decide) rfl) $$ [HO Cb Pb]
  · isplitr; · iexact HR
    isplitl [Cb]; · iexact Cb
    isplitl [HO]; · iexact HO
    iexact Pb
  iintro ⟨HO, Vb5, Hr6⟩
  unfold slotIs
  icases Hr6 with ⟨%fr6, %hr, Hr6⟩
  unfold slotPts
  sl_exec
  iapply (hop_wait_sl (a := 6) (b := 5) (ha := by decide) (hb := by decide) (cont B) K c 5 (by decide)) $$ [HO Cc Pc]
  · isplitr; · iexact HR
    isplitl [Cc]; · iexact Cc
    isplitl [HO]; · iexact HO
    iexact Pc
  iintro ⟨HO, Vc5, Hlo5⟩
  sl_exec
  iapply (hop_wait_vl (a := 5) (b := 6) (ha := by decide) (hb := by decide) (cont B) K c 5 6 (by decide) rfl) $$ [HO Cd Pd]
  · isplitr; · iexact HR
    isplitl [Cd]; · iexact Cd
    isplitl [HO]; · iexact HO
    iexact Pd
  iintro ⟨HO, Vd5, Hl6⟩
  unfold slotIs
  icases Hl6 with ⟨%fl6, %hl, Hl6⟩
  unfold slotPts
  sl_exec
  ihave Hg5 := (hop_close c 5 (by decide)) $$ [Va5 Vb5 Vc5 Vd5 Hro5 Hlo5]
  · isplitl [Va5]; · iexact Va5
    isplitl [Vb5]; · iexact Vb5
    isplitl [Vc5]; · iexact Vc5
    isplitl [Vd5]; · iexact Vd5
    isplitl [Hro5]; · iexact Hro5
    iexact Hlo5
  ihave Hh6 := (hop_open c 6) $$ Hh6
  icases Hh6 with ⟨Ta, Tb, Tc, Td, Pa, Pb, Pc, Pd, Cb, Cd⟩
  iapply (hop_send_r (cont B) K c 6 7 (by decide) rfl _ (dev18_eq c)) $$ [Hr6 Hrn7 HO Ta Tb]
  · isplitr; · iexact HR
    isplitl [Hr6]
    · unfold slotIs slotPts
      iexists _
      isplitr [Hr6]; swap; · iexact Hr6
      ipureintro
      refine reads_step (h := slices_S512x1024_o0_0_S512x512) (fx := B.x c) (K := colsOf B c) (W := wE (B.ew c)) (q := qR c 6) (V := YR B 5 (prv c)) (X0 := run.sl.v2074 B c) (X1 := run.sl.v2074 B c) (X2 := run.sl.v2074 B c) (X3 := run.sl.v2074 B c) (g0 := run.sl.v2077 B c) (g1 := run.sl.v2083 B c) (g2 := run.sl.v2090 B c) (g3 := run.sl.v2097 B c) ?_ ?_ ?_ ?_ ?_ ?_ ?_ ?_ ?_ ?_ ?_ ?_ (fun _ => rfl) rM c 6 (by decide) _
      · exact xg_eq (B.x c) (qR c 6) (off5_eq c 0 ⟨5, by decide⟩) (off5_eq c 1 ⟨5, by decide⟩) (off5_eq c 2 ⟨5, by decide⟩) (off5_eq c 3 ⟨5, by decide⟩) _ _ _ _ _ _
      · exact xg_eq (B.x c) (qR c 6) (off5_eq c 0 ⟨5, by decide⟩) (off5_eq c 1 ⟨5, by decide⟩) (off5_eq c 2 ⟨5, by decide⟩) (off5_eq c 3 ⟨5, by decide⟩) _ _ _ _ _ _
      · exact xg_eq (B.x c) (qR c 6) (off5_eq c 0 ⟨5, by decide⟩) (off5_eq c 1 ⟨5, by decide⟩) (off5_eq c 2 ⟨5, by decide⟩) (off5_eq c 3 ⟨5, by decide⟩) _ _ _ _ _ _
      · exact xg_eq (B.x c) (qR c 6) (off5_eq c 0 ⟨5, by decide⟩) (off5_eq c 1 ⟨5, by decide⟩) (off5_eq c 2 ⟨5, by decide⟩) (off5_eq c 3 ⟨5, by decide⟩) _ _ _ _ _ _
      · refine cg_eq (colsOf B c) (qR c 6) 0 ?_ ?_ ?_ ?_ _ _ _ _ _ _
        · exact gRow_eq (colsOf B c) _ (qR c 6) 0 (off6_eq c 0 ⟨5, by decide⟩) _ _ _ _
        · exact gRow_eq (colsOf B c) _ (qR c 6) 1 (off6_eq c 1 ⟨5, by decide⟩) _ _ _ _
        · exact gRow_eq (colsOf B c) _ (qR c 6) 2 (off6_eq c 2 ⟨5, by decide⟩) _ _ _ _
        · exact gRow_eq (colsOf B c) _ (qR c 6) 3 (off6_eq c 3 ⟨5, by decide⟩) _ _ _ _
      · refine cg_eq (colsOf B c) (qR c 6) 1 ?_ ?_ ?_ ?_ _ _ _ _ _ _
        · exact gRow_eq (colsOf B c) _ (qR c 6) 0 (off6_eq c 0 ⟨5, by decide⟩) _ _ _ _
        · exact gRow_eq (colsOf B c) _ (qR c 6) 1 (off6_eq c 1 ⟨5, by decide⟩) _ _ _ _
        · exact gRow_eq (colsOf B c) _ (qR c 6) 2 (off6_eq c 2 ⟨5, by decide⟩) _ _ _ _
        · exact gRow_eq (colsOf B c) _ (qR c 6) 3 (off6_eq c 3 ⟨5, by decide⟩) _ _ _ _
      · refine cg_eq (colsOf B c) (qR c 6) 2 ?_ ?_ ?_ ?_ _ _ _ _ _ _
        · exact gRow_eq (colsOf B c) _ (qR c 6) 0 (off6_eq c 0 ⟨5, by decide⟩) _ _ _ _
        · exact gRow_eq (colsOf B c) _ (qR c 6) 1 (off6_eq c 1 ⟨5, by decide⟩) _ _ _ _
        · exact gRow_eq (colsOf B c) _ (qR c 6) 2 (off6_eq c 2 ⟨5, by decide⟩) _ _ _ _
        · exact gRow_eq (colsOf B c) _ (qR c 6) 3 (off6_eq c 3 ⟨5, by decide⟩) _ _ _ _
      · refine cg_eq (colsOf B c) (qR c 6) 3 ?_ ?_ ?_ ?_ _ _ _ _ _ _
        · exact gRow_eq (colsOf B c) _ (qR c 6) 0 (off6_eq c 0 ⟨5, by decide⟩) _ _ _ _
        · exact gRow_eq (colsOf B c) _ (qR c 6) 1 (off6_eq c 1 ⟨5, by decide⟩) _ _ _ _
        · exact gRow_eq (colsOf B c) _ (qR c 6) 2 (off6_eq c 2 ⟨5, by decide⟩) _ _ _ _
        · exact gRow_eq (colsOf B c) _ (qR c 6) 3 (off6_eq c 3 ⟨5, by decide⟩) _ _ _ _
      · exact hr 0
      · exact hr 1
      · exact hr 2
      · exact hr 3
    isplitl [Hrn7]; · iexact Hrn7
    isplitl [HO]; · iexact HO
    isplitl [Ta]; · iexact Ta
    iexact Tb
  iintro ⟨Ca, HO⟩
  sl_exec
  iapply (hop_send_l (cont B) K c 6 7 (by decide) rfl _ (dev19_eq c)) $$ [Hl6 Hlp7 HO Tc Td]
  · isplitr; · iexact HR
    isplitl [Hl6]
    · unfold slotIs slotPts
      iexists _
      isplitr [Hl6]; swap; · iexact Hl6
      ipureintro
      refine reads_step (h := slices_S512x1024_o0_512_S512x512) (fx := B.x c) (K := colsOf B c) (W := wE (B.ew c)) (q := qL c 6) (V := YL B 5 (nxt c)) (X0 := run.sl.v2174 B c) (X1 := run.sl.v2174 B c) (X2 := run.sl.v2174 B c) (X3 := run.sl.v2174 B c) (g0 := run.sl.v2177 B c) (g1 := run.sl.v2183 B c) (g2 := run.sl.v2190 B c) (g3 := run.sl.v2197 B c) ?_ ?_ ?_ ?_ ?_ ?_ ?_ ?_ ?_ ?_ ?_ ?_ (fun _ => rfl) lM c 6 (by decide) _
      · exact xg_eq (B.x c) (qL c 6) (off7_eq c 0 ⟨5, by decide⟩) (off7_eq c 1 ⟨5, by decide⟩) (off7_eq c 2 ⟨5, by decide⟩) (off7_eq c 3 ⟨5, by decide⟩) _ _ _ _ _ _
      · exact xg_eq (B.x c) (qL c 6) (off7_eq c 0 ⟨5, by decide⟩) (off7_eq c 1 ⟨5, by decide⟩) (off7_eq c 2 ⟨5, by decide⟩) (off7_eq c 3 ⟨5, by decide⟩) _ _ _ _ _ _
      · exact xg_eq (B.x c) (qL c 6) (off7_eq c 0 ⟨5, by decide⟩) (off7_eq c 1 ⟨5, by decide⟩) (off7_eq c 2 ⟨5, by decide⟩) (off7_eq c 3 ⟨5, by decide⟩) _ _ _ _ _ _
      · exact xg_eq (B.x c) (qL c 6) (off7_eq c 0 ⟨5, by decide⟩) (off7_eq c 1 ⟨5, by decide⟩) (off7_eq c 2 ⟨5, by decide⟩) (off7_eq c 3 ⟨5, by decide⟩) _ _ _ _ _ _
      · refine cg_eq (colsOf B c) (qL c 6) 0 ?_ ?_ ?_ ?_ _ _ _ _ _ _
        · exact gRow_eq (colsOf B c) _ (qL c 6) 0 (off8_eq c 0 ⟨5, by decide⟩) _ _ _ _
        · exact gRow_eq (colsOf B c) _ (qL c 6) 1 (off8_eq c 1 ⟨5, by decide⟩) _ _ _ _
        · exact gRow_eq (colsOf B c) _ (qL c 6) 2 (off8_eq c 2 ⟨5, by decide⟩) _ _ _ _
        · exact gRow_eq (colsOf B c) _ (qL c 6) 3 (off8_eq c 3 ⟨5, by decide⟩) _ _ _ _
      · refine cg_eq (colsOf B c) (qL c 6) 1 ?_ ?_ ?_ ?_ _ _ _ _ _ _
        · exact gRow_eq (colsOf B c) _ (qL c 6) 0 (off8_eq c 0 ⟨5, by decide⟩) _ _ _ _
        · exact gRow_eq (colsOf B c) _ (qL c 6) 1 (off8_eq c 1 ⟨5, by decide⟩) _ _ _ _
        · exact gRow_eq (colsOf B c) _ (qL c 6) 2 (off8_eq c 2 ⟨5, by decide⟩) _ _ _ _
        · exact gRow_eq (colsOf B c) _ (qL c 6) 3 (off8_eq c 3 ⟨5, by decide⟩) _ _ _ _
      · refine cg_eq (colsOf B c) (qL c 6) 2 ?_ ?_ ?_ ?_ _ _ _ _ _ _
        · exact gRow_eq (colsOf B c) _ (qL c 6) 0 (off8_eq c 0 ⟨5, by decide⟩) _ _ _ _
        · exact gRow_eq (colsOf B c) _ (qL c 6) 1 (off8_eq c 1 ⟨5, by decide⟩) _ _ _ _
        · exact gRow_eq (colsOf B c) _ (qL c 6) 2 (off8_eq c 2 ⟨5, by decide⟩) _ _ _ _
        · exact gRow_eq (colsOf B c) _ (qL c 6) 3 (off8_eq c 3 ⟨5, by decide⟩) _ _ _ _
      · refine cg_eq (colsOf B c) (qL c 6) 3 ?_ ?_ ?_ ?_ _ _ _ _ _ _
        · exact gRow_eq (colsOf B c) _ (qL c 6) 0 (off8_eq c 0 ⟨5, by decide⟩) _ _ _ _
        · exact gRow_eq (colsOf B c) _ (qL c 6) 1 (off8_eq c 1 ⟨5, by decide⟩) _ _ _ _
        · exact gRow_eq (colsOf B c) _ (qL c 6) 2 (off8_eq c 2 ⟨5, by decide⟩) _ _ _ _
        · exact gRow_eq (colsOf B c) _ (qL c 6) 3 (off8_eq c 3 ⟨5, by decide⟩) _ _ _ _
      · exact hl 0
      · exact hl 1
      · exact hl 2
      · exact hl 3
    isplitl [Hlp7]; · iexact Hlp7
    isplitl [HO]; · iexact HO
    isplitl [Tc]; · iexact Tc
    iexact Td
  iintro ⟨Cc, HO⟩
  sl_exec
  iapply (hop_wait_sr (a := 7) (b := 6) (ha := by decide) (hb := by decide) (cont B) K c 6 (by decide)) $$ [HO Ca Pa]
  · isplitr; · iexact HR
    isplitl [Ca]; · iexact Ca
    isplitl [HO]; · iexact HO
    iexact Pa
  iintro ⟨HO, Va6, Hro6⟩
  sl_exec
  iapply (hop_wait_vr (a := 6) (b := 7) (ha := by decide) (hb := by decide) (cont B) K c 6 7 (by decide) rfl) $$ [HO Cb Pb]
  · isplitr; · iexact HR
    isplitl [Cb]; · iexact Cb
    isplitl [HO]; · iexact HO
    iexact Pb
  iintro ⟨HO, Vb6, Hr7⟩
  unfold slotIs
  icases Hr7 with ⟨%fr7, %hr, Hr7⟩
  unfold slotPts
  sl_exec
  iapply (hop_wait_sl (a := 7) (b := 6) (ha := by decide) (hb := by decide) (cont B) K c 6 (by decide)) $$ [HO Cc Pc]
  · isplitr; · iexact HR
    isplitl [Cc]; · iexact Cc
    isplitl [HO]; · iexact HO
    iexact Pc
  iintro ⟨HO, Vc6, Hlo6⟩
  sl_exec
  iapply (hop_wait_vl (a := 6) (b := 7) (ha := by decide) (hb := by decide) (cont B) K c 6 7 (by decide) rfl) $$ [HO Cd Pd]
  · isplitr; · iexact HR
    isplitl [Cd]; · iexact Cd
    isplitl [HO]; · iexact HO
    iexact Pd
  iintro ⟨HO, Vd6, Hl7⟩
  unfold slotIs
  icases Hl7 with ⟨%fl7, %hl, Hl7⟩
  unfold slotPts
  sl_exec
  ihave Hg6 := (hop_close c 6 (by decide)) $$ [Va6 Vb6 Vc6 Vd6 Hro6 Hlo6]
  · isplitl [Va6]; · iexact Va6
    isplitl [Vb6]; · iexact Vb6
    isplitl [Vc6]; · iexact Vc6
    isplitl [Vd6]; · iexact Vd6
    isplitl [Hro6]; · iexact Hro6
    iexact Hlo6
  have eR : eblk 0 slices_S512x1024_o0_0_S512x512 (run.sl.v2387 B c) (run.sl.v2387 B c) (run.sl.v2387 B c) (run.sl.v2387 B c) (run.sl.v2390 B c) (run.sl.v2396 B c) (run.sl.v2403 B c) (run.sl.v2410 B c) (wE (B.ew c) 0) (wE (B.ew c) 1) (wE (B.ew c) 2) (wE (B.ew c) 3) = accR B c 7 := by
    refine acc_eq (fx := B.x c) (K := colsOf B c) (W := wE (B.ew c)) (q := qR c 7) ?_ ?_ ?_ ?_ ?_ ?_ ?_ ?_
    · exact xg_eq (B.x c) (qR c 7) (off5_eq c 0 ⟨6, by decide⟩) (off5_eq c 1 ⟨6, by decide⟩) (off5_eq c 2 ⟨6, by decide⟩) (off5_eq c 3 ⟨6, by decide⟩) _ _ _ _ _ _
    · exact xg_eq (B.x c) (qR c 7) (off5_eq c 0 ⟨6, by decide⟩) (off5_eq c 1 ⟨6, by decide⟩) (off5_eq c 2 ⟨6, by decide⟩) (off5_eq c 3 ⟨6, by decide⟩) _ _ _ _ _ _
    · exact xg_eq (B.x c) (qR c 7) (off5_eq c 0 ⟨6, by decide⟩) (off5_eq c 1 ⟨6, by decide⟩) (off5_eq c 2 ⟨6, by decide⟩) (off5_eq c 3 ⟨6, by decide⟩) _ _ _ _ _ _
    · exact xg_eq (B.x c) (qR c 7) (off5_eq c 0 ⟨6, by decide⟩) (off5_eq c 1 ⟨6, by decide⟩) (off5_eq c 2 ⟨6, by decide⟩) (off5_eq c 3 ⟨6, by decide⟩) _ _ _ _ _ _
    · refine cg_eq (colsOf B c) (qR c 7) 0 ?_ ?_ ?_ ?_ _ _ _ _ _ _
      · exact gRow_eq (colsOf B c) _ (qR c 7) 0 (off6_eq c 0 ⟨6, by decide⟩) _ _ _ _
      · exact gRow_eq (colsOf B c) _ (qR c 7) 1 (off6_eq c 1 ⟨6, by decide⟩) _ _ _ _
      · exact gRow_eq (colsOf B c) _ (qR c 7) 2 (off6_eq c 2 ⟨6, by decide⟩) _ _ _ _
      · exact gRow_eq (colsOf B c) _ (qR c 7) 3 (off6_eq c 3 ⟨6, by decide⟩) _ _ _ _
    · refine cg_eq (colsOf B c) (qR c 7) 1 ?_ ?_ ?_ ?_ _ _ _ _ _ _
      · exact gRow_eq (colsOf B c) _ (qR c 7) 0 (off6_eq c 0 ⟨6, by decide⟩) _ _ _ _
      · exact gRow_eq (colsOf B c) _ (qR c 7) 1 (off6_eq c 1 ⟨6, by decide⟩) _ _ _ _
      · exact gRow_eq (colsOf B c) _ (qR c 7) 2 (off6_eq c 2 ⟨6, by decide⟩) _ _ _ _
      · exact gRow_eq (colsOf B c) _ (qR c 7) 3 (off6_eq c 3 ⟨6, by decide⟩) _ _ _ _
    · refine cg_eq (colsOf B c) (qR c 7) 2 ?_ ?_ ?_ ?_ _ _ _ _ _ _
      · exact gRow_eq (colsOf B c) _ (qR c 7) 0 (off6_eq c 0 ⟨6, by decide⟩) _ _ _ _
      · exact gRow_eq (colsOf B c) _ (qR c 7) 1 (off6_eq c 1 ⟨6, by decide⟩) _ _ _ _
      · exact gRow_eq (colsOf B c) _ (qR c 7) 2 (off6_eq c 2 ⟨6, by decide⟩) _ _ _ _
      · exact gRow_eq (colsOf B c) _ (qR c 7) 3 (off6_eq c 3 ⟨6, by decide⟩) _ _ _ _
    · refine cg_eq (colsOf B c) (qR c 7) 3 ?_ ?_ ?_ ?_ _ _ _ _ _ _
      · exact gRow_eq (colsOf B c) _ (qR c 7) 0 (off6_eq c 0 ⟨6, by decide⟩) _ _ _ _
      · exact gRow_eq (colsOf B c) _ (qR c 7) 1 (off6_eq c 1 ⟨6, by decide⟩) _ _ _ _
      · exact gRow_eq (colsOf B c) _ (qR c 7) 2 (off6_eq c 2 ⟨6, by decide⟩) _ _ _ _
      · exact gRow_eq (colsOf B c) _ (qR c 7) 3 (off6_eq c 3 ⟨6, by decide⟩) _ _ _ _
  have eL : eblk 512 slices_S512x1024_o0_512_S512x512 (run.sl.v2487 B c) (run.sl.v2487 B c) (run.sl.v2487 B c) (run.sl.v2487 B c) (run.sl.v2490 B c) (run.sl.v2496 B c) (run.sl.v2503 B c) (run.sl.v2510 B c) (wE (B.ew c) 0) (wE (B.ew c) 1) (wE (B.ew c) 2) (wE (B.ew c) 3) = accL B c 7 := by
    refine acc_eq (fx := B.x c) (K := colsOf B c) (W := wE (B.ew c)) (q := qL c 7) ?_ ?_ ?_ ?_ ?_ ?_ ?_ ?_
    · exact xg_eq (B.x c) (qL c 7) (off7_eq c 0 ⟨6, by decide⟩) (off7_eq c 1 ⟨6, by decide⟩) (off7_eq c 2 ⟨6, by decide⟩) (off7_eq c 3 ⟨6, by decide⟩) _ _ _ _ _ _
    · exact xg_eq (B.x c) (qL c 7) (off7_eq c 0 ⟨6, by decide⟩) (off7_eq c 1 ⟨6, by decide⟩) (off7_eq c 2 ⟨6, by decide⟩) (off7_eq c 3 ⟨6, by decide⟩) _ _ _ _ _ _
    · exact xg_eq (B.x c) (qL c 7) (off7_eq c 0 ⟨6, by decide⟩) (off7_eq c 1 ⟨6, by decide⟩) (off7_eq c 2 ⟨6, by decide⟩) (off7_eq c 3 ⟨6, by decide⟩) _ _ _ _ _ _
    · exact xg_eq (B.x c) (qL c 7) (off7_eq c 0 ⟨6, by decide⟩) (off7_eq c 1 ⟨6, by decide⟩) (off7_eq c 2 ⟨6, by decide⟩) (off7_eq c 3 ⟨6, by decide⟩) _ _ _ _ _ _
    · refine cg_eq (colsOf B c) (qL c 7) 0 ?_ ?_ ?_ ?_ _ _ _ _ _ _
      · exact gRow_eq (colsOf B c) _ (qL c 7) 0 (off8_eq c 0 ⟨6, by decide⟩) _ _ _ _
      · exact gRow_eq (colsOf B c) _ (qL c 7) 1 (off8_eq c 1 ⟨6, by decide⟩) _ _ _ _
      · exact gRow_eq (colsOf B c) _ (qL c 7) 2 (off8_eq c 2 ⟨6, by decide⟩) _ _ _ _
      · exact gRow_eq (colsOf B c) _ (qL c 7) 3 (off8_eq c 3 ⟨6, by decide⟩) _ _ _ _
    · refine cg_eq (colsOf B c) (qL c 7) 1 ?_ ?_ ?_ ?_ _ _ _ _ _ _
      · exact gRow_eq (colsOf B c) _ (qL c 7) 0 (off8_eq c 0 ⟨6, by decide⟩) _ _ _ _
      · exact gRow_eq (colsOf B c) _ (qL c 7) 1 (off8_eq c 1 ⟨6, by decide⟩) _ _ _ _
      · exact gRow_eq (colsOf B c) _ (qL c 7) 2 (off8_eq c 2 ⟨6, by decide⟩) _ _ _ _
      · exact gRow_eq (colsOf B c) _ (qL c 7) 3 (off8_eq c 3 ⟨6, by decide⟩) _ _ _ _
    · refine cg_eq (colsOf B c) (qL c 7) 2 ?_ ?_ ?_ ?_ _ _ _ _ _ _
      · exact gRow_eq (colsOf B c) _ (qL c 7) 0 (off8_eq c 0 ⟨6, by decide⟩) _ _ _ _
      · exact gRow_eq (colsOf B c) _ (qL c 7) 1 (off8_eq c 1 ⟨6, by decide⟩) _ _ _ _
      · exact gRow_eq (colsOf B c) _ (qL c 7) 2 (off8_eq c 2 ⟨6, by decide⟩) _ _ _ _
      · exact gRow_eq (colsOf B c) _ (qL c 7) 3 (off8_eq c 3 ⟨6, by decide⟩) _ _ _ _
    · refine cg_eq (colsOf B c) (qL c 7) 3 ?_ ?_ ?_ ?_ _ _ _ _ _ _
      · exact gRow_eq (colsOf B c) _ (qL c 7) 0 (off8_eq c 0 ⟨6, by decide⟩) _ _ _ _
      · exact gRow_eq (colsOf B c) _ (qL c 7) 1 (off8_eq c 1 ⟨6, by decide⟩) _ _ _ _
      · exact gRow_eq (colsOf B c) _ (qL c 7) 2 (off8_eq c 2 ⟨6, by decide⟩) _ _ _ _
      · exact gRow_eq (colsOf B c) _ (qL c 7) 3 (off8_eq c 3 ⟨6, by decide⟩) _ _ _ _
  have f0R : run.sl.r_101 B c fr7 = FR B c 0 := half_eq 0 eR (hr 0)
  have f1R : run.sl.r_102 B c fr7 = FR B c 1 := half_eq 1 eR (hr 1)
  have f2R : run.sl.r_103 B c fr7 = FR B c 2 := half_eq 2 eR (hr 2)
  have f3R : k0_pay310 (run.sl.r_93 B c) (rM.view.readAt (Elt F) (Rect.unit (s := S8x4x64x512) ![7, 3, 0, 0] S1x1x64x512.size inb_S8x4x64x512_S1x1x64x512_7_3_0_0).toLoadRect fr7) = FR B c 3 := half_eq 3 eR (hr 3)
  have f0L : k0_pay311 (run.sl.r_97 B c) (lM.view.readAt (Elt F) (Rect.unit (s := S8x4x64x512) ![7, 0, 0, 0] S1x1x64x512.size inb_S8x4x64x512_S1x1x64x512_7_0_0_0).toLoadRect fl7) = FL B c 0 := half_eq 0 eL (hl 0)
  have f1L : k0_pay312 (run.sl.r_98 B c) (lM.view.readAt (Elt F) (Rect.unit (s := S8x4x64x512) ![7, 1, 0, 0] S1x1x64x512.size inb_S8x4x64x512_S1x1x64x512_7_1_0_0).toLoadRect fl7) = FL B c 1 := half_eq 1 eL (hl 1)
  have f2L : k0_pay313 (run.sl.r_99 B c) (lM.view.readAt (Elt F) (Rect.unit (s := S8x4x64x512) ![7, 2, 0, 0] S1x1x64x512.size inb_S8x4x64x512_S1x1x64x512_7_2_0_0).toLoadRect fl7) = FL B c 2 := half_eq 2 eL (hl 2)
  have f3L : k0_pay314 (run.sl.r_100 B c) (lM.view.readAt (Elt F) (Rect.unit (s := S8x4x64x512) ![7, 3, 0, 0] S1x1x64x512.size inb_S8x4x64x512_S1x1x64x512_7_3_0_0).toLoadRect fl7) = FL B c 3 := half_eq 3 eL (hl 3)
  ihave Hring := (ring_close c fr7 fl7) $$ [Hg0 Hg1 Hg2 Hg3 Hg4 Hg5 Hg6 Hr7 Hl7]
  · unfold slotPts
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hr7]; · iexact Hr7
    iexact Hl7
  unfold idleIn
  icases Hidle with ⟨A0, A1, A2, A3⟩
  imod (step_idle (cont B) K c (i := 7) (by decide) (by rfl)) $$ [A0] with W0
  · isplitr; · iexact HR
    iexact A0
  imod (step_idle (cont B) K c (i := 8) (by decide) (by rfl)) $$ [A1] with W1
  · isplitr; · iexact HR
    iexact A1
  imod (step_idle (cont B) K c (i := 23) (by decide) (by rfl)) $$ [A2] with W2
  · isplitr; · iexact HR
    iexact A2
  imod (step_idle (cont B) K c (i := 24) (by decide) (by rfl)) $$ [A3] with W3
  · isplitr; · iexact HR
    iexact A3
  ihave Hs2 := (rows_split s2M (View.set_whole _) c gs) $$ Hs2
  icases Hs2 with ⟨Hs0, Hs1, Hs2, Hs3⟩
  ihave HO := (owes_planes c) $$ HO
  have l0 : 0 < 4 := by decide
  have l1 : 1 < 4 := by decide
  have l2 : 2 < 4 := by decide
  have l3 : 3 < 4 := by decide
  have above3 : Above 0 0 := Above.zero 0
  have above2 : Above 0 (0 + P2 c ⟨3, l3⟩) := above3.add (Above.P2 c _ (by decide))
  have above1 : Above 0 ((0 + P2 c ⟨3, l3⟩) + P2 c ⟨2, l2⟩) := above2.add (Above.P2 c _ (by decide))
  have above0 : Above 0 (((0 + P2 c ⟨3, l3⟩) + P2 c ⟨2, l2⟩) + P2 c ⟨1, l1⟩) := above1.add (Above.P2 c _ (by decide))
  rcases (by decide : ∀ z : Fin 4, z = 0 ∨ z = 1 ∨ z = 2 ∨ z = 3) (zOf c) with hz | hz | hz | hz
  · have n0 : (⟨0, l0⟩ : Fin 4) = zOf c := hz.symm
    have n1 : (⟨1, l1⟩ : Fin 4) ≠ zOf c := by rw [hz]; exact (by decide : (1 : Fin 4) ≠ 0)
    have n2 : (⟨2, l2⟩ : Fin 4) ≠ zOf c := by rw [hz]; exact (by decide : (2 : Fin 4) ≠ 0)
    have n3 : (⟨3, l3⟩ : Fin 4) ≠ zOf c := by rw [hz]; exact (by decide : (3 : Fin 4) ≠ 0)
    have h0 : ¬ k0_cond1 c = 1#1 := fun h => ((cond1_eq c).mp h) n0.symm
    have h1 : k0_cond2 c = 1#1 := (cond2_eq c).mpr n1.symm
    have h2 : k0_cond3 c = 1#1 := (cond3_eq c).mpr n2.symm
    have h3 : k0_cond4 c = 1#1 := (cond4_eq c).mpr n3.symm
    ihave Hq1 := (row_at c (by rw [hz]; rfl : zOf c + 1 = (⟨1, l1⟩ : Fin 4))) $$ Hq1
    ihave Hq2 := (row_at c (by rw [hz]; rfl : zOf c + 2 = (⟨2, l2⟩ : Fin 4))) $$ Hq2
    ihave Hq3 := (row_at c (by rw [hz]; rfl : zOf c + 3 = (⟨3, l3⟩ : Fin 4))) $$ Hq3
    ihave Hz0 := (plane_own c 0 l0 n0) $$ Hz0
    icases Hz0 with ⟨S0, V0⟩
    imod (step_idle (cont B) K c (i := 32) (by decide) (not_paid c _ (by rw [hz]; decide))) $$ [S0] with S0
    · isplitr; · iexact HR
      iexact S0
    imod (step_idle (cont B) K c (i := 36) (by decide) (not_paid c _ (by rw [hz]; decide))) $$ [V0] with V0
    · isplitr; · iexact HR
      iexact V0
    ihave Hz1 := (plane_open c 1 l1 n1) $$ Hz1
    icases Hz1 with ⟨S1, V1, Ts1, Tv1, Cv1⟩
    ihave Hz2 := (plane_open c 2 l2 n2) $$ Hz2
    icases Hz2 with ⟨S2, V2, Ts2, Tv2, Cv2⟩
    ihave Hz3 := (plane_open c 3 l3 n3) $$ Hz3
    icases Hz3 with ⟨S3, V3, Ts3, Tv3, Cv3⟩
    ihave Hv0 := (own_zero c 0 l0 n0 gv) $$ Hv2
    unfold rowIs
    icases Hv0 with ⟨%fv0, %hv0, Hv0⟩
    unfold rowPts
    sl_exec
    ihave HO := (owes_own c (((0 + P2 c ⟨3, l3⟩) + P2 c ⟨2, l2⟩) + P2 c ⟨1, l1⟩) 0 l0 n0) $$ HO
    iapply (step_send2 (cont B) K c 1 l1 n1 (off12_eq c) (off11_eq c) _ (Fin.ext (dev21_val c)) ((0 + P2 c ⟨3, l3⟩) + P2 c ⟨2, l2⟩)) $$ [Hs1 Hq1 HO Ts1 Tv1]
    · isplitr; · iexact HR
      isplitl [Hs1]
      · unfold rowIs rowPts
        iexists _
        isplitr [Hs1]; swap; · iexact Hs1
        ipureintro
        exact rowReads_of_pieces s2M c 1 (by decide) _ (congrArg put2 f1R) (congrArg put2 f1L) _
      isplitl [Hq1]; · iexact Hq1
      isplitl [HO]; · iexact HO
      isplitl [Ts1]; · iexact Ts1
      iexact Tv1
    iintro ⟨Cs1, HO⟩
    sl_exec
    iapply (wait_s2 (dst := planeM s2M 1 l1) (cont B) K c 1 l1 n1 rfl ((0 + P2 c ⟨3, l3⟩) + P2 c ⟨2, l2⟩) above1) $$ [Cs1 HO S1]
    · isplitr; · iexact HR
      isplitl [Cs1]; · iexact Cs1
      isplitl [HO]; · iexact HO
      iexact S1
    iintro ⟨HO, S1, Hs1⟩
    sl_exec
    iapply (step_send2 (cont B) K c 2 l2 n2 (off14_eq c) (off13_eq c) _ (Fin.ext (dev22_val c)) (0 + P2 c ⟨3, l3⟩)) $$ [Hs2 Hq2 HO Ts2 Tv2]
    · isplitr; · iexact HR
      isplitl [Hs2]
      · unfold rowIs rowPts
        iexists _
        isplitr [Hs2]; swap; · iexact Hs2
        ipureintro
        exact rowReads_of_pieces s2M c 2 (by decide) _ (congrArg put2 f2R) (congrArg put2 f2L) _
      isplitl [Hq2]; · iexact Hq2
      isplitl [HO]; · iexact HO
      isplitl [Ts2]; · iexact Ts2
      iexact Tv2
    iintro ⟨Cs2, HO⟩
    sl_exec
    iapply (wait_s2 (dst := planeM s2M 2 l2) (cont B) K c 2 l2 n2 rfl (0 + P2 c ⟨3, l3⟩) above2) $$ [Cs2 HO S2]
    · isplitr; · iexact HR
      isplitl [Cs2]; · iexact Cs2
      isplitl [HO]; · iexact HO
      iexact S2
    iintro ⟨HO, S2, Hs2⟩
    sl_exec
    iapply (step_send2 (cont B) K c 3 l3 n3 (off16_eq c) (off15_eq c) _ (Fin.ext (dev23_val c)) (0)) $$ [Hs3 Hq3 HO Ts3 Tv3]
    · isplitr; · iexact HR
      isplitl [Hs3]
      · unfold rowIs rowPts
        iexists _
        isplitr [Hs3]; swap; · iexact Hs3
        ipureintro
        exact rowReads_of_pieces s2M c 3 (by decide) _ (congrArg put2 f3R) (congrArg put2 f3L) _
      isplitl [Hq3]; · iexact Hq3
      isplitl [HO]; · iexact HO
      isplitl [Ts3]; · iexact Ts3
      iexact Tv3
    iintro ⟨Cs3, HO⟩
    sl_exec
    iapply (wait_s2 (dst := planeM s2M 3 l3) (cont B) K c 3 l3 n3 rfl (0) above3) $$ [Cs3 HO S3]
    · isplitr; · iexact HR
      isplitl [Cs3]; · iexact Cs3
      isplitl [HO]; · iexact HO
      iexact S3
    iintro ⟨HO, S3, Hs3⟩
    sl_exec
    have g0 : ¬ run.sl.v2622 c = 1#1 := fun h => ((by decide +kernel : ∀ d : Dev nD, run.sl.v2622 d = 1#1 ↔ zOf d ≠ 0) c).mp h n0.symm
    sl_exec
    have g1 : run.sl.v2639 c = 1#1 := ((by decide +kernel : ∀ d : Dev nD, run.sl.v2639 d = 1#1 ↔ zOf d ≠ 1) c).mpr n1.symm
    sl_exec
    iapply (wait_v2 (dst := planeM v2M 1 l1) (cont B) K c 1 l1 n1 rfl) $$ [Cv1 HO V1]
    · isplitr; · iexact HR
      isplitl [Cv1]; · iexact Cv1
      isplitl [HO]; · iexact HO
      iexact V1
    iintro ⟨HO, V1, Hv1⟩
    unfold rowIs
    icases Hv1 with ⟨%fv1, %hv1, Hv1⟩
    unfold rowPts
    sl_exec
    have g2 : run.sl.v2656 c = 1#1 := ((by decide +kernel : ∀ d : Dev nD, run.sl.v2656 d = 1#1 ↔ zOf d ≠ 2) c).mpr n2.symm
    sl_exec
    iapply (wait_v2 (dst := planeM v2M 2 l2) (cont B) K c 2 l2 n2 rfl) $$ [Cv2 HO V2]
    · isplitr; · iexact HR
      isplitl [Cv2]; · iexact Cv2
      isplitl [HO]; · iexact HO
      iexact V2
    iintro ⟨HO, V2, Hv2⟩
    unfold rowIs
    icases Hv2 with ⟨%fv2, %hv2, Hv2⟩
    unfold rowPts
    sl_exec
    have g3 : run.sl.v2673 c = 1#1 := ((by decide +kernel : ∀ d : Dev nD, run.sl.v2673 d = 1#1 ↔ zOf d ≠ 3) c).mpr n3.symm
    sl_exec
    iapply (wait_v2 (dst := planeM v2M 3 l3) (cont B) K c 3 l3 n3 rfl) $$ [Cv3 HO V3]
    · isplitr; · iexact HR
      isplitl [Cv3]; · iexact Cv3
      isplitl [HO]; · iexact HO
      iexact V3
    iintro ⟨HO, V3, Hv3⟩
    unfold rowIs
    icases Hv3 with ⟨%fv3, %hv3, Hv3⟩
    unfold rowPts
    sl_exec
    rw [wp_ret]
    imodintro
    iapply HQ
    unfold runOut
    isplitl [Hx]; · iexact Hx
    isplitl [Hrw]; · iexact Hrw
    isplitl [Hix]; · iexact Hix
    isplitl [Hew]; · iexact Hew
    have ev : run.sl.v19 c = zW c := (by decide +kernel : ∀ d : Dev nD, run.sl.v19 d = zW d) c
    have eo := out_eq B c fo (outL_eq B c ev f0L f1L f2L f3L ((hv0.2).trans (inL_own B c ⟨0, l0⟩ n0)) ((hv1.2).trans (inL_other B c ⟨1, l1⟩ n1)) ((hv2.2).trans (inL_other B c ⟨2, l2⟩ n2)) ((hv3.2).trans (inL_other B c ⟨3, l3⟩ n3))) (outR_eq B c ev f0R f1R f2R f3R ((hv0.1).trans (inR_own B c ⟨0, l0⟩ n0)) ((hv1.1).trans (inR_other B c ⟨1, l1⟩ n1)) ((hv2.1).trans (inR_other B c ⟨2, l2⟩ n2)) ((hv3.1).trans (inR_other B c ⟨3, l3⟩ n3))) []
    isplitl [Ho]
    · rw [← eo]; iexact Ho
    isplitl [Hco]; · iexists _; iexact Hco
    isplitl [Hxg]; · iexists _; iexact Hxg
    isplitl [Hcg]; · iexists _; iexact Hcg
    isplitl [Hs0 Hs1 Hs2 Hs3]
    · iapply (rows_join s2M (View.set_whole _) c)
      isplitl [Hs0]; · iapply (row_any s2M c 0 l0 _); unfold rowPts; iexact Hs0
      isplitl [Hs1]; · iexact Hs1
      isplitl [Hs2]; · iexact Hs2
      iexact Hs3
    isplitl [Hv0 Hv1 Hv2 Hv3]
    · iapply (rows_join v2M (View.set_whole _) c)
      isplitl [Hv0]; · iapply (row_any v2M c 0 l0 _); unfold rowPts; iexact Hv0
      isplitl [Hv1]; · iapply (row_any v2M c 1 l1 _); unfold rowPts; iexact Hv1
      isplitl [Hv2]; · iapply (row_any v2M c 2 l2 _); unfold rowPts; iexact Hv2
      iapply (row_any v2M c 3 l3 _); unfold rowPts; iexact Hv3
    isplitl [HO]; · iexact HO
    isplitl [Hbv]; · iexact Hbv
    isplitl [Hring]; · iexact Hring
    isplitl [W0 W1 W2 W3]
    · unfold idleOut
      isplitl [W0]; · iexact W0
      isplitl [W1]; · iexact W1
      isplitl [W2]; · iexact W2
      iexact W3
    unfold planeOut
    isplitl [S0 V0]
    · isplitl [S0]; · iexact S0
      iexact V0
    isplitl [S1 V1]
    · isplitl [S1]; · iexact S1
      iexact V1
    isplitl [S2 V2]
    · isplitl [S2]; · iexact S2
      iexact V2
    isplitl [S3]; · iexact S3
    iexact V3
  · have n0 : (⟨0, l0⟩ : Fin 4) ≠ zOf c := by rw [hz]; exact (by decide : (0 : Fin 4) ≠ 1)
    have n1 : (⟨1, l1⟩ : Fin 4) = zOf c := hz.symm
    have n2 : (⟨2, l2⟩ : Fin 4) ≠ zOf c := by rw [hz]; exact (by decide : (2 : Fin 4) ≠ 1)
    have n3 : (⟨3, l3⟩ : Fin 4) ≠ zOf c := by rw [hz]; exact (by decide : (3 : Fin 4) ≠ 1)
    have h0 : k0_cond1 c = 1#1 := (cond1_eq c).mpr n0.symm
    have h1 : ¬ k0_cond2 c = 1#1 := fun h => ((cond2_eq c).mp h) n1.symm
    have h2 : k0_cond3 c = 1#1 := (cond3_eq c).mpr n2.symm
    have h3 : k0_cond4 c = 1#1 := (cond4_eq c).mpr n3.symm
    ihave Hq1 := (row_at c (by rw [hz]; rfl : zOf c + 1 = (⟨2, l2⟩ : Fin 4))) $$ Hq1
    ihave Hq2 := (row_at c (by rw [hz]; rfl : zOf c + 2 = (⟨3, l3⟩ : Fin 4))) $$ Hq2
    ihave Hq3 := (row_at c (by rw [hz]; rfl : zOf c + 3 = (⟨0, l0⟩ : Fin 4))) $$ Hq3
    ihave Hz0 := (plane_open c 0 l0 n0) $$ Hz0
    icases Hz0 with ⟨S0, V0, Ts0, Tv0, Cv0⟩
    ihave Hz1 := (plane_own c 1 l1 n1) $$ Hz1
    icases Hz1 with ⟨S1, V1⟩
    imod (step_idle (cont B) K c (i := 33) (by decide) (not_paid c _ (by rw [hz]; decide))) $$ [S1] with S1
    · isplitr; · iexact HR
      iexact S1
    imod (step_idle (cont B) K c (i := 37) (by decide) (not_paid c _ (by rw [hz]; decide))) $$ [V1] with V1
    · isplitr; · iexact HR
      iexact V1
    ihave Hz2 := (plane_open c 2 l2 n2) $$ Hz2
    icases Hz2 with ⟨S2, V2, Ts2, Tv2, Cv2⟩
    ihave Hz3 := (plane_open c 3 l3 n3) $$ Hz3
    icases Hz3 with ⟨S3, V3, Ts3, Tv3, Cv3⟩
    ihave Hv1 := (own_zero c 1 l1 n1 gv) $$ Hv2
    unfold rowIs
    icases Hv1 with ⟨%fv1, %hv1, Hv1⟩
    unfold rowPts
    sl_exec
    iapply (step_send2 (cont B) K c 0 l0 n0 (off10_eq c) (off9_eq c) _ (Fin.ext (dev20_val c)) (((0 + P2 c ⟨3, l3⟩) + P2 c ⟨2, l2⟩) + P2 c ⟨1, l1⟩)) $$ [Hs0 Hq3 HO Ts0 Tv0]
    · isplitr; · iexact HR
      isplitl [Hs0]
      · unfold rowIs rowPts
        iexists _
        isplitr [Hs0]; swap; · iexact Hs0
        ipureintro
        exact rowReads_of_pieces s2M c 0 (by decide) _ (congrArg put2 f0R) (congrArg put2 f0L) _
      isplitl [Hq3]; · iexact Hq3
      isplitl [HO]; · iexact HO
      isplitl [Ts0]; · iexact Ts0
      iexact Tv0
    iintro ⟨Cs0, HO⟩
    sl_exec
    iapply (wait_s2 (dst := planeM s2M 0 l0) (cont B) K c 0 l0 n0 rfl (((0 + P2 c ⟨3, l3⟩) + P2 c ⟨2, l2⟩) + P2 c ⟨1, l1⟩) above0) $$ [Cs0 HO S0]
    · isplitr; · iexact HR
      isplitl [Cs0]; · iexact Cs0
      isplitl [HO]; · iexact HO
      iexact S0
    iintro ⟨HO, S0, Hs0⟩
    sl_exec
    ihave HO := (owes_own c ((0 + P2 c ⟨3, l3⟩) + P2 c ⟨2, l2⟩) 1 l1 n1) $$ HO
    iapply (step_send2 (cont B) K c 2 l2 n2 (off14_eq c) (off13_eq c) _ (Fin.ext (dev22_val c)) (0 + P2 c ⟨3, l3⟩)) $$ [Hs2 Hq1 HO Ts2 Tv2]
    · isplitr; · iexact HR
      isplitl [Hs2]
      · unfold rowIs rowPts
        iexists _
        isplitr [Hs2]; swap; · iexact Hs2
        ipureintro
        exact rowReads_of_pieces s2M c 2 (by decide) _ (congrArg put2 f2R) (congrArg put2 f2L) _
      isplitl [Hq1]; · iexact Hq1
      isplitl [HO]; · iexact HO
      isplitl [Ts2]; · iexact Ts2
      iexact Tv2
    iintro ⟨Cs2, HO⟩
    sl_exec
    iapply (wait_s2 (dst := planeM s2M 2 l2) (cont B) K c 2 l2 n2 rfl (0 + P2 c ⟨3, l3⟩) above2) $$ [Cs2 HO S2]
    · isplitr; · iexact HR
      isplitl [Cs2]; · iexact Cs2
      isplitl [HO]; · iexact HO
      iexact S2
    iintro ⟨HO, S2, Hs2⟩
    sl_exec
    iapply (step_send2 (cont B) K c 3 l3 n3 (off16_eq c) (off15_eq c) _ (Fin.ext (dev23_val c)) (0)) $$ [Hs3 Hq2 HO Ts3 Tv3]
    · isplitr; · iexact HR
      isplitl [Hs3]
      · unfold rowIs rowPts
        iexists _
        isplitr [Hs3]; swap; · iexact Hs3
        ipureintro
        exact rowReads_of_pieces s2M c 3 (by decide) _ (congrArg put2 f3R) (congrArg put2 f3L) _
      isplitl [Hq2]; · iexact Hq2
      isplitl [HO]; · iexact HO
      isplitl [Ts3]; · iexact Ts3
      iexact Tv3
    iintro ⟨Cs3, HO⟩
    sl_exec
    iapply (wait_s2 (dst := planeM s2M 3 l3) (cont B) K c 3 l3 n3 rfl (0) above3) $$ [Cs3 HO S3]
    · isplitr; · iexact HR
      isplitl [Cs3]; · iexact Cs3
      isplitl [HO]; · iexact HO
      iexact S3
    iintro ⟨HO, S3, Hs3⟩
    sl_exec
    have g0 : run.sl.v2622 c = 1#1 := ((by decide +kernel : ∀ d : Dev nD, run.sl.v2622 d = 1#1 ↔ zOf d ≠ 0) c).mpr n0.symm
    sl_exec
    iapply (wait_v2 (dst := planeM v2M 0 l0) (cont B) K c 0 l0 n0 rfl) $$ [Cv0 HO V0]
    · isplitr; · iexact HR
      isplitl [Cv0]; · iexact Cv0
      isplitl [HO]; · iexact HO
      iexact V0
    iintro ⟨HO, V0, Hv0⟩
    unfold rowIs
    icases Hv0 with ⟨%fv0, %hv0, Hv0⟩
    unfold rowPts
    sl_exec
    have g1 : ¬ run.sl.v2639 c = 1#1 := fun h => ((by decide +kernel : ∀ d : Dev nD, run.sl.v2639 d = 1#1 ↔ zOf d ≠ 1) c).mp h n1.symm
    sl_exec
    have g2 : run.sl.v2656 c = 1#1 := ((by decide +kernel : ∀ d : Dev nD, run.sl.v2656 d = 1#1 ↔ zOf d ≠ 2) c).mpr n2.symm
    sl_exec
    iapply (wait_v2 (dst := planeM v2M 2 l2) (cont B) K c 2 l2 n2 rfl) $$ [Cv2 HO V2]
    · isplitr; · iexact HR
      isplitl [Cv2]; · iexact Cv2
      isplitl [HO]; · iexact HO
      iexact V2
    iintro ⟨HO, V2, Hv2⟩
    unfold rowIs
    icases Hv2 with ⟨%fv2, %hv2, Hv2⟩
    unfold rowPts
    sl_exec
    have g3 : run.sl.v2673 c = 1#1 := ((by decide +kernel : ∀ d : Dev nD, run.sl.v2673 d = 1#1 ↔ zOf d ≠ 3) c).mpr n3.symm
    sl_exec
    iapply (wait_v2 (dst := planeM v2M 3 l3) (cont B) K c 3 l3 n3 rfl) $$ [Cv3 HO V3]
    · isplitr; · iexact HR
      isplitl [Cv3]; · iexact Cv3
      isplitl [HO]; · iexact HO
      iexact V3
    iintro ⟨HO, V3, Hv3⟩
    unfold rowIs
    icases Hv3 with ⟨%fv3, %hv3, Hv3⟩
    unfold rowPts
    sl_exec
    rw [wp_ret]
    imodintro
    iapply HQ
    unfold runOut
    isplitl [Hx]; · iexact Hx
    isplitl [Hrw]; · iexact Hrw
    isplitl [Hix]; · iexact Hix
    isplitl [Hew]; · iexact Hew
    have ev : run.sl.v19 c = zW c := (by decide +kernel : ∀ d : Dev nD, run.sl.v19 d = zW d) c
    have eo := out_eq B c fo (outL_eq B c ev f0L f1L f2L f3L ((hv0.2).trans (inL_other B c ⟨0, l0⟩ n0)) ((hv1.2).trans (inL_own B c ⟨1, l1⟩ n1)) ((hv2.2).trans (inL_other B c ⟨2, l2⟩ n2)) ((hv3.2).trans (inL_other B c ⟨3, l3⟩ n3))) (outR_eq B c ev f0R f1R f2R f3R ((hv0.1).trans (inR_other B c ⟨0, l0⟩ n0)) ((hv1.1).trans (inR_own B c ⟨1, l1⟩ n1)) ((hv2.1).trans (inR_other B c ⟨2, l2⟩ n2)) ((hv3.1).trans (inR_other B c ⟨3, l3⟩ n3))) []
    isplitl [Ho]
    · rw [← eo]; iexact Ho
    isplitl [Hco]; · iexists _; iexact Hco
    isplitl [Hxg]; · iexists _; iexact Hxg
    isplitl [Hcg]; · iexists _; iexact Hcg
    isplitl [Hs0 Hs1 Hs2 Hs3]
    · iapply (rows_join s2M (View.set_whole _) c)
      isplitl [Hs0]; · iexact Hs0
      isplitl [Hs1]; · iapply (row_any s2M c 1 l1 _); unfold rowPts; iexact Hs1
      isplitl [Hs2]; · iexact Hs2
      iexact Hs3
    isplitl [Hv0 Hv1 Hv2 Hv3]
    · iapply (rows_join v2M (View.set_whole _) c)
      isplitl [Hv0]; · iapply (row_any v2M c 0 l0 _); unfold rowPts; iexact Hv0
      isplitl [Hv1]; · iapply (row_any v2M c 1 l1 _); unfold rowPts; iexact Hv1
      isplitl [Hv2]; · iapply (row_any v2M c 2 l2 _); unfold rowPts; iexact Hv2
      iapply (row_any v2M c 3 l3 _); unfold rowPts; iexact Hv3
    isplitl [HO]; · iexact HO
    isplitl [Hbv]; · iexact Hbv
    isplitl [Hring]; · iexact Hring
    isplitl [W0 W1 W2 W3]
    · unfold idleOut
      isplitl [W0]; · iexact W0
      isplitl [W1]; · iexact W1
      isplitl [W2]; · iexact W2
      iexact W3
    unfold planeOut
    isplitl [S0 V0]
    · isplitl [S0]; · iexact S0
      iexact V0
    isplitl [S1 V1]
    · isplitl [S1]; · iexact S1
      iexact V1
    isplitl [S2 V2]
    · isplitl [S2]; · iexact S2
      iexact V2
    isplitl [S3]; · iexact S3
    iexact V3
  · have n0 : (⟨0, l0⟩ : Fin 4) ≠ zOf c := by rw [hz]; exact (by decide : (0 : Fin 4) ≠ 2)
    have n1 : (⟨1, l1⟩ : Fin 4) ≠ zOf c := by rw [hz]; exact (by decide : (1 : Fin 4) ≠ 2)
    have n2 : (⟨2, l2⟩ : Fin 4) = zOf c := hz.symm
    have n3 : (⟨3, l3⟩ : Fin 4) ≠ zOf c := by rw [hz]; exact (by decide : (3 : Fin 4) ≠ 2)
    have h0 : k0_cond1 c = 1#1 := (cond1_eq c).mpr n0.symm
    have h1 : k0_cond2 c = 1#1 := (cond2_eq c).mpr n1.symm
    have h2 : ¬ k0_cond3 c = 1#1 := fun h => ((cond3_eq c).mp h) n2.symm
    have h3 : k0_cond4 c = 1#1 := (cond4_eq c).mpr n3.symm
    ihave Hq1 := (row_at c (by rw [hz]; rfl : zOf c + 1 = (⟨3, l3⟩ : Fin 4))) $$ Hq1
    ihave Hq2 := (row_at c (by rw [hz]; rfl : zOf c + 2 = (⟨0, l0⟩ : Fin 4))) $$ Hq2
    ihave Hq3 := (row_at c (by rw [hz]; rfl : zOf c + 3 = (⟨1, l1⟩ : Fin 4))) $$ Hq3
    ihave Hz0 := (plane_open c 0 l0 n0) $$ Hz0
    icases Hz0 with ⟨S0, V0, Ts0, Tv0, Cv0⟩
    ihave Hz1 := (plane_open c 1 l1 n1) $$ Hz1
    icases Hz1 with ⟨S1, V1, Ts1, Tv1, Cv1⟩
    ihave Hz2 := (plane_own c 2 l2 n2) $$ Hz2
    icases Hz2 with ⟨S2, V2⟩
    imod (step_idle (cont B) K c (i := 34) (by decide) (not_paid c _ (by rw [hz]; decide))) $$ [S2] with S2
    · isplitr; · iexact HR
      iexact S2
    imod (step_idle (cont B) K c (i := 38) (by decide) (not_paid c _ (by rw [hz]; decide))) $$ [V2] with V2
    · isplitr; · iexact HR
      iexact V2
    ihave Hz3 := (plane_open c 3 l3 n3) $$ Hz3
    icases Hz3 with ⟨S3, V3, Ts3, Tv3, Cv3⟩
    ihave Hv2 := (own_zero c 2 l2 n2 gv) $$ Hv2
    unfold rowIs
    icases Hv2 with ⟨%fv2, %hv2, Hv2⟩
    unfold rowPts
    sl_exec
    iapply (step_send2 (cont B) K c 0 l0 n0 (off10_eq c) (off9_eq c) _ (Fin.ext (dev20_val c)) (((0 + P2 c ⟨3, l3⟩) + P2 c ⟨2, l2⟩) + P2 c ⟨1, l1⟩)) $$ [Hs0 Hq2 HO Ts0 Tv0]
    · isplitr; · iexact HR
      isplitl [Hs0]
      · unfold rowIs rowPts
        iexists _
        isplitr [Hs0]; swap; · iexact Hs0
        ipureintro
        exact rowReads_of_pieces s2M c 0 (by decide) _ (congrArg put2 f0R) (congrArg put2 f0L) _
      isplitl [Hq2]; · iexact Hq2
      isplitl [HO]; · iexact HO
      isplitl [Ts0]; · iexact Ts0
      iexact Tv0
    iintro ⟨Cs0, HO⟩
    sl_exec
    iapply (wait_s2 (dst := planeM s2M 0 l0) (cont B) K c 0 l0 n0 rfl (((0 + P2 c ⟨3, l3⟩) + P2 c ⟨2, l2⟩) + P2 c ⟨1, l1⟩) above0) $$ [Cs0 HO S0]
    · isplitr; · iexact HR
      isplitl [Cs0]; · iexact Cs0
      isplitl [HO]; · iexact HO
      iexact S0
    iintro ⟨HO, S0, Hs0⟩
    sl_exec
    iapply (step_send2 (cont B) K c 1 l1 n1 (off12_eq c) (off11_eq c) _ (Fin.ext (dev21_val c)) ((0 + P2 c ⟨3, l3⟩) + P2 c ⟨2, l2⟩)) $$ [Hs1 Hq3 HO Ts1 Tv1]
    · isplitr; · iexact HR
      isplitl [Hs1]
      · unfold rowIs rowPts
        iexists _
        isplitr [Hs1]; swap; · iexact Hs1
        ipureintro
        exact rowReads_of_pieces s2M c 1 (by decide) _ (congrArg put2 f1R) (congrArg put2 f1L) _
      isplitl [Hq3]; · iexact Hq3
      isplitl [HO]; · iexact HO
      isplitl [Ts1]; · iexact Ts1
      iexact Tv1
    iintro ⟨Cs1, HO⟩
    sl_exec
    iapply (wait_s2 (dst := planeM s2M 1 l1) (cont B) K c 1 l1 n1 rfl ((0 + P2 c ⟨3, l3⟩) + P2 c ⟨2, l2⟩) above1) $$ [Cs1 HO S1]
    · isplitr; · iexact HR
      isplitl [Cs1]; · iexact Cs1
      isplitl [HO]; · iexact HO
      iexact S1
    iintro ⟨HO, S1, Hs1⟩
    sl_exec
    ihave HO := (owes_own c (0 + P2 c ⟨3, l3⟩) 2 l2 n2) $$ HO
    iapply (step_send2 (cont B) K c 3 l3 n3 (off16_eq c) (off15_eq c) _ (Fin.ext (dev23_val c)) (0)) $$ [Hs3 Hq1 HO Ts3 Tv3]
    · isplitr; · iexact HR
      isplitl [Hs3]
      · unfold rowIs rowPts
        iexists _
        isplitr [Hs3]; swap; · iexact Hs3
        ipureintro
        exact rowReads_of_pieces s2M c 3 (by decide) _ (congrArg put2 f3R) (congrArg put2 f3L) _
      isplitl [Hq1]; · iexact Hq1
      isplitl [HO]; · iexact HO
      isplitl [Ts3]; · iexact Ts3
      iexact Tv3
    iintro ⟨Cs3, HO⟩
    sl_exec
    iapply (wait_s2 (dst := planeM s2M 3 l3) (cont B) K c 3 l3 n3 rfl (0) above3) $$ [Cs3 HO S3]
    · isplitr; · iexact HR
      isplitl [Cs3]; · iexact Cs3
      isplitl [HO]; · iexact HO
      iexact S3
    iintro ⟨HO, S3, Hs3⟩
    sl_exec
    have g0 : run.sl.v2622 c = 1#1 := ((by decide +kernel : ∀ d : Dev nD, run.sl.v2622 d = 1#1 ↔ zOf d ≠ 0) c).mpr n0.symm
    sl_exec
    iapply (wait_v2 (dst := planeM v2M 0 l0) (cont B) K c 0 l0 n0 rfl) $$ [Cv0 HO V0]
    · isplitr; · iexact HR
      isplitl [Cv0]; · iexact Cv0
      isplitl [HO]; · iexact HO
      iexact V0
    iintro ⟨HO, V0, Hv0⟩
    unfold rowIs
    icases Hv0 with ⟨%fv0, %hv0, Hv0⟩
    unfold rowPts
    sl_exec
    have g1 : run.sl.v2639 c = 1#1 := ((by decide +kernel : ∀ d : Dev nD, run.sl.v2639 d = 1#1 ↔ zOf d ≠ 1) c).mpr n1.symm
    sl_exec
    iapply (wait_v2 (dst := planeM v2M 1 l1) (cont B) K c 1 l1 n1 rfl) $$ [Cv1 HO V1]
    · isplitr; · iexact HR
      isplitl [Cv1]; · iexact Cv1
      isplitl [HO]; · iexact HO
      iexact V1
    iintro ⟨HO, V1, Hv1⟩
    unfold rowIs
    icases Hv1 with ⟨%fv1, %hv1, Hv1⟩
    unfold rowPts
    sl_exec
    have g2 : ¬ run.sl.v2656 c = 1#1 := fun h => ((by decide +kernel : ∀ d : Dev nD, run.sl.v2656 d = 1#1 ↔ zOf d ≠ 2) c).mp h n2.symm
    sl_exec
    have g3 : run.sl.v2673 c = 1#1 := ((by decide +kernel : ∀ d : Dev nD, run.sl.v2673 d = 1#1 ↔ zOf d ≠ 3) c).mpr n3.symm
    sl_exec
    iapply (wait_v2 (dst := planeM v2M 3 l3) (cont B) K c 3 l3 n3 rfl) $$ [Cv3 HO V3]
    · isplitr; · iexact HR
      isplitl [Cv3]; · iexact Cv3
      isplitl [HO]; · iexact HO
      iexact V3
    iintro ⟨HO, V3, Hv3⟩
    unfold rowIs
    icases Hv3 with ⟨%fv3, %hv3, Hv3⟩
    unfold rowPts
    sl_exec
    rw [wp_ret]
    imodintro
    iapply HQ
    unfold runOut
    isplitl [Hx]; · iexact Hx
    isplitl [Hrw]; · iexact Hrw
    isplitl [Hix]; · iexact Hix
    isplitl [Hew]; · iexact Hew
    have ev : run.sl.v19 c = zW c := (by decide +kernel : ∀ d : Dev nD, run.sl.v19 d = zW d) c
    have eo := out_eq B c fo (outL_eq B c ev f0L f1L f2L f3L ((hv0.2).trans (inL_other B c ⟨0, l0⟩ n0)) ((hv1.2).trans (inL_other B c ⟨1, l1⟩ n1)) ((hv2.2).trans (inL_own B c ⟨2, l2⟩ n2)) ((hv3.2).trans (inL_other B c ⟨3, l3⟩ n3))) (outR_eq B c ev f0R f1R f2R f3R ((hv0.1).trans (inR_other B c ⟨0, l0⟩ n0)) ((hv1.1).trans (inR_other B c ⟨1, l1⟩ n1)) ((hv2.1).trans (inR_own B c ⟨2, l2⟩ n2)) ((hv3.1).trans (inR_other B c ⟨3, l3⟩ n3))) []
    isplitl [Ho]
    · rw [← eo]; iexact Ho
    isplitl [Hco]; · iexists _; iexact Hco
    isplitl [Hxg]; · iexists _; iexact Hxg
    isplitl [Hcg]; · iexists _; iexact Hcg
    isplitl [Hs0 Hs1 Hs2 Hs3]
    · iapply (rows_join s2M (View.set_whole _) c)
      isplitl [Hs0]; · iexact Hs0
      isplitl [Hs1]; · iexact Hs1
      isplitl [Hs2]; · iapply (row_any s2M c 2 l2 _); unfold rowPts; iexact Hs2
      iexact Hs3
    isplitl [Hv0 Hv1 Hv2 Hv3]
    · iapply (rows_join v2M (View.set_whole _) c)
      isplitl [Hv0]; · iapply (row_any v2M c 0 l0 _); unfold rowPts; iexact Hv0
      isplitl [Hv1]; · iapply (row_any v2M c 1 l1 _); unfold rowPts; iexact Hv1
      isplitl [Hv2]; · iapply (row_any v2M c 2 l2 _); unfold rowPts; iexact Hv2
      iapply (row_any v2M c 3 l3 _); unfold rowPts; iexact Hv3
    isplitl [HO]; · iexact HO
    isplitl [Hbv]; · iexact Hbv
    isplitl [Hring]; · iexact Hring
    isplitl [W0 W1 W2 W3]
    · unfold idleOut
      isplitl [W0]; · iexact W0
      isplitl [W1]; · iexact W1
      isplitl [W2]; · iexact W2
      iexact W3
    unfold planeOut
    isplitl [S0 V0]
    · isplitl [S0]; · iexact S0
      iexact V0
    isplitl [S1 V1]
    · isplitl [S1]; · iexact S1
      iexact V1
    isplitl [S2 V2]
    · isplitl [S2]; · iexact S2
      iexact V2
    isplitl [S3]; · iexact S3
    iexact V3
  · have n0 : (⟨0, l0⟩ : Fin 4) ≠ zOf c := by rw [hz]; exact (by decide : (0 : Fin 4) ≠ 3)
    have n1 : (⟨1, l1⟩ : Fin 4) ≠ zOf c := by rw [hz]; exact (by decide : (1 : Fin 4) ≠ 3)
    have n2 : (⟨2, l2⟩ : Fin 4) ≠ zOf c := by rw [hz]; exact (by decide : (2 : Fin 4) ≠ 3)
    have n3 : (⟨3, l3⟩ : Fin 4) = zOf c := hz.symm
    have h0 : k0_cond1 c = 1#1 := (cond1_eq c).mpr n0.symm
    have h1 : k0_cond2 c = 1#1 := (cond2_eq c).mpr n1.symm
    have h2 : k0_cond3 c = 1#1 := (cond3_eq c).mpr n2.symm
    have h3 : ¬ k0_cond4 c = 1#1 := fun h => ((cond4_eq c).mp h) n3.symm
    ihave Hq1 := (row_at c (by rw [hz]; rfl : zOf c + 1 = (⟨0, l0⟩ : Fin 4))) $$ Hq1
    ihave Hq2 := (row_at c (by rw [hz]; rfl : zOf c + 2 = (⟨1, l1⟩ : Fin 4))) $$ Hq2
    ihave Hq3 := (row_at c (by rw [hz]; rfl : zOf c + 3 = (⟨2, l2⟩ : Fin 4))) $$ Hq3
    ihave Hz0 := (plane_open c 0 l0 n0) $$ Hz0
    icases Hz0 with ⟨S0, V0, Ts0, Tv0, Cv0⟩
    ihave Hz1 := (plane_open c 1 l1 n1) $$ Hz1
    icases Hz1 with ⟨S1, V1, Ts1, Tv1, Cv1⟩
    ihave Hz2 := (plane_open c 2 l2 n2) $$ Hz2
    icases Hz2 with ⟨S2, V2, Ts2, Tv2, Cv2⟩
    ihave Hz3 := (plane_own c 3 l3 n3) $$ Hz3
    icases Hz3 with ⟨S3, V3⟩
    imod (step_idle (cont B) K c (i := 35) (by decide) (not_paid c _ (by rw [hz]; decide))) $$ [S3] with S3
    · isplitr; · iexact HR
      iexact S3
    imod (step_idle (cont B) K c (i := 39) (by decide) (not_paid c _ (by rw [hz]; decide))) $$ [V3] with V3
    · isplitr; · iexact HR
      iexact V3
    ihave Hv3 := (own_zero c 3 l3 n3 gv) $$ Hv2
    unfold rowIs
    icases Hv3 with ⟨%fv3, %hv3, Hv3⟩
    unfold rowPts
    sl_exec
    iapply (step_send2 (cont B) K c 0 l0 n0 (off10_eq c) (off9_eq c) _ (Fin.ext (dev20_val c)) (((0 + P2 c ⟨3, l3⟩) + P2 c ⟨2, l2⟩) + P2 c ⟨1, l1⟩)) $$ [Hs0 Hq1 HO Ts0 Tv0]
    · isplitr; · iexact HR
      isplitl [Hs0]
      · unfold rowIs rowPts
        iexists _
        isplitr [Hs0]; swap; · iexact Hs0
        ipureintro
        exact rowReads_of_pieces s2M c 0 (by decide) _ (congrArg put2 f0R) (congrArg put2 f0L) _
      isplitl [Hq1]; · iexact Hq1
      isplitl [HO]; · iexact HO
      isplitl [Ts0]; · iexact Ts0
      iexact Tv0
    iintro ⟨Cs0, HO⟩
    sl_exec
    iapply (wait_s2 (dst := planeM s2M 0 l0) (cont B) K c 0 l0 n0 rfl (((0 + P2 c ⟨3, l3⟩) + P2 c ⟨2, l2⟩) + P2 c ⟨1, l1⟩) above0) $$ [Cs0 HO S0]
    · isplitr; · iexact HR
      isplitl [Cs0]; · iexact Cs0
      isplitl [HO]; · iexact HO
      iexact S0
    iintro ⟨HO, S0, Hs0⟩
    sl_exec
    iapply (step_send2 (cont B) K c 1 l1 n1 (off12_eq c) (off11_eq c) _ (Fin.ext (dev21_val c)) ((0 + P2 c ⟨3, l3⟩) + P2 c ⟨2, l2⟩)) $$ [Hs1 Hq2 HO Ts1 Tv1]
    · isplitr; · iexact HR
      isplitl [Hs1]
      · unfold rowIs rowPts
        iexists _
        isplitr [Hs1]; swap; · iexact Hs1
        ipureintro
        exact rowReads_of_pieces s2M c 1 (by decide) _ (congrArg put2 f1R) (congrArg put2 f1L) _
      isplitl [Hq2]; · iexact Hq2
      isplitl [HO]; · iexact HO
      isplitl [Ts1]; · iexact Ts1
      iexact Tv1
    iintro ⟨Cs1, HO⟩
    sl_exec
    iapply (wait_s2 (dst := planeM s2M 1 l1) (cont B) K c 1 l1 n1 rfl ((0 + P2 c ⟨3, l3⟩) + P2 c ⟨2, l2⟩) above1) $$ [Cs1 HO S1]
    · isplitr; · iexact HR
      isplitl [Cs1]; · iexact Cs1
      isplitl [HO]; · iexact HO
      iexact S1
    iintro ⟨HO, S1, Hs1⟩
    sl_exec
    iapply (step_send2 (cont B) K c 2 l2 n2 (off14_eq c) (off13_eq c) _ (Fin.ext (dev22_val c)) (0 + P2 c ⟨3, l3⟩)) $$ [Hs2 Hq3 HO Ts2 Tv2]
    · isplitr; · iexact HR
      isplitl [Hs2]
      · unfold rowIs rowPts
        iexists _
        isplitr [Hs2]; swap; · iexact Hs2
        ipureintro
        exact rowReads_of_pieces s2M c 2 (by decide) _ (congrArg put2 f2R) (congrArg put2 f2L) _
      isplitl [Hq3]; · iexact Hq3
      isplitl [HO]; · iexact HO
      isplitl [Ts2]; · iexact Ts2
      iexact Tv2
    iintro ⟨Cs2, HO⟩
    sl_exec
    iapply (wait_s2 (dst := planeM s2M 2 l2) (cont B) K c 2 l2 n2 rfl (0 + P2 c ⟨3, l3⟩) above2) $$ [Cs2 HO S2]
    · isplitr; · iexact HR
      isplitl [Cs2]; · iexact Cs2
      isplitl [HO]; · iexact HO
      iexact S2
    iintro ⟨HO, S2, Hs2⟩
    sl_exec
    ihave HO := (owes_own c (0) 3 l3 n3) $$ HO
    have g0 : run.sl.v2622 c = 1#1 := ((by decide +kernel : ∀ d : Dev nD, run.sl.v2622 d = 1#1 ↔ zOf d ≠ 0) c).mpr n0.symm
    sl_exec
    iapply (wait_v2 (dst := planeM v2M 0 l0) (cont B) K c 0 l0 n0 rfl) $$ [Cv0 HO V0]
    · isplitr; · iexact HR
      isplitl [Cv0]; · iexact Cv0
      isplitl [HO]; · iexact HO
      iexact V0
    iintro ⟨HO, V0, Hv0⟩
    unfold rowIs
    icases Hv0 with ⟨%fv0, %hv0, Hv0⟩
    unfold rowPts
    sl_exec
    have g1 : run.sl.v2639 c = 1#1 := ((by decide +kernel : ∀ d : Dev nD, run.sl.v2639 d = 1#1 ↔ zOf d ≠ 1) c).mpr n1.symm
    sl_exec
    iapply (wait_v2 (dst := planeM v2M 1 l1) (cont B) K c 1 l1 n1 rfl) $$ [Cv1 HO V1]
    · isplitr; · iexact HR
      isplitl [Cv1]; · iexact Cv1
      isplitl [HO]; · iexact HO
      iexact V1
    iintro ⟨HO, V1, Hv1⟩
    unfold rowIs
    icases Hv1 with ⟨%fv1, %hv1, Hv1⟩
    unfold rowPts
    sl_exec
    have g2 : run.sl.v2656 c = 1#1 := ((by decide +kernel : ∀ d : Dev nD, run.sl.v2656 d = 1#1 ↔ zOf d ≠ 2) c).mpr n2.symm
    sl_exec
    iapply (wait_v2 (dst := planeM v2M 2 l2) (cont B) K c 2 l2 n2 rfl) $$ [Cv2 HO V2]
    · isplitr; · iexact HR
      isplitl [Cv2]; · iexact Cv2
      isplitl [HO]; · iexact HO
      iexact V2
    iintro ⟨HO, V2, Hv2⟩
    unfold rowIs
    icases Hv2 with ⟨%fv2, %hv2, Hv2⟩
    unfold rowPts
    sl_exec
    have g3 : ¬ run.sl.v2673 c = 1#1 := fun h => ((by decide +kernel : ∀ d : Dev nD, run.sl.v2673 d = 1#1 ↔ zOf d ≠ 3) c).mp h n3.symm
    sl_exec
    rw [wp_ret]
    imodintro
    iapply HQ
    unfold runOut
    isplitl [Hx]; · iexact Hx
    isplitl [Hrw]; · iexact Hrw
    isplitl [Hix]; · iexact Hix
    isplitl [Hew]; · iexact Hew
    have ev : run.sl.v19 c = zW c := (by decide +kernel : ∀ d : Dev nD, run.sl.v19 d = zW d) c
    have eo := out_eq B c fo (outL_eq B c ev f0L f1L f2L f3L ((hv0.2).trans (inL_other B c ⟨0, l0⟩ n0)) ((hv1.2).trans (inL_other B c ⟨1, l1⟩ n1)) ((hv2.2).trans (inL_other B c ⟨2, l2⟩ n2)) ((hv3.2).trans (inL_own B c ⟨3, l3⟩ n3))) (outR_eq B c ev f0R f1R f2R f3R ((hv0.1).trans (inR_other B c ⟨0, l0⟩ n0)) ((hv1.1).trans (inR_other B c ⟨1, l1⟩ n1)) ((hv2.1).trans (inR_other B c ⟨2, l2⟩ n2)) ((hv3.1).trans (inR_own B c ⟨3, l3⟩ n3))) []
    isplitl [Ho]
    · rw [← eo]; iexact Ho
    isplitl [Hco]; · iexists _; iexact Hco
    isplitl [Hxg]; · iexists _; iexact Hxg
    isplitl [Hcg]; · iexists _; iexact Hcg
    isplitl [Hs0 Hs1 Hs2 Hs3]
    · iapply (rows_join s2M (View.set_whole _) c)
      isplitl [Hs0]; · iexact Hs0
      isplitl [Hs1]; · iexact Hs1
      isplitl [Hs2]; · iexact Hs2
      iapply (row_any s2M c 3 l3 _); unfold rowPts; iexact Hs3
    isplitl [Hv0 Hv1 Hv2 Hv3]
    · iapply (rows_join v2M (View.set_whole _) c)
      isplitl [Hv0]; · iapply (row_any v2M c 0 l0 _); unfold rowPts; iexact Hv0
      isplitl [Hv1]; · iapply (row_any v2M c 1 l1 _); unfold rowPts; iexact Hv1
      isplitl [Hv2]; · iapply (row_any v2M c 2 l2 _); unfold rowPts; iexact Hv2
      iapply (row_any v2M c 3 l3 _); unfold rowPts; iexact Hv3
    isplitl [HO]; · iexact HO
    isplitl [Hbv]; · iexact Hbv
    isplitl [Hring]; · iexact Hring
    isplitl [W0 W1 W2 W3]
    · unfold idleOut
      isplitl [W0]; · iexact W0
      isplitl [W1]; · iexact W1
      isplitl [W2]; · iexact W2
      iexact W3
    unfold planeOut
    isplitl [S0 V0]
    · isplitl [S0]; · iexact S0
      iexact V0
    isplitl [S1 V1]
    · isplitl [S1]; · iexact S1
      iexact V1
    isplitl [S2 V2]
    · isplitl [S2]; · iexact S2
      iexact V2
    isplitl [S3]; · iexact S3
    iexact V3
end Cert.KProof
end
-- ==== Proof.Deal.lean ====
module

public import proofs.«01_k».proof.Proof.Hand
/-!
# The protocol set up at launch

What the launch makes of the cells: every cell's record, and on each device the positions, the tokens of the duties
it pays, and the credit of the cells it waits on.
-/
@[expose] public section

set_option maxRecDepth 16384

noncomputable section

namespace Cert.KProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (C : Cont F)

/-! ## The forty DMA cells by what they serve -/

/-- The four cells of step `s`. -/
def hopCells (Φ : ℕ → sProp 𝕄) (s : ℕ) : sProp 𝕄 := iprop(Φ s ∗ Φ (8 + (s + 1)) ∗ Φ (16 + s) ∗ Φ (24 + (s + 1)))
/-- The four ring cells of no step. -/
def idleCells (Φ : ℕ → sProp 𝕄) : sProp 𝕄 := iprop(Φ 7 ∗ Φ 8 ∗ Φ 23 ∗ Φ 24)
/-- The two cells of the exchange with plane `i`. -/
def planeCells (Φ : ℕ → sProp 𝕄) (i : ℕ) : sProp 𝕄 := iprop(Φ (32 + i) ∗ Φ (36 + i))

omit [FloatOps F] in
theorem seven_eq (Φ : ℕ → sProp 𝕄) : (bigSep Finset.univ fun s : Fin 7 => Φ s.val) = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl
omit [FloatOps F] in
theorem four_eq (Φ : Fin 4 → sProp 𝕄) : bigSep Finset.univ Φ = iprop(Φ ⟨0, by decide⟩ ∗ Φ ⟨1, by decide⟩ ∗ Φ ⟨2, by decide⟩ ∗ Φ ⟨3, by decide⟩) := by
  rw [bigSep_univ_eq_bigSepL [0, 1, 2, 3] (by decide) (by decide)]; rfl
omit [FloatOps F] in
theorem assoc_eq (P Q R : sProp 𝕄) : iprop((P ∗ Q) ∗ R) = iprop(P ∗ Q ∗ R) :=
  BI.Entails.antisymm (show _ ⊢ (_ : sProp 𝕄) from BI.sep_assoc) (show _ ⊢ (_ : sProp 𝕄) from by
    iintro ⟨H1, H2, H3⟩
    isplitl [H1 H2]; · isplitl [H1] <;> iassumption
    iexact H3)

omit [FloatOps F] in
/-- The forty cells step by step and plane by plane. -/
theorem forty_eq (Φ : ℕ → sProp 𝕄) : (bigSep Finset.univ fun i : Fin 40 => Φ i.val)
    = iprop((bigSep Finset.univ fun s : Fin 7 => hopCells Φ s.val) ∗ idleCells Φ ∗ bigSep Finset.univ fun i : Fin 4 => planeCells Φ i.val) := by
  rw [bigSep_univ_eq_bigSepL [0, 9, 16, 25, 1, 10, 17, 26, 2, 11, 18, 27, 3, 12, 19, 28, 4, 13, 20, 29, 5, 14, 21, 30, 6, 15, 22, 31, 7, 8, 23, 24, 32, 36, 33, 37, 34, 38, 35, 39] (by decide) (by decide), seven_eq, four_eq]
  unfold hopCells idleCells planeCells
  simp only [assoc_eq]
  rfl

/-! ## Cells and tokens at launch -/

/-- The cells of the kernel: each device's forty and its barrier cell. -/
def cellOf' (p : Dev nD × (Fin 40 ⊕ Unit)) : GSem nD τ sig := match p.2 with
  | .inl i => dcell p.1 i.val
  | .inr _ => bcell p.1
theorem cellOf'_injective : Function.Injective cellOf' := by
  rintro ⟨c, k⟩ ⟨c', k'⟩ h
  have h1 : c = c' := by
    have := congrArg (fun g : GSem nD τ sig => g.1.1) h
    rcases k with k | k <;> rcases k' with k' | k' <;> exact this
  subst h1
  rcases k with k | k <;> rcases k' with k' | k'
  · have h2 : dm k.val = dm k'.val := congrArg Prod.snd h
    rw [Fin.ext (dm_inj k.isLt k'.isLt h2)]
  · have h2 : dm k.val = .reg barS := congrArg Prod.snd h
    cases h2
  · have h2 : SemLoc.reg barS = dm k'.val := congrArg Prod.snd h
    cases h2
  · rfl
def allCells : Finset (GSem nD τ sig) := Finset.univ.map ⟨cellOf', cellOf'_injective⟩

/-- The duties: one of each DMA cell, five of each barrier cell. -/
def tokOf (p : Dev nD × (Fin 40 ⊕ Fin 5)) : GSem nD τ sig × ℕ × Fin 5 := match p.2 with
  | .inl i => (dcell p.1 i.val, 0, 0)
  | .inr d => (bcell p.1, 0, d)
theorem tokOf_injective : Function.Injective tokOf := by
  rintro ⟨c, k⟩ ⟨c', k'⟩ h
  have h1 : c = c' := by
    have := congrArg (fun x : GSem nD τ sig × ℕ × Fin 5 => x.1.1.1) h
    rcases k with k | k <;> rcases k' with k' | k' <;> exact this
  subst h1
  rcases k with k | k <;> rcases k' with k' | k'
  · have h2 : dm k.val = dm k'.val := congrArg (fun x : GSem nD τ sig × ℕ × Fin 5 => x.1.2) h
    rw [Fin.ext (dm_inj k.isLt k'.isLt h2)]
  · have h2 : dm k.val = .reg barS := congrArg (fun x : GSem nD τ sig × ℕ × Fin 5 => x.1.2) h
    cases h2
  · have h2 : SemLoc.reg barS = dm k'.val := congrArg (fun x : GSem nD τ sig × ℕ × Fin 5 => x.1.2) h
    cases h2
  · have h2 : k = k' := congrArg (fun x : GSem nD τ sig × ℕ × Fin 5 => x.2.2) h
    rw [h2]
def allToks : Finset (GSem nD τ sig × ℕ × Fin 5) := Finset.univ.map ⟨tokOf, tokOf_injective⟩

/-- The launch element: the pipeline library's beside the protocol's. -/
def u₀ : UU := (initOf (Pipeline.cells cfgs cellOf_inj) (Pipeline.launchToks cfgs cellOf_inj), initOf allCells allToks)

/-- The tokens of a device's own cells. -/
def toks (c : Dev nD) : sProp 𝕄 :=
  iprop((bigSep Finset.univ fun i : Fin 40 => dutyTok ER (dcell c i.val) 0 0) ∗ bigSep Finset.univ fun d : Fin 5 => dutyTok ER (bcell c) 0 d)
/-- The positions of a device's own cells. -/
def poss (c : Dev nD) : sProp 𝕄 :=
  iprop((bigSep Finset.univ fun i : Fin 40 => atPos ER (dcell c i.val) 0 ∅ 0) ∗ atPos ER (bcell c) 0 ∅ 0)
/-- That a device's own cells have reached round 0. -/
def reach (c : Dev nD) : sProp 𝕄 :=
  iprop((bigSep Finset.univ fun i : Fin 40 => reached ER (dcell c i.val) 0) ∗ reached ER (bcell c) 0)
/-- What the launch element deals device `c`. -/
def G (c : Dev nD) : sProp 𝕄 :=
  iprop(((bigSep Finset.univ fun i : Fin 40 => roundState ER (rd C) (dcell c i.val) 0) ∗ roundState ER (rd C) (bcell c) 0) ∗ poss c ∗ reach c ∗ toks c)

theorem fund_all : BI.own (ER (initOf allCells allToks)) ⊢ (|==> bigSep Finset.univ (G C) : sProp 𝕄) := by
  have hX (Φ : GSem nD τ sig → sProp 𝕄) : bigSep allCells Φ = bigSep Finset.univ fun c : Dev nD => iprop((bigSep Finset.univ fun i : Fin 40 => Φ (dcell c i.val)) ∗ Φ (bcell c)) := by
    unfold allCells; rw [bigSep_map, bigSep_univ_prod]
    exact bigSep_congr fun c _ => by rw [bigSep_univ_sum, Finset.univ_unique (α := Unit), bigSep_singleton]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (rd C) allCells allToks) $$ HX with ⟨Hst, Hr, Hat, Htok⟩
  imodintro
  ihave Hst' := (Entails.of_eq (hX fun g => roundState ER (rd C) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  iapply (show iprop((bigSep Finset.univ fun c : Dev nD => iprop((bigSep Finset.univ fun i : Fin 40 => roundState ER (rd C) (dcell c i.val) 0) ∗ roundState ER (rd C) (bcell c) 0))
    ∗ (bigSep Finset.univ fun c : Dev nD => poss c) ∗ (bigSep Finset.univ fun c : Dev nD => reach c) ∗ (bigSep Finset.univ fun c : Dev nD => toks c)) ⊢ (bigSep Finset.univ (G C) : sProp 𝕄) from by
      rw [← bigSep_sep', ← bigSep_sep', ← bigSep_sep']; exact .rfl)
  isplitl [Hst']; · iexact Hst'
  isplitl [Hat']; · iexact Hat'
  isplitl [Hr']; · iexact Hr'
  iexact Htok'

/-- The kernel's own semaphores. -/
abbrev osem : Fin 40 → SemLoc sig := fun i => dm i.val
theorem ownSemFacts : Pipeline.OwnSemFacts cfg0.spec osem := by decide +kernel

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : Fin 40 => semVal (dcell c i.val) 0 := rfl
omit [FloatOps F] in
/-- The barrier semaphore is the one the launch does not scope. -/
theorem unscopedSems0_eq (c : Dev nD) : (unscopedSems0 c : sProp 𝕄) = semVal (bcell c) 0 := by
  unfold unscopedSems0; rw [bigSep_eq_bigSepL_of_eq [SemLoc.reg barS] (by decide +kernel) (by decide)]; rfl

/-- A device's cells, each with its counter at zero, become shared. -/
theorem core_alloc (c : Dev nD) :
    iprop(Pipeline.ownSems0 (Ix := Unit) (Name := ℕ) (U := UU) (Lvl := ℕ) (Val := Elt F) (τ := τ) osem c ∗ unscopedSems0 c ∗ G C c)
      ⊢ |={Set.univ}=> iprop(((bigSep Finset.univ fun i : Fin 40 => iprop(∃ κ : ℕ, cellInv ER (rd C) κ (dcell c i.val))) ∗ (∃ κ : ℕ, cellInv ER (rd C) κ (bcell c)))
          ∗ poss c ∗ reach c ∗ toks c) := by
  rw [ownSems0_eq, unscopedSems0_eq]
  unfold G
  iintro ⟨Hos, Hus, ⟨Hst, Hsb⟩, Hat, Hr, Htok⟩
  imod (show iprop((bigSep Finset.univ fun i : Fin 40 => semVal (dcell c i.val) 0) ∗ bigSep Finset.univ fun i : Fin 40 => roundState ER (rd C) (dcell c i.val) 0)
      ⊢ (|={Set.univ}=> bigSep Finset.univ fun i : Fin 40 => iprop(∃ κ : ℕ, cellInv ER (rd C) κ (dcell c i.val)) : sProp 𝕄) from by
        rw [← bigSep_sep']
        exact (bigSep_mono fun i _ => (Rounds.body_intro ER (rd C) (dcell c i.val)).trans inv_alloc).trans (bigSep_fupd _ _)) $$ [Hos Hst] with Hinv
  · isplitl [Hos] <;> iassumption
  imod (show iprop(semVal (bcell c) 0 ∗ roundState ER (rd C) (bcell c) 0) ⊢ (|={Set.univ}=> iprop(∃ κ : ℕ, cellInv ER (rd C) κ (bcell c)) : sProp 𝕄) from
    (Rounds.body_intro ER (rd C) (bcell c)).trans inv_alloc) $$ [Hus Hsb] with Hbar
  · isplitl [Hus] <;> iassumption
  imodintro
  isplitl [Hinv Hbar]; · isplitl [Hinv] <;> iassumption
  isplitl [Hat]; · iexact Hat
  isplitl [Hr]; · iexact Hr
  iexact Htok

/-! ## What each device holds afterwards -/

/-- The records of all cells. -/
def known (K : Dev nD × Fin 41 → ℕ) : sProp 𝕄 :=
  iprop((bigSep Finset.univ fun p : Dev nD × Fin 40 => iprop(cellInv ER (rd C) (K (p.1, p.2.castSucc)) (dcell p.1 p.2.val) ∗ reached ER (dcell p.1 p.2.val) 0))
    ∗ (bigSep Finset.univ fun d : Dev nD => iprop(cellInv ER (rd C) (K (d, Fin.last 40)) (bcell d) ∗ reached ER (bcell d) 0)))
instance known_persistent (K : Dev nD × Fin 41 → ℕ) : BI.Persistent (known C K) := by unfold known; infer_instance

/-- The tokens of step `s` as device `c` pays them, -/
def hopToks (c : Dev nD) (s : ℕ) : sProp 𝕄 :=
  iprop(dutyTok ER (dcell c s) 0 0 ∗ dutyTok ER (dcell (nxt c) (8 + (s + 1))) 0 0 ∗ dutyTok ER (dcell c (16 + s)) 0 0 ∗ dutyTok ER (dcell (prv c) (24 + (s + 1))) 0 0)
/-- of the exchange with plane `i`, -/
def planeToks (c : Dev nD) (i : Fin 4) : sProp 𝕄 :=
  iprop(dutyTok ER (dcell c (32 + i.val)) 0 0 ∗ dutyTok ER (dcell (pl i c) (36 + (zOf c).val)) 0 0)
/-- and of the barrier. -/
def barToks (c : Dev nD) : sProp 𝕄 :=
  iprop(dutyTok ER (bcell (prv c)) 0 0 ∗ dutyTok ER (bcell (nxt c)) 0 1 ∗ dutyTok ER (bcell (pl (zOf c + 1) c)) 0 4
    ∗ dutyTok ER (bcell (pl (zOf c + 2) c)) 0 3 ∗ dutyTok ER (bcell (pl (zOf c + 3) c)) 0 2)
def payToks (c : Dev nD) : sProp 𝕄 :=
  iprop((bigSep Finset.univ fun s : Fin 7 => hopToks c s.val) ∗ (bigSep Finset.univ fun i : Fin 4 => planeToks c i) ∗ barToks c)

omit [FloatOps F] in
/-- The tokens of step `s` go to the device that pays them. -/
theorem hopToks_around (s : ℕ) : (bigSep Finset.univ fun c : Dev nD => (hopCells (fun i => dutyTok ER (dcell c i) 0 0) s : sProp 𝕄))
    ⊢ bigSep Finset.univ fun c : Dev nD => hopToks c s := by
  unfold hopCells hopToks
  simp only [bigSep_sep']
  rw [bigSep_univ_equiv ring (fun c : Dev nD => (dutyTok ER (dcell c (8 + (s + 1))) 0 0 : sProp 𝕄)),
    bigSep_univ_equiv ring.symm (fun c : Dev nD => (dutyTok ER (dcell c (24 + (s + 1))) 0 0 : sProp 𝕄))]
  exact .rfl

/-- A device and a plane, seen from the device of that plane. -/
def across : Dev nD × Fin 4 ≃ Dev nD × Fin 4 :=
  ⟨fun p => (pl p.2 p.1, zOf p.1), fun p => (pl p.2 p.1, zOf p.1),
    fun p => by show (pl (zOf p.1) (pl p.2 p.1), zOf (pl p.2 p.1)) = p; rw [pl_pl, pl_zOf, zOf_pl],
    fun p => by show (pl (zOf p.1) (pl p.2 p.1), zOf (pl p.2 p.1)) = p; rw [pl_pl, pl_zOf, zOf_pl]⟩

omit [FloatOps F] in
/-- So do the tokens of the exchange between planes. -/
theorem planeToks_around : (bigSep Finset.univ fun c : Dev nD => bigSep Finset.univ fun i : Fin 4 => (planeCells (fun i => dutyTok ER (dcell c i) 0 0) i.val : sProp 𝕄))
    ⊢ bigSep Finset.univ fun c : Dev nD => bigSep Finset.univ fun i : Fin 4 => planeToks c i := by
  unfold planeCells planeToks
  simp only [bigSep_sep']
  rw [← bigSep_univ_prod (fun p : Dev nD × Fin 4 => (dutyTok ER (dcell p.1 (36 + p.2.val)) 0 0 : sProp 𝕄)),
    bigSep_univ_equiv across (fun p : Dev nD × Fin 4 => (dutyTok ER (dcell p.1 (36 + p.2.val)) 0 0 : sProp 𝕄)),
    bigSep_univ_prod]
  exact .rfl

omit [FloatOps F] in
/-- And those of the barrier cells. -/
theorem barToks_around : (bigSep Finset.univ fun c : Dev nD => bigSep Finset.univ fun d : Fin 5 => (dutyTok ER (bcell c) 0 d : sProp 𝕄))
    ⊢ bigSep Finset.univ fun c : Dev nD => barToks c := by
  rw [bigSep_congr (s := Finset.univ) fun (c : Dev nD) _ => bigSep_univ_eq_bigSepL [0, 1, 2, 3, 4] (by decide) (by decide) fun d : Fin 5 => (dutyTok ER (bcell c) 0 d : sProp 𝕄)]
  show (bigSep Finset.univ fun c : Dev nD => iprop(dutyTok ER (bcell c) 0 0 ∗ dutyTok ER (bcell c) 0 1 ∗ dutyTok ER (bcell c) 0 2 ∗ dutyTok ER (bcell c) 0 3 ∗ dutyTok ER (bcell c) 0 4) : sProp 𝕄) ⊢ _
  unfold barToks
  simp only [bigSep_sep']
  rw [bigSep_univ_equiv ring.symm (fun c : Dev nD => (dutyTok ER (bcell c) 0 0 : sProp 𝕄)),
    bigSep_univ_equiv ring (fun c : Dev nD => (dutyTok ER (bcell c) 0 1 : sProp 𝕄)),
    bigSep_univ_equiv (planes 3) (fun c : Dev nD => (dutyTok ER (bcell c) 0 2 : sProp 𝕄)),
    bigSep_univ_equiv (planes 2) (fun c : Dev nD => (dutyTok ER (bcell c) 0 3 : sProp 𝕄)),
    bigSep_univ_equiv (planes 1) (fun c : Dev nD => (dutyTok ER (bcell c) 0 4 : sProp 𝕄))]
  iintro ⟨H0, H1, H2, H3, H4⟩
  isplitl [H0]; · iexact H0
  isplitl [H1]; · iexact H1
  isplitl [H4]; · iexact H4
  isplitl [H3]; · iexact H3
  iexact H2

omit [FloatOps F] in
/-- All tokens, each to the device that pays it. -/
theorem toks_around : (bigSep Finset.univ fun c : Dev nD => (toks c : sProp 𝕄)) ⊢ bigSep Finset.univ fun c : Dev nD => payToks c := by
  have h : (toks : Dev nD → sProp 𝕄) = fun c => iprop(((bigSep Finset.univ fun s : Fin 7 => hopCells (fun i => dutyTok ER (dcell c i) 0 0) s.val)
      ∗ idleCells (fun i => dutyTok ER (dcell c i) 0 0) ∗ bigSep Finset.univ fun i : Fin 4 => planeCells (fun i => dutyTok ER (dcell c i) 0 0) i.val)
      ∗ bigSep Finset.univ fun d : Fin 5 => dutyTok ER (bcell c) 0 d) := funext fun c => by
    unfold toks; rw [forty_eq (fun i => (dutyTok ER (dcell c i) 0 0 : sProp 𝕄))]
  have hh : (bigSep Finset.univ fun c : Dev nD => bigSep Finset.univ fun s : Fin 7 => (hopCells (fun i => dutyTok ER (dcell c i) 0 0) s.val : sProp 𝕄))
      ⊢ bigSep Finset.univ fun c : Dev nD => bigSep Finset.univ fun s : Fin 7 => hopToks c s.val := by
    rw [Pipeline.bigSep_univ_comm, Pipeline.bigSep_univ_comm (fun (c : Dev nD) (s : Fin 7) => (hopToks c s.val : sProp 𝕄))]
    exact bigSep_mono fun s _ => hopToks_around s.val
  rw [h]; unfold payToks
  rw [bigSep_sep', bigSep_sep', bigSep_sep', bigSep_sep', bigSep_sep']
  iintro ⟨⟨H1, -, H2⟩, H3⟩
  isplitl [H1]; · iapply hh; iexact H1
  isplitl [H2]; · iapply planeToks_around; iexact H2
  iapply barToks_around; iexact H3

/-- The ghost state of device `c` after the launch. -/
def G' (c : Dev nD) : sProp 𝕄 := iprop(∃ K, known C K ∗ poss c ∗ payToks c)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Records named cell by cell are records under one naming. -/
theorem known_intro (K₁ : Dev nD × Fin 40 → ℕ) (K₂ : Dev nD → ℕ) :
    iprop(((bigSep Finset.univ fun p : Dev nD × Fin 40 => cellInv ER (rd C) (K₁ p) (dcell p.1 p.2.val)) ∗ (bigSep Finset.univ fun d : Dev nD => cellInv ER (rd C) (K₂ d) (bcell d)))
      ∗ (bigSep Finset.univ fun p : Dev nD × Fin 40 => reached ER (dcell p.1 p.2.val) 0) ∗ (bigSep Finset.univ fun d : Dev nD => reached ER (bcell d) 0))
    ⊢ (iprop(∃ K, known C K) : sProp 𝕄) := by
  iintro ⟨⟨H1, H2⟩, H3, H4⟩
  iexists (fun p => if h : p.2.val < 40 then K₁ (p.1, ⟨p.2.val, h⟩) else K₂ p.1)
  unfold known
  rw [bigSep_sep', bigSep_sep']
  have e1 : ∀ p : Dev nD × Fin 40, (if h : (p.2.castSucc : Fin 41).val < 40 then K₁ (p.1, ⟨(p.2.castSucc : Fin 41).val, h⟩) else K₂ p.1) = K₁ p := fun p => dif_pos p.2.isLt
  have e2 : ∀ d : Dev nD, (if h : (Fin.last 40).val < 40 then K₁ (d, ⟨(Fin.last 40).val, h⟩) else K₂ d) = K₂ d := fun d => dif_neg (by decide)
  simp only [e1, e2]
  isplitl [H1 H3]
  · isplitl [H1] <;> iassumption
  isplitl [H2] <;> iassumption

theorem regroup :
    (bigSep Finset.univ fun c : Dev nD => iprop(((bigSep Finset.univ fun i : Fin 40 => iprop(∃ κ : ℕ, cellInv ER (rd C) κ (dcell c i.val))) ∗ (∃ κ : ℕ, cellInv ER (rd C) κ (bcell c)))
          ∗ poss c ∗ reach c ∗ toks c) : sProp 𝕄)
      ⊢ bigSep Finset.univ (G' C) := by
  unfold reach
  rw [bigSep_sep', bigSep_sep', bigSep_sep', bigSep_sep', bigSep_sep', ← bigSep_univ_prod (fun p : Dev nD × Fin 40 => iprop(∃ κ : ℕ, cellInv ER (rd C) κ (dcell p.1 p.2.val))),
    ← bigSep_univ_prod (fun p : Dev nD × Fin 40 => (reached ER (dcell p.1 p.2.val) 0 : sProp 𝕄))]
  iintro ⟨⟨HI, HB⟩, Hat, ⟨HR, HRB⟩, Htok⟩
  ihave HK := (BI.bigSep_exists_pi Finset.univ (fun (p : Dev nD × Fin 40) (κ : ℕ) => (cellInv ER (rd C) κ (dcell p.1 p.2.val) : sProp 𝕄))) $$ HI
  icases HK with ⟨%K₁, HI⟩
  ihave HK := (BI.bigSep_exists_pi Finset.univ (fun (d : Dev nD) (κ : ℕ) => (cellInv ER (rd C) κ (bcell d) : sProp 𝕄))) $$ HB
  icases HK with ⟨%K₂, HB⟩
  ihave HK := (known_intro C K₁ K₂) $$ [HI HB HR HRB]
  · isplitl [HI HB]; · isplitl [HI] <;> iassumption
    isplitl [HR] <;> iassumption
  icases HK with ⟨%K, HK⟩
  ihave Htk := (toks_around (F := F)) $$ Htok
  have h : ∀ c ∈ (Finset.univ : Finset (Dev nD)), iprop(known C K ∗ iprop(poss c ∗ payToks c)) ⊢ G' C c := fun c _ => by
    unfold G'; iintro H; iexists K; iexact H
  iapply (bigSep_with_persistent h)
  isplitl [HK]; · iexact HK
  rw [bigSep_sep']
  isplitl [Hat] <;> iassumption

/-- The launch's one step over all devices. -/
theorem glob : (bigSep Finset.univ fun c => iprop(Pipeline.ownSems0 (Ix := Unit) (Name := ℕ) (U := UU) (Lvl := ℕ) (Val := Elt F) (τ := τ) osem c ∗ unscopedSems0 c ∗ G C c) : sProp 𝕄)
    ⊢ |={Set.univ}=> bigSep Finset.univ (G' C) :=
  ((bigSep_mono fun c _ => core_alloc C c).trans (bigSep_fupd _ _)).trans (BI.fupd_mono (regroup C))

/-! ## Credits -/

/-- The credit a device waits with. -/
def hopCred (c : Dev nD) (s : ℕ) : sProp 𝕄 := iprop(cred (tallyAt (dcell c (8 + (s + 1))) () N1) ∗ cred (tallyAt (dcell c (24 + (s + 1))) () N1))
def planeCred (c : Dev nD) (i : Fin 4) : sProp 𝕄 := if i = zOf c then iprop(emp) else cred (tallyAt (dcell c (36 + i.val)) () N2)

/-- What is owed to a device's cells of the exchange between planes. -/
def owedTo (c : Dev nD) (i : Fin 4) : CellTallies nD τ sig Unit := if i = zOf c then 0 else tallyAt (dcell c (36 + i.val)) () N2

omit [FloatOps F] in
theorem creds_planes (c : Dev nD) : (Pipeline.launchCred O2 c : sProp 𝕄) ⊢ bigSep Finset.univ fun i : Fin 4 => planeCred c i := by
  have hO : ∀ d, O2 d = ∑ i : Fin 4, P2 d i := fun d => by
    rw [Fin.sum_univ_four]; unfold O2; ac_rfl
  have hsum : (∑ d, O2 d) = ∑ d, ∑ i : Fin 4, owedTo d i := by
    rw [Finset.sum_congr rfl fun d _ => hO d, ← Fintype.sum_prod_type' (fun d i => P2 d i), ← Fintype.sum_prod_type' (fun d i => owedTo d i), ← Equiv.sum_comp across]
    refine Finset.sum_congr rfl fun p _ => ?_
    obtain ⟨d, i⟩ := p
    show P2 (pl i d) (zOf d) = owedTo d i
    unfold P2 owedTo
    rw [zOf_pl, pl_pl, pl_zOf]
    by_cases h : i = zOf d
    · rw [if_pos h, if_pos h.symm]
    · rw [if_neg h, if_neg fun h' => h h'.symm]
  have hT : ∀ d g, (∑ i : Fin 4, owedTo d i) g ≠ 0 → g.1 = (d.tc : Thread nD τ) := fun d g hg => by
    by_contra hne
    refine hg ?_
    rw [Finset.sum_apply]
    refine Finset.sum_eq_zero fun i _ => ?_
    unfold owedTo
    by_cases h : i = zOf d
    · rw [if_pos h]; rfl
    · rw [if_neg h]
      have hne' : g ≠ dcell d (36 + i.val) := fun h' => hne (congrArg Prod.fst h')
      exact tallyAt_ne_cell hne' () N2
  rw [Pipeline.launchCred_of_sum O2 (fun d => ∑ i : Fin 4, owedTo d i) hsum hT c, Pipeline.cred_finsetSum]
  refine bigSep_mono fun i _ => ?_
  unfold owedTo planeCred
  by_cases h : i = zOf c
  · rw [if_pos h, if_pos h, cred_zero]; exact BI.Entails.refl _
  · rw [if_neg h, if_neg h]; exact BI.Entails.refl _

omit [FloatOps F] in
/-- One step's credit out of the rest. -/
theorem creds_step (c : Dev nD) (n : ℕ) : (Pipeline.launchCred (fun d => Ohop d (n + 1)) c : sProp 𝕄)
    ⊢ iprop(Pipeline.launchCred (fun d => Ohop d n) c ∗ cred (tallyAt (dcell c (8 + (7 - n))) () N1) ∗ cred (tallyAt (dcell c (24 + (7 - n))) () N1)) := by
  show (Pipeline.launchCred (fun d => (fun d => (fun d => Ohop d n) d + (fun d => tallyAt (dcell (prv d) (24 + (7 - n))) () N1) d) d
    + (fun d => tallyAt (dcell (nxt d) (8 + (7 - n))) () N1) d) c : sProp 𝕄) ⊢ _
  rw [Pipeline.launchCred_add, Pipeline.launchCred_add]
  iintro ⟨⟨H1, H2⟩, H3⟩
  isplitl [H1]; · iexact H1
  isplitl [H3]
  · iapply (Pipeline.launchCred_tallyAt (dm (8 + (7 - n))) nxt prv nxt_prv prv_nxt () N1 c); iexact H3
  · iapply (Pipeline.launchCred_tallyAt (dm (24 + (7 - n))) prv nxt prv_nxt nxt_prv () N1 c); iexact H2

omit [FloatOps F] in
theorem creds_bar (c : Dev nD) : (Pipeline.launchCred O₀ c : sProp 𝕄) ⊢ iprop(Pipeline.launchCred (fun d => Ohop d 7) c ∗ cred (tallyAt (bcell c) () 5)) := by
  have hp : ∀ k : Fin 4, (∀ d, (planes k) ((planes k).symm d) = d) ∧ (∀ d, (planes k).symm ((planes k) d) = d) :=
    fun k => ⟨fun d => (planes k).apply_symm_apply d, fun d => (planes k).symm_apply_apply d⟩
  have h5 : (tallyAt (bcell c) () 5 : CellTallies nD τ sig Unit)
      = (((tallyAt (bcell c) () 1 + tallyAt (bcell c) () 1) + tallyAt (bcell c) () 1) + tallyAt (bcell c) () 1) + tallyAt (bcell c) () 1 := by
    show tallyAt (bcell c) () ((((1 + 1) + 1) + 1) + 1) = _
    rw [tallyAt_add, tallyAt_add, tallyAt_add, tallyAt_add]
  have e : ∀ A B : CellTallies nD τ sig Unit, (iprop(cred A ∗ cred B) : sProp 𝕄) = cred (A + B) := fun A B => BI.Entails.antisymm (cred_add _ _).2 (cred_add _ _).1
  rw [h5, ← e, ← e, ← e, ← e]
  show (Pipeline.launchCred (fun d => (fun d => (fun d => (fun d => (fun d => (fun d => Ohop d 7) d + (fun d => tallyAt (bcell (pl (zOf d + 3) d)) () 1) d) d
    + (fun d => tallyAt (bcell (pl (zOf d + 2) d)) () 1) d) d + (fun d => tallyAt (bcell (pl (zOf d + 1) d)) () 1) d) d
    + (fun d => tallyAt (bcell (nxt d)) () 1) d) d + (fun d => tallyAt (bcell (prv d)) () 1) d) c : sProp 𝕄) ⊢ _
  rw [Pipeline.launchCred_add, Pipeline.launchCred_add, Pipeline.launchCred_add, Pipeline.launchCred_add, Pipeline.launchCred_add]
  iintro ⟨⟨⟨⟨⟨H0, H1⟩, H2⟩, H3⟩, H4⟩, H5⟩
  isplitl [H0]; · iexact H0
  isplitl [H1 H2 H3 H4]
  · isplitl [H1 H2 H3]
    · isplitl [H1 H2]
      · isplitl [H1]
        · iapply (Pipeline.launchCred_tallyAt (.reg barS) (planes 3) (planes 3).symm (hp 3).1 (hp 3).2 () 1 c); iexact H1
        · iapply (Pipeline.launchCred_tallyAt (.reg barS) (planes 2) (planes 2).symm (hp 2).1 (hp 2).2 () 1 c); iexact H2
      · iapply (Pipeline.launchCred_tallyAt (.reg barS) (planes 1) (planes 1).symm (hp 1).1 (hp 1).2 () 1 c); iexact H3
    · iapply (Pipeline.launchCred_tallyAt (.reg barS) nxt prv nxt_prv prv_nxt () 1 c); iexact H4
  · iapply (Pipeline.launchCred_tallyAt (.reg barS) prv nxt prv_nxt nxt_prv () 1 c); iexact H5

/-- All of a device's credit. -/
def credits (c : Dev nD) : sProp 𝕄 :=
  iprop(cred (tallyAt (bcell c) () 5) ∗ (hopCred c 0 ∗ hopCred c 1 ∗ hopCred c 2 ∗ hopCred c 3 ∗ hopCred c 4 ∗ hopCred c 5 ∗ hopCred c 6)
    ∗ bigSep Finset.univ fun i : Fin 4 => planeCred c i)

omit [FloatOps F] in
theorem creds (c : Dev nD) : (Pipeline.launchCred O₀ c : sProp 𝕄) ⊢ credits c := by
  unfold credits hopCred
  iintro H
  ihave H := (creds_bar c) $$ H
  icases H with ⟨H, HB⟩
  ihave H := (creds_step c 6) $$ H
  icases H with ⟨H, R0, L0⟩
  ihave H := (creds_step c 5) $$ H
  icases H with ⟨H, R1, L1⟩
  ihave H := (creds_step c 4) $$ H
  icases H with ⟨H, R2, L2⟩
  ihave H := (creds_step c 3) $$ H
  icases H with ⟨H, R3, L3⟩
  ihave H := (creds_step c 2) $$ H
  icases H with ⟨H, R4, L4⟩
  ihave H := (creds_step c 1) $$ H
  icases H with ⟨H, R5, L5⟩
  ihave H := (creds_step c 0) $$ H
  icases H with ⟨H, R6, L6⟩
  isplitl [HB]; · iexact HB
  isplitl [R0 L0 R1 L1 R2 L2 R3 L3 R4 L4 R5 L5 R6 L6]
  · isplitl [R0 L0]; · isplitl [R0] <;> iassumption
    isplitl [R1 L1]; · isplitl [R1] <;> iassumption
    isplitl [R2 L2]; · isplitl [R2] <;> iassumption
    isplitl [R3 L3]; · isplitl [R3] <;> iassumption
    isplitl [R4 L4]; · isplitl [R4] <;> iassumption
    isplitl [R5 L5]; · isplitl [R5] <;> iassumption
    isplitl [R6] <;> iassumption
  iapply (creds_planes c); iexact H

/-! ## A device's body from its share -/

/-- A device's share of the launch, as its body takes it. -/
theorem body_share (c : Dev nD) : (iprop(poss c ∗ payToks c ∗ credits c) : sProp 𝕄)
    ⊢ iprop(barIn c ∗ (hopIn c 0 ∗ hopIn c 1 ∗ hopIn c 2 ∗ hopIn c 3 ∗ hopIn c 4 ∗ hopIn c 5 ∗ hopIn c 6) ∗ idleIn c
      ∗ (planeIn c ⟨0, by decide⟩ ∗ planeIn c ⟨1, by decide⟩ ∗ planeIn c ⟨2, by decide⟩ ∗ planeIn c ⟨3, by decide⟩)) := by
  have hh : ∀ s, iprop(hopCells (fun i => atPos ER (dcell c i) 0 ∅ 0) s ∗ hopToks c s ∗ hopCred c s) ⊢ (hopIn c s : sProp 𝕄) := fun s => by
    unfold hopCells hopToks hopCred hopIn
    iintro ⟨⟨A1, A2, A3, A4⟩, ⟨T1, T2, T3, T4⟩, C1, C2⟩
    isplitl [T1]; · iexact T1
    isplitl [T2]; · iexact T2
    isplitl [T3]; · iexact T3
    isplitl [T4]; · iexact T4
    isplitl [A1]; · iexact A1
    isplitl [A2]; · iexact A2
    isplitl [A3]; · iexact A3
    isplitl [A4]; · iexact A4
    isplitl [C1] <;> iassumption
  have hp : ∀ i : Fin 4, iprop(planeCells (fun i => atPos ER (dcell c i) 0 ∅ 0) i.val ∗ planeToks c i ∗ planeCred c i) ⊢ (planeIn c i : sProp 𝕄) := fun i => by
    unfold planeCells planeToks planeCred planeIn
    by_cases h : i = zOf c
    · rw [if_pos h, if_pos h]
      iintro ⟨⟨A1, A2⟩, -, -⟩
      isplitl [A1]; · iexact A1
      isplitl [A2]; · iexact A2
      iempintro
    · rw [if_neg h, if_neg h]
      iintro ⟨⟨A1, A2⟩, ⟨T1, T2⟩, C1⟩
      isplitl [A1]; · iexact A1
      isplitl [A2]; · iexact A2
      isplitl [T1]; · iexact T1
      isplitl [T2] <;> iassumption
  unfold poss payToks credits
  rw [forty_eq (fun i => (atPos ER (dcell c i) 0 ∅ 0 : sProp 𝕄)), seven_eq (fun s => (hopCells (fun i => atPos ER (dcell c i) 0 ∅ 0) s : sProp 𝕄)), seven_eq (fun s => (hopToks c s : sProp 𝕄)),
    four_eq, four_eq, four_eq]
  unfold idleCells barToks barIn idleIn
  iintro ⟨⟨⟨⟨A0, A1, A2, A3, A4, A5, A6⟩, ⟨I1, I2, I3, I4⟩, ⟨P0, P1, P2, P3⟩⟩, AB⟩, ⟨⟨T0, T1, T2, T3, T4, T5, T6⟩, ⟨Q0, Q1, Q2, Q3⟩, ⟨B0, B1, B2, B3, B4⟩⟩, CB, ⟨C0, C1, C2, C3, C4, C5, C6⟩, ⟨D0, D1, D2, D3⟩⟩
  have l0 : 0 < 4 := by decide
  have l1 : 1 < 4 := by decide
  have l2 : 2 < 4 := by decide
  have l3 : 3 < 4 := by decide
  isplitl [B0 B1 B2 B3 B4 AB CB]
  · isplitl [B0]; · iexact B0
    isplitl [B1]; · iexact B1
    isplitl [B2]; · iexact B2
    isplitl [B3]; · iexact B3
    isplitl [B4]; · iexact B4
    isplitl [AB] <;> iassumption
  isplitl [A0 T0 C0 A1 T1 C1 A2 T2 C2 A3 T3 C3 A4 T4 C4 A5 T5 C5 A6 T6 C6]
  · isplitl [A0 T0 C0]
    · iapply (hh 0)
      isplitl [A0]; · iexact A0
      isplitl [T0] <;> iassumption
    isplitl [A1 T1 C1]
    · iapply (hh 1)
      isplitl [A1]; · iexact A1
      isplitl [T1] <;> iassumption
    isplitl [A2 T2 C2]
    · iapply (hh 2)
      isplitl [A2]; · iexact A2
      isplitl [T2] <;> iassumption
    isplitl [A3 T3 C3]
    · iapply (hh 3)
      isplitl [A3]; · iexact A3
      isplitl [T3] <;> iassumption
    isplitl [A4 T4 C4]
    · iapply (hh 4)
      isplitl [A4]; · iexact A4
      isplitl [T4] <;> iassumption
    isplitl [A5 T5 C5]
    · iapply (hh 5)
      isplitl [A5]; · iexact A5
      isplitl [T5] <;> iassumption
    iapply (hh 6)
    isplitl [A6]; · iexact A6
    isplitl [T6] <;> iassumption
  isplitl [I1 I2 I3 I4]
  · isplitl [I1]; · iexact I1
    isplitl [I2]; · iexact I2
    isplitl [I3] <;> iassumption
  isplitl [P0 Q0 D0]
  · iapply (hp ⟨0, l0⟩)
    isplitl [P0]; · iexact P0
    isplitl [Q0] <;> iassumption
  isplitl [P1 Q1 D1]
  · iapply (hp ⟨1, l1⟩)
    isplitl [P1]; · iexact P1
    isplitl [Q1] <;> iassumption
  isplitl [P2 Q2 D2]
  · iapply (hp ⟨2, l2⟩)
    isplitl [P2]; · iexact P2
    isplitl [Q2] <;> iassumption
  iapply (hp ⟨3, l3⟩)
  isplitl [P3]; · iexact P3
  isplitl [Q3] <;> iassumption

end Cert.KProof
end
-- ==== Proof.Launch.lean ====
module

public import proofs.«01_k».proof.Proof.Run
public import proofs.«01_k».proof.Proof.Deal
public import proofs.«01_k».proof.Proof.Gen.KernelIdeal.Points
public import Idealize.ShloMosaic.Lib.Pipeline.CollectiveSegs
/-!
# The run

The program's run on the mesh: the launch, every device's body, and what the arrays hold at the end.
-/
@[expose] public section

set_option maxRecDepth 16384

noncomputable section

namespace Cert.KProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The memory at launch. -/
abbrev s₀ : MemSt nD τ sig (Elt F) := ⟨m, fun _ => 0, ρ⟩

/-- The staged contents of the four arguments. -/
def bufs : Bufs F where
  x c := (win0_0.blk t0_0).view.read (Elt F) (m ((c : Thread nD τ).loc main_arg0))
  rw c := (win0_1.blk t0_0).view.read (Elt F) (m ((c : Thread nD τ).loc main_arg1))
  ix c := (win0_2.blk t0_0).view.read (Elt F) (m ((c : Thread nD τ).loc main_arg2))
  ew c := (win0_3.blk t0_0).view.read (Elt F) (m ((c : Thread nD τ).loc main_arg3))

abbrev CC : Cont F := cont (bufs m)

/-- What a device's body starts from, the scratch buffers aside. -/
def start (c : Dev nD) : sProp 𝕄 := iprop(G' (CC m) c ∗ credits c ∗ levAts L lv)
/-- The scratch buffers at contents not said. -/
def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))
/-- What the body leaves beside the windows: the scratch buffers and every cell at zero. -/
def Φ₁ (c : Dev nD) : sProp 𝕄 :=
  iprop(scratch c ∗ semVal (bcell c) 0 ∗ bigSep Finset.univ fun i : Fin 40 => semVal (dcell c i.val) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (bufs m).x c
    | ⟨1, _⟩ => (bufs m).rw c
    | ⟨2, _⟩ => (bufs m).ix c
    | ⟨3, _⟩ => (bufs m).ew c
    | ⟨4, _⟩ => outBuf (bufs m) c
  Φ t := match t with
    | ⟨0, _⟩ => iprop(start m c ∗ scratch c)
    | ⟨_ + 1, _⟩ => Φ₁ c
  q _ := fullShare
  owed t := match t with
    | ⟨0, _⟩ => O₀ c
    | ⟨_ + 1, _⟩ => 0

omit [FloatOps F] in
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The cells of the body's exit, gathered. -/
theorem sems_out (c : Dev nD) : iprop((hopV c 0 ∗ hopV c 1 ∗ hopV c 2 ∗ hopV c 3 ∗ hopV c 4 ∗ hopV c 5 ∗ hopV c 6) ∗ idleOut c ∗ planeOut c 0 ∗ planeOut c 1 ∗ planeOut c 2 ∗ planeOut c 3)
    ⊢ (bigSep Finset.univ fun i : Fin 40 => semVal (dcell c i.val) 0 : sProp 𝕄) := by
  rw [forty_eq (fun i => (semVal (dcell c i) 0 : sProp 𝕄)), seven_eq (fun s => (hopCells (fun i => (semVal (dcell c i) 0 : sProp 𝕄)) s)), four_eq]
  exact .rfl

/-- The records out of what the launch knows. -/
theorem records_intro (C : Cont F) (K : Dev nD × Fin 41 → ℕ) : (iprop(known C K ∗ levAts L lv) : sProp 𝕄) ⊢ records C K := by
  unfold known records
  iintro ⟨⟨H1, H2⟩, H3⟩
  isplitl [H1]; · iexact H1
  isplitl [H2] <;> iassumption

def bodyPre (c : Dev nD) : sProp 𝕄 :=
  iprop((start m c ∗ scratch c) ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 ((bufs m).x c) ∗ stg c cc0_stg1_0 ((bufs m).rw c)
    ∗ stg c cc0_stg2_0 ((bufs m).ix c) ∗ stg c cc0_stg3_0 ((bufs m).ew c) ∗ stg c cc0_stg4_0 (outBuf (bufs m) c))

theorem before0 (c : Dev nD) (d) : (dats m ρ 0 c).before (0 : Fin 5) t0_0 d = (bufs m).x c := by
  unfold Dat.before; rw [if_pos (fetch0_0 t0_0)]; rfl
theorem before1 (c : Dev nD) (d) : (dats m ρ 0 c).before (1 : Fin 5) t0_0 d = (bufs m).rw c := by
  unfold Dat.before; rw [if_pos (fetch0_1 t0_0)]; rfl
theorem before2 (c : Dev nD) (d) : (dats m ρ 0 c).before (2 : Fin 5) t0_0 d = (bufs m).ix c := by
  unfold Dat.before; rw [if_pos (fetch0_2 t0_0)]; rfl
theorem before3 (c : Dev nD) (d) : (dats m ρ 0 c).before (3 : Fin 5) t0_0 d = (bufs m).ew c := by
  unfold Dat.before; rw [if_pos (fetch0_3 t0_0)]; rfl

/-- The body from what the pipeline gives it to what the pipeline takes back. -/
theorem sound_body (c : Dev nD) : bodyPre m ρ c ⊢ wp frame (wpE (defs₀ (F := F)) 𝒱₀ (c : Thread nD τ) none) Set.univ
      (cc0_body xM (Memref.isWhole_whole _) rwM (Memref.isWhole_whole _) ixM (Memref.isWhole_whole _) ewM (Memref.isWhole_whole _) oM (Memref.isWhole_whole _)
        coM (Memref.isWhole_whole _) xgM (Memref.isWhole_whole _) cgM (Memref.isWhole_whole _) rM (Memref.isWhole_whole _) lM (Memref.isWhole_whole _) s2M (Memref.isWhole_whole _) v2M (Memref.isWhole_whole _)
        cc0_scratch7 cc0_scratch8 cc0_scratch9 cc0_scratch10 cc0_scratch11 cc0_scratch12) (fun _ => bodyPost m ρ c) := by
  unfold bodyPre start G' scratch Dat.owesAt Pipeline.owesWithin
  rw [show (dats m ρ 0 c).owed t0_0.castSucc = O₀ c from rfl]
  iintro ⟨⟨⟨⟨%K, Hk, Hpos, Hpay⟩, Hcr, Hlev⟩, ⟨%f0, H0⟩, ⟨%f1, H1⟩, ⟨%f2, H2⟩, ⟨%f3, H3⟩, ⟨%f4, H4⟩, ⟨%f5, H5⟩, ⟨%f6, H6⟩⟩, ⟨%W, %hW, HO⟩,
    ⟨%d0, %g0, %hg0, Hx⟩, ⟨%d1, %g1, %hg1, Hrw⟩, ⟨%d2, %g2, %hg2, Hix⟩, ⟨%d3, %g3, %hg3, Hew⟩, ⟨%d4, %g4, %hg4, Ho⟩⟩
  rw [before0] at hg0; rw [before1] at hg1; rw [before2] at hg2; rw [before3] at hg3
  subst hg0 hg1 hg2 hg3
  ihave HR := (records_intro (CC m) K) $$ [Hk Hlev]
  · isplitl [Hk] <;> iassumption
  ihave Hs := (body_share c) $$ [Hpos Hpay Hcr]
  · isplitl [Hpos]; · iexact Hpos
    isplitl [Hpay] <;> iassumption
  icases Hs with ⟨Hbar, Hhops, Hidle, Hpl⟩
  iapply (run (bufs m) K c g4 f0 f1 f2 f3 f4 f5 f6)
  isplitl [HR]; · iexact HR
  isplitl [Hx]; · iexact Hx
  isplitl [Hrw]; · iexact Hrw
  isplitl [Hix]; · iexact Hix
  isplitl [Hew]; · iexact Hew
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HO]; · unfold owesAny; iexists W; iexact HO
  isplitl [Hbar]; · iexact Hbar
  isplitl [Hhops]; · iexact Hhops
  isplitl [Hidle]; · iexact Hidle
  isplitl [Hpl]; · iexact Hpl
  unfold runOut bodyPost Φ₁ ringOut owesAny scratch Dat.owesAt Pipeline.owesWithin
  rw [show (dats m ρ 0 c).owed t0_0.succ = 0 from rfl]
  iintro ⟨Hx, Hrw, Hix, Hew, Ho, ⟨%f0', H0⟩, ⟨%f1', H1⟩, ⟨%f2', H2⟩, ⟨%f5', H5⟩, ⟨%f6', H6⟩, ⟨%W', HO⟩, HB, ⟨⟨%f3', H3⟩, ⟨%f4', H4⟩, Hv⟩, Hid, HP⟩
  isplitl [H0 H1 H2 H3 H4 H5 H6 HB Hv Hid HP]
  · isplitl [H0 H1 H2 H3 H4 H5 H6]
    · isplitl [H0]; · iexists f0'; iexact H0
      isplitl [H1]; · iexists f1'; iexact H1
      isplitl [H2]; · iexists f2'; iexact H2
      isplitl [H3]; · iexists f3'; iexact H3
      isplitl [H4]; · iexists f4'; iexact H4
      isplitl [H5]; · iexists f5'; iexact H5
      iexists f6'; iexact H6
    isplitl [HB]; · iexact HB
    iapply (sems_out c)
    isplitl [Hv]; · iexact Hv
    isplitl [Hid] <;> iassumption
  isplitl [HO]
  · iexists W'
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hix]
  · iexists _; isplitr; · (ipureintro; rfl)
    iexact Hix
  isplitl [Hew]
  · iexists _; isplitr; · (ipureintro; rfl)
    iexact Hew
  iexists _; isplitr; · (ipureintro; rfl)
  iexact Ho

seal cc0_body in
theorem body_eq : (defs₀ (F := F)) Proc.tc 0 (t0_0, cfg0.slots t0_0) = cc0_body xM (Memref.isWhole_whole _) rwM (Memref.isWhole_whole _) ixM (Memref.isWhole_whole _) ewM (Memref.isWhole_whole _) oM (Memref.isWhole_whole _)
        coM (Memref.isWhole_whole _) xgM (Memref.isWhole_whole _) cgM (Memref.isWhole_whole _) rM (Memref.isWhole_whole _) lM (Memref.isWhole_whole _) s2M (Memref.isWhole_whole _) v2M (Memref.isWhole_whole _)
        cc0_scratch7 cc0_scratch8 cc0_scratch9 cc0_scratch10 cc0_scratch11 cc0_scratch12 := rfl

seal cc0_body in
set_option maxRecDepth 200000 in
set_option maxHeartbeats 4000000 in
/-- The pipeline's obligation on a device. -/
theorem body_obligation (c : Dev nD) : BodyObligation (dats (F := F) m ρ 0 c) (defs₀ (F := F)) 𝒱₀ () Set.univ := fun t => by
  rw [fin_N0 t]
  rw [bigSep_W0, bigSep_W0]
  simp only [owns_eq]
  rw [body_eq, show (dats m ρ 0 c).Φ t0_0.castSucc = iprop(start m c ∗ scratch c) from rfl, show (dats m ρ 0 c).Φ t0_0.succ = Φ₁ c from rfl,
    show (dats m ρ 0 c).after (0 : Fin 5) t0_0 = (bufs m).x c from rfl, show (dats m ρ 0 c).after (1 : Fin 5) t0_0 = (bufs m).rw c from rfl,
    show (dats m ρ 0 c).after (2 : Fin 5) t0_0 = (bufs m).ix c from rfl, show (dats m ρ 0 c).after (3 : Fin 5) t0_0 = (bufs m).ew c from rfl,
    show (dats m ρ 0 c).after (4 : Fin 5) t0_0 = outBuf (bufs m) c from rfl]
  have h := sound_body m ρ c
  unfold bodyPre bodyPost at h
  exact h

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (CC m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  unfold scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HB, Hv⟩
  isplitl [HB]; · iexact HB
  isplitl [Hv] <;> iassumption

/-- The pipeline's own waits sit below everything a device owes. -/
theorem Above.launch (c : Dev nD) : Above 0 (O₀ c) := by
  have hb : ∀ d, 0 < lv (bcell d) () := fun d => Nat.one_pos
  exact (((((Above.Ohop c 7 0 (by omega) (by omega)).add (Above.tally _ _ _ (hb _))).add (Above.tally _ _ _ (hb _))).add (Above.tally _ _ _ (hb _))).add (Above.tally _ _ _ (hb _))).add (Above.tally _ _ _ (hb _))

theorem waits (c : Dev nD) : (levAts L lv : sProp 𝕄) ⊢ Pipeline.cellsWaits cfgs (dats m ρ) () 0 c :=
  Pipeline.cellsWaits_intro cfgs (dats m ρ) () 0 c fun w s t =>
    mayWait_above c _ 0 (by fin_cases w <;> fin_cases s <;> rfl) (by
      rcases t with ⟨_ | _, ht⟩
      · exact Above.launch c
      · exact Above.zero 0)

/-! ## The run -/

/-- A window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- From any memory with zero counters every fair execution of the program on the thirty-two devices ends, with every
    window's array at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (CC m)) (G' := G' (CC m)) (u₀ := u₀)
    (hu₀ := by
      unfold u₀
      iintro Hu
      ihave H := (ownU_pair _ _) $$ Hu
      icases H with ⟨HP, HX⟩
      imod (fund_all (CC m)) $$ HX with HG
      imodintro
      isplitl [HP] <;> iassumption)
    (hglob := glob (CC m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array at the end is as at launch. -/
theorem finalA_in (c : Dev nD) (w : Fin cfg0.W) (h : (cfg0.win w).isOut = false) : finalA m ρ c w = m ((cfg0.win w).arr.view.loc (c : Thread nD τ)) :=
  (dats (F := F) m ρ 0 c).arrAt_in w h _

/-- The run, with the arguments unchanged and the result named. -/
theorem run_args : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c 0).trans (finalA_in m ρ c 0 rfl), (h.1 c 1).trans (finalA_in m ρ c 1 rfl),
    (h.1 c 2).trans (finalA_in m ρ c 2 rfl), (h.1 c 3).trans (finalA_in m ρ c 3 rfl)⟩, h.2⟩) (run_main m ρ)

end Cert.KProof
end
-- ==== Proof.Values.lean ====
module

public import proofs.«01_k».proof.Proof.Spec
public import Idealize.ShloMosaic.Lib.Pointwise
/-!
# The blocks and the rings, at an index

Over the extended reals: the gates, a block of products and what the two rings have added up, entry by entry.
-/
@[expose] public section

set_option maxRecDepth 16384

noncomputable section

namespace Cert.KProof

open Cert.KernelIdeal Cert.KernelIdeal.Gen

open Idealize.ShloMosaic
open Idealize.ShloMosaic.TcCoe

variable (fx : (cc0_stg0_0 : Ref sig .tc).ty.Contents (Elt Ideal)) (fr : (cc0_stg1_0 : Ref sig .tc).ty.Contents (Elt Ideal)) (fi : (cc0_stg2_0 : Ref sig .tc).ty.Contents (Elt Ideal))

/-! ## The gates -/

/-- The score of token `n` for the expert `E`. -/
def score (fx : Vec Ideal S2048x512 .bf16) (fr : Vec Ideal S512x128 .bf16) (n : Fin 2048) (E : Fin 128) : EReal := ∑ d : Fin 512, fx (ix2 n d) * fr (ix2 d E)
/-- The score of token `n` for the expert the word `r` names: the sum over all experts, the others counted as zero. -/
def pick (fx : Vec Ideal S2048x512 .bf16) (fr : Vec Ideal S512x128 .bf16) (n : Fin 2048) (r : BitVec 32) : EReal :=
  ∑ E : Fin 128, Scalar.select (IntOp.cmpi CmpIPredicate.eq (BitVec.ofNat 32 E.val) r) (score fx fr n E) 0
/-- The gate of token `n`'s first expert. -/
def gateA (fx : Vec Ideal S2048x512 .bf16) (fr : Vec Ideal S512x128 .bf16) (fi : Vec Ideal S2048x2 .i32) (n : Fin 2048) : EReal :=
  Ideal.div 1 (1 + Ideal.exp (pick fx fr n (fi (ix2 n 1)) - pick fx fr n (fi (ix2 n 0))))
/-- What token `n` gives the expert the word `E` names. -/
def gateOf (fx : Vec Ideal S2048x512 .bf16) (fr : Vec Ideal S512x128 .bf16) (fi : Vec Ideal S2048x2 .i32) (n : Fin 2048) (E : BitVec 32) : EReal :=
  Scalar.select (IntOp.cmpi CmpIPredicate.eq (fi (ix2 n 0)) E) (gateA fx fr fi n) 0
    + Scalar.select (IntOp.cmpi CmpIPredicate.eq (fi (ix2 n 1)) E) (1 - gateA fx fr fi n) 0

/-- The whole of `x`, loaded, is `x`. -/
theorem xAll_eq : xAll fx = fx := by
  funext y
  show fx _ = fx _
  congr 1
  funext a
  match a with
  | ⟨0, _⟩ => exact Fin.ext (by show 0 + 1 * (y 0).val = (y 0).val; omega)
  | ⟨1, _⟩ => exact Fin.ext (by show 0 + 1 * (y 1).val = (y 1).val; omega)

/-- The whole of `router_W`, loaded, is `router_W`. -/
theorem rwAll_eq : rwAll fr = fr := by
  funext y
  show fr _ = fr _
  congr 1
  funext a
  match a with
  | ⟨0, _⟩ => exact Fin.ext (by show 0 + 1 * (y 0).val = (y 0).val; omega)
  | ⟨1, _⟩ => exact Fin.ext (by show 0 + 1 * (y 1).val = (y 1).val; omega)

/-- The first column of expert numbers. -/
theorem ix0_apply (n : Fin 2048) : ix0 fi (ix2 n 0) = fi (ix2 n 0) := by
  show fi _ = fi _
  congr 1
  funext a
  match a with
  | ⟨0, _⟩ => exact Fin.ext (by show 0 + 1 * n.val = n.val; omega)
  | ⟨1, _⟩ => rfl

/-- The second column of expert numbers. -/
theorem ix1_apply (n : Fin 2048) : ix1 fi (ix2 n 0) = fi (ix2 n 1) := by
  show fi _ = fi _
  congr 1
  funext a
  match a with
  | ⟨0, _⟩ => exact Fin.ext (by show 0 + 1 * n.val = n.val; omega)
  | ⟨1, _⟩ => rfl

/-- The first gate of every token. -/
theorem w0V_apply (n : Fin 2048) : w0V (F := Ideal) fx fr fi (ix2 n 0) = gateA fx fr fi n := by
  unfold w0V
  rw [xAll_eq, rwAll_eq]
  unfold gateA pick score
  rw [← ix0_apply fi n, ← ix1_apply fi n]
  pointwise [k0_pay5, k0_pay3, k0_pay4]

/-- The second gate of every token. -/
theorem w1V_apply (n : Fin 2048) : w1V (F := Ideal) fx fr fi (ix2 n 0) = 1 - gateA fx fr fi n := by
  rw [← w0V_apply]
  unfold w1V w0V
  pointwise [k0_pay6]

/-- The number of device `c`, as a word. -/
theorem meW_eq : ∀ c : Dev nD, meW c = BitVec.ofNat 32 c.val := by decide +kernel
/-- The plane of device `c`, as a word. -/
theorem zW_eq : ∀ c : Dev nD, zW c = BitVec.ofNat 32 (zOf c).val := by decide +kernel

/-- The expert a device's column `e` stands for, as a word. -/
theorem eid_eq : ∀ (c : Dev nD) (e : Fin 4), Scalar.addi (Scalar.muli (BitVec.ofNat 32 c.val) 4#32) (BitVec.ofNat 32 e.val) = BitVec.ofNat 32 (4 * c.val + e.val) := by decide +kernel

/-- A device's columns of gates. -/
theorem cols_apply (c : Dev nD) (e : Fin 4) (n : Fin 2048) : cols (F := Ideal) fx fr fi c e (ix2 n 0) = gateOf fx fr fi n (BitVec.ofNat 32 (4 * c.val + e.val)) := by
  unfold gateOf
  rw [← w1V_apply, ← w0V_apply, ← ix0_apply fi n, ← ix1_apply fi n, ← eid_eq]
  unfold cols
  rw [meW_eq]
  match e with
  | ⟨0, _⟩ => dsimp only; pointwise [k0_pay8, k0_pay3, k0_pay4, k0_pay7]
  | ⟨1, _⟩ => dsimp only; pointwise [k0_pay9, k0_pay3, k0_pay4, k0_pay7]
  | ⟨2, _⟩ => dsimp only; pointwise [k0_pay10, k0_pay3, k0_pay4, k0_pay7]
  | ⟨3, _⟩ => dsimp only; pointwise [k0_pay11, k0_pay3, k0_pay4, k0_pay7]

/-! ## A block of products -/

/-- The row of the whole array that row `y` of block `q` is. -/
def rowOf (q : Fin 8) (y : Fin 256) : Fin 2048 := ⟨512 * (y.val / 64) + 64 * q.val + y.val % 64, by omega⟩

/-- One expert's weights, loaded. -/
theorem at_ewM (fe : (cc0_stg3_0 : Ref sig .tc).ty.Contents (Elt Ideal)) (e : Fin 4) (d : Fin 512) (h : Fin 1024) (inb : ∀ a, (![e.val, 0, 0] : Fin 3 → ℕ) a + S1x512x1024.size a ≤ S4x512x1024.size a) :
    ewM.view.readAt (Elt Ideal) (Rect.unit (s := S4x512x1024) ![e.val, 0, 0] S1x512x1024.size inb).toLoadRect fe (ix3 0 d h) = fe (ix3 e d h) := by
  show fe _ = fe _
  congr 1
  funext a
  match a with
  | ⟨0, _⟩ => rfl
  | ⟨1, _⟩ => exact Fin.ext (by show 0 + 1 * d.val = d.val; omega)
  | ⟨2, _⟩ => exact Fin.ext (by show 0 + 1 * h.val = h.val; omega)

/-- The weights of one expert. -/
theorem wE_apply (fe : (cc0_stg3_0 : Ref sig .tc).ty.Contents (Elt Ideal)) (e : Fin 4) (d : Fin 512) (h : Fin 1024) : wE (F := Ideal) fe e (ix2 d h) = fe (ix3 e d h) := by
  unfold wE
  match e with
  | ⟨0, _⟩ => dsimp only; pointwise; exact at_ewM fe 0 d h _
  | ⟨1, _⟩ => dsimp only; pointwise; exact at_ewM fe 1 d h _
  | ⟨2, _⟩ => dsimp only; pointwise; exact at_ewM fe 2 d h _
  | ⟨3, _⟩ => dsimp only; pointwise; exact at_ewM fe 3 d h _

/-- The rows of a block. -/
theorem xBlk_apply (q : Fin 8) (y : Fin 256) (j : Fin 512) : xBlk (F := Ideal) fx q (ix2 y j) = fx (ix2 (rowOf q y) j) := by
  unfold xBlk stk
  pointwise [xRow]
  show fx _ = fx _
  congr 1
  funext a
  match a with
  | ⟨0, _⟩ => exact Fin.ext (by show 512 * (y.val / 64) + 64 * q.val + 1 * (y.val % 64) = 512 * (y.val / 64) + 64 * q.val + y.val % 64; omega)
  | ⟨1, _⟩ => exact Fin.ext (by show 0 + 1 * j.val = j.val; omega)

/-- The gates of a block's rows. -/
theorem gBlk_apply (K : Fin 4 → Vec Ideal S2048x1 .f32) (q : Fin 8) (e : Fin 4) (y : Fin 256) : gBlk (F := Ideal) K q e (ix2 y 0) = K e (ix2 (rowOf q y) 0) := by
  unfold gBlk stk
  pointwise [gRow]
  show K _ _ = K _ _
  congr 1
  funext a
  match a with
  | ⟨0, _⟩ => exact Fin.ext rfl
  | ⟨1, _⟩ => rfl

/-- One expert's part at an index. -/
theorem eone_apply (o : ℕ) (h : S512x1024.Slices ![0, o] S512x512) (ho : o + 512 ≤ 1024) (X : Vec Ideal S256x512 .bf16) (g : Vec Ideal S256x1 .f32) (w : FVec Ideal S512x1024 .bf16) (i : Fin 256) (j : Fin 512) :
    eone o h X g w (ix2 i j) = g (ix2 i 0) * ∑ d : Fin 512, X (ix2 i d) * w (ix2 d ⟨o + j.val, by omega⟩) := by
  pointwise [eone]

/-- What four experts give row `n`, column `h`, from their gates and weights. -/
def part (fx : Vec Ideal S2048x512 .bf16) (g : Fin 4 → EReal) (w : Fin 4 → Fin 512 → EReal) (n : Fin 2048) : EReal :=
  g 0 * (∑ d : Fin 512, fx (ix2 n d) * w 0 d) + g 1 * (∑ d : Fin 512, fx (ix2 n d) * w 1 d) + g 2 * (∑ d : Fin 512, fx (ix2 n d) * w 2 d)
    + g 3 * (∑ d : Fin 512, fx (ix2 n d) * w 3 d)

/-- A block at an index. -/
theorem acc_apply (o : ℕ) (h : S512x1024.Slices ![0, o] S512x512) (ho : o + 512 ≤ 1024) (K : Fin 4 → Vec Ideal S2048x1 .f32) (W : Fin 4 → FVec Ideal S512x1024 .bf16) (q : Fin 8) (y : Fin 256) (j : Fin 512) :
    acc o h fx K W q (ix2 y j) = part fx (fun e => K e (ix2 (rowOf q y) 0)) (fun e d => W e (ix2 d ⟨o + j.val, by omega⟩)) (rowOf q y) := by
  show eone o h _ _ _ _ + eone o h _ _ _ _ + eone o h _ _ _ _ + eone o h _ _ _ _ = _
  rw [eone_apply o h ho, eone_apply o h ho, eone_apply o h ho, eone_apply o h ho]
  simp only [gBlk_apply, xBlk_apply]
  rfl

/-- The rows of plane `zz` of a block, at an index. -/
theorem sl_apply (zz : Fin 4) (A : FVec Ideal S256x512 .f32) (i : Fin 64) (j : Fin 512) : sl zz A (ix2 i j) = A (ix2 ⟨64 * zz.val + i.val, by omega⟩ j) := by
  unfold sl
  match zz with
  | ⟨0, _⟩ => dsimp only; pointwise
  | ⟨1, _⟩ => dsimp only; pointwise
  | ⟨2, _⟩ => dsimp only; pointwise
  | ⟨3, _⟩ => dsimp only; pointwise

/-- The row of the whole array that row `i` of plane `zz`'s block `q` is. -/
def rowAt (zz : Fin 4) (q : Fin 8) (i : Fin 64) : Fin 2048 := ⟨512 * zz.val + 64 * q.val + i.val, by omega⟩

/-- A row of a ring's block is the row of its plane's part. -/
theorem rowOf_eq (zz : Fin 4) (q : Fin 8) (i : Fin 64) : rowOf q ⟨64 * zz.val + i.val, by omega⟩ = rowAt zz q i :=
  Fin.ext (by show 512 * ((64 * zz.val + i.val) / 64) + 64 * q.val + (64 * zz.val + i.val) % 64 = 512 * zz.val + 64 * q.val + i.val; omega)

/-- The three layouts of a block, at an index. -/
theorem put1_apply (A : FVec Ideal S64x512 .f32) (i : Fin 64) (j : Fin 512) : put1 A (ix4 0 0 i j) = A (ix2 i j) := by pointwise [put1]
/-- What the transfer between planes carries, at an index. -/
theorem put2_apply (A : FVec Ideal S64x512 .f32) (i : Fin 64) (j : Fin 512) : put2 A (ix3 0 i j) = A (ix2 i j) := by pointwise [put2]
/-- The last step of a ring adds what arrived and the device's own. -/
theorem fin1_apply (v : Vec Ideal S1x1x64x512 .bf16) (A : FVec Ideal S64x512 .f32) (i : Fin 64) (j : Fin 512) : fin1 v A (ix2 i j) = v (ix4 0 0 i j) + A (ix2 i j) := by pointwise [fin1]

/-! ## The rings -/

variable (B : Bufs Ideal)

/-- What device `c`'s four experts give row `n`, column `h` of the result. -/
def give (c : Dev nD) (n : Fin 2048) (h : Fin 1024) : EReal :=
  part (B.x c) (fun e => gateOf (B.x c) (B.rw c) (B.ix c) n (BitVec.ofNat 32 (4 * c.val + e.val))) (fun e d => B.ew c (ix3 e d h)) n

/-- Column `j` of the left half. -/
def colA (j : Fin 512) : Fin 1024 := ⟨0 + j.val, by omega⟩
/-- Column `j` of the right half. -/
def colB (j : Fin 512) : Fin 1024 := ⟨512 + j.val, by omega⟩

/-- A device's products for a step of the right ring, at an index. -/
theorem accR_apply (c : Dev nD) (s : ℕ) (zz : Fin 4) (i : Fin 64) (j : Fin 512) : sl zz (accR B c s) (ix2 i j) = give B c (rowAt zz (qR c s) i) (colA j) := by
  rw [sl_apply]; unfold accR
  rw [acc_apply _ 0 _ (by omega), rowOf_eq]
  unfold colsOf give
  simp only [cols_apply, wE_apply]
  rfl

/-- A device's products for a step of the left ring, at an index. -/
theorem accL_apply (c : Dev nD) (s : ℕ) (zz : Fin 4) (i : Fin 64) (j : Fin 512) : sl zz (accL B c s) (ix2 i j) = give B c (rowAt zz (qL c s) i) (colB j) := by
  rw [sl_apply]; unfold accL
  rw [acc_apply _ 512 _ (by omega), rowOf_eq]
  unfold colsOf give
  simp only [cols_apply, wE_apply]
  rfl

/-- The sum over the devices that precede `c` along the right ring, `s` of them, and `c`. -/
def sumR (f : Dev nD → EReal) : ℕ → Dev nD → EReal
  | 0, c => f c
  | s + 1, c => sumR f s (prv c) + f c
/-- The same along the left ring. -/
def sumL (f : Dev nD → EReal) : ℕ → Dev nD → EReal
  | 0, c => f c
  | s + 1, c => sumL f s (nxt c) + f c

/-- The device before computes at a step the block this one computes at the next. -/
theorem qR_prv : ∀ (c : Dev nD) (s : Fin 7), qR (prv c) s.val = qR c (s.val + 1) := by decide +kernel
/-- So does the device after, in the other direction. -/
theorem qL_nxt : ∀ (c : Dev nD) (s : Fin 7), qL (nxt c) s.val = qL c (s.val + 1) := by decide +kernel
/-- At the last step a device computes its own block, -/
theorem qR_seven : ∀ c : Dev nD, qR c 7 = pOf c := by decide +kernel
/-- in both directions. -/
theorem qL_seven : ∀ c : Dev nD, qL c 7 = pOf c := by decide +kernel

/-- A slot of the right ring at an index. -/
theorem YR_apply (s : ℕ) (hs : s < 7) (c : Dev nD) (zz : Fin 4) (i : Fin 64) (j : Fin 512) :
    YR B s c zz (ix4 0 0 i j) = sumR (fun c' => give B c' (rowAt zz (qR c s) i) (colA j)) s c := by
  induction s generalizing c with
  | zero => show put1 _ _ = _; rw [put1_apply, accR_apply]; rfl
  | succ s ih =>
    show put1 _ _ = _
    rw [put1_apply, fin1_apply, accR_apply, ih (by omega), qR_prv c ⟨s, by omega⟩]
    rfl

/-- A slot of the left ring at an index. -/
theorem YL_apply (s : ℕ) (hs : s < 7) (c : Dev nD) (zz : Fin 4) (i : Fin 64) (j : Fin 512) :
    YL B s c zz (ix4 0 0 i j) = sumL (fun c' => give B c' (rowAt zz (qL c s) i) (colB j)) s c := by
  induction s generalizing c with
  | zero => show put1 _ _ = _; rw [put1_apply, accL_apply]; rfl
  | succ s ih =>
    show put1 _ _ = _
    rw [put1_apply, fin1_apply, accL_apply, ih (by omega), qL_nxt c ⟨s, by omega⟩]
    rfl

/-- The device of plane `z` at position `p`. -/
def dvOf (z : Fin 4) (p : Fin 8) : Dev nD := ⟨8 * z.val + p.val, by show _ < 32; omega⟩

/-- The position `k` steps back along the ring. -/
def back (p : Fin 8) (k : Fin 8) : Fin 8 := lutB ⟨((lutI p).val + 8 - k.val) % 8, by omega⟩
/-- The position `k` steps ahead along the ring. -/
def ahead (p : Fin 8) (k : Fin 8) : Fin 8 := lutB ⟨((lutI p).val + k.val) % 8, by omega⟩

/-- Going back around a ring meets every position once. -/
theorem back_bij : ∀ p : Fin 8, Function.Injective (back p) := by decide +kernel
/-- So does going ahead. -/
theorem ahead_bij : ∀ p : Fin 8, Function.Injective (ahead p) := by decide +kernel
/-- The steps back around a ring, one device at a time. -/
theorem prv_dv : ∀ (z : Fin 4) (p : Fin 8), dvOf z (back p 0) = dvOf z p ∧ ∀ k : Fin 7, prv (dvOf z (back p ⟨k.val, by omega⟩)) = dvOf z (back p ⟨k.val + 1, by omega⟩) := by decide +kernel
/-- The steps ahead, one device at a time. -/
theorem nxt_dv : ∀ (z : Fin 4) (p : Fin 8), dvOf z (ahead p 0) = dvOf z p ∧ ∀ k : Fin 7, nxt (dvOf z (ahead p ⟨k.val, by omega⟩)) = dvOf z (ahead p ⟨k.val + 1, by omega⟩) := by decide +kernel

/-- Eight steps along the right ring are the whole plane. -/
theorem sumR_plane (f : Dev nD → EReal) (z : Fin 4) (p : Fin 8) : sumR f 7 (dvOf z p) = ∑ k : Fin 8, f (dvOf z k) := by
  rw [← (Finite.injective_iff_bijective.mp (back_bij p)).sum_comp fun k => f (dvOf z k), Fin.sum_univ_eight, ← (prv_dv z p).1]
  show sumR f 0 _ + f _ + f _ + f _ + f _ + f _ + f _ + f _ = _
  have h := (prv_dv z p).2
  rw [show prv (dvOf z (back p 0)) = dvOf z (back p 1) from h 0, show prv (dvOf z (back p 1)) = dvOf z (back p 2) from h 1,
    show prv (dvOf z (back p 2)) = dvOf z (back p 3) from h 2, show prv (dvOf z (back p 3)) = dvOf z (back p 4) from h 3,
    show prv (dvOf z (back p 4)) = dvOf z (back p 5) from h 4, show prv (dvOf z (back p 5)) = dvOf z (back p 6) from h 5,
    show prv (dvOf z (back p 6)) = dvOf z (back p 7) from h 6]
  show f _ + f _ + f _ + f _ + f _ + f _ + f _ + f _ = _
  ac_rfl

/-- Eight steps along the left ring are the whole plane. -/
theorem sumL_plane (f : Dev nD → EReal) (z : Fin 4) (p : Fin 8) : sumL f 7 (dvOf z p) = ∑ k : Fin 8, f (dvOf z k) := by
  rw [← (Finite.injective_iff_bijective.mp (ahead_bij p)).sum_comp fun k => f (dvOf z k), Fin.sum_univ_eight, ← (nxt_dv z p).1]
  show sumL f 0 _ + f _ + f _ + f _ + f _ + f _ + f _ + f _ = _
  have h := (nxt_dv z p).2
  rw [show nxt (dvOf z (ahead p 0)) = dvOf z (ahead p 1) from h 0, show nxt (dvOf z (ahead p 1)) = dvOf z (ahead p 2) from h 1,
    show nxt (dvOf z (ahead p 2)) = dvOf z (ahead p 3) from h 2, show nxt (dvOf z (ahead p 3)) = dvOf z (ahead p 4) from h 3,
    show nxt (dvOf z (ahead p 4)) = dvOf z (ahead p 5) from h 4, show nxt (dvOf z (ahead p 5)) = dvOf z (ahead p 6) from h 5,
    show nxt (dvOf z (ahead p 6)) = dvOf z (ahead p 7) from h 6]
  show f _ + f _ + f _ + f _ + f _ + f _ + f _ + f _ = _
  ac_rfl

/-- A device is the one at its plane and position. -/
theorem dv_eta : ∀ c : Dev nD, dvOf (zOf c) (pOf c) = c := by decide +kernel

/-- A finished left-hand half at an index: the sum over the plane. -/
theorem FR_apply (c : Dev nD) (zz : Fin 4) (i : Fin 64) (j : Fin 512) :
    FR B c zz (ix2 i j) = ∑ k : Fin 8, give B (dvOf (zOf c) k) (rowAt zz (pOf c) i) (colA j) := by
  rw [← sumR_plane (fun c' => give B c' (rowAt zz (pOf c) i) (colA j)) (zOf c) (pOf c), dv_eta]
  unfold FR
  rw [fin1_apply, YR_apply B 6 (by omega), accR_apply, show qR (prv c) 6 = qR c 7 from qR_prv c 6]
  show sumR (fun c' => give B c' (rowAt zz (qR c 7) i) (colA j)) 6 (prv c) + give B c (rowAt zz (qR c 7) i) (colA j) = _
  rw [qR_seven]
  rfl

/-- A finished right-hand half at an index: the sum over the plane. -/
theorem FL_apply (c : Dev nD) (zz : Fin 4) (i : Fin 64) (j : Fin 512) :
    FL B c zz (ix2 i j) = ∑ k : Fin 8, give B (dvOf (zOf c) k) (rowAt zz (pOf c) i) (colB j) := by
  rw [← sumL_plane (fun c' => give B c' (rowAt zz (pOf c) i) (colB j)) (zOf c) (pOf c), dv_eta]
  unfold FL
  rw [fin1_apply, YL_apply B 6 (by omega), accL_apply, show qL (nxt c) 6 = qL c 7 from qL_nxt c 6]
  show sumL (fun c' => give B c' (rowAt zz (qL c 7) i) (colB j)) 6 (nxt c) + give B c (rowAt zz (qL c 7) i) (colB j) = _
  rw [qL_seven]
  rfl

/-! ## The exchange between planes and the result -/

/-- The kernel's mix of its own half and the four arrived rows: its own at its plane, what arrived at the others. -/
theorem mixR (z : Fin 4) (f : Fin 4 → FVec Ideal S64x512 .f32) (r : Fin 4 → Vec Ideal S1x64x512 .bf16) (i : Fin 64) (j : Fin 512) :
    k0_pay337 (BitVec.ofNat 32 z.val) (k0_pay331 (BitVec.ofNat 32 z.val) (k0_pay327 (BitVec.ofNat 32 z.val) (f 0) (f 1) (f 2) (f 3)) (k0_pay329 (F := Ideal) (BitVec.ofNat 32 z.val)) (r 0) (r 1))
      (k0_pay333 (F := Ideal) (BitVec.ofNat 32 z.val)) (k0_pay334 (r 2)) (r 3) (ix2 i j) = ∑ k : Fin 4, if k = z then f k (ix2 i j) else r k (ix3 0 i j) := by
  rw [Fin.sum_univ_four]
  match z with
  | ⟨0, _⟩ => pointwise [k0_pay327, k0_pay328, k0_pay329, k0_pay331, k0_pay332, k0_pay333, k0_pay334, k0_pay335, k0_pay336, k0_pay337, k0_pay1, k0_pay323, k0_pay324, k0_pay325, k0_pay326, k0_pay330]; simp [Scalar.select, Scalar.cmpi, IntOp.cmpi]; try ac_rfl
  | ⟨1, _⟩ => pointwise [k0_pay327, k0_pay328, k0_pay329, k0_pay331, k0_pay332, k0_pay333, k0_pay334, k0_pay335, k0_pay336, k0_pay337, k0_pay1, k0_pay323, k0_pay324, k0_pay325, k0_pay326, k0_pay330]; simp [Scalar.select, Scalar.cmpi, IntOp.cmpi]; try ac_rfl
  | ⟨2, _⟩ => pointwise [k0_pay327, k0_pay328, k0_pay329, k0_pay331, k0_pay332, k0_pay333, k0_pay334, k0_pay335, k0_pay336, k0_pay337, k0_pay1, k0_pay323, k0_pay324, k0_pay325, k0_pay326, k0_pay330]; simp [Scalar.select, Scalar.cmpi, IntOp.cmpi]; try ac_rfl
  | ⟨3, _⟩ => pointwise [k0_pay327, k0_pay328, k0_pay329, k0_pay331, k0_pay332, k0_pay333, k0_pay334, k0_pay335, k0_pay336, k0_pay337, k0_pay1, k0_pay323, k0_pay324, k0_pay325, k0_pay326, k0_pay330]; simp [Scalar.select, Scalar.cmpi, IntOp.cmpi]; try ac_rfl

/-- The same for the right-hand columns. -/
theorem mixL (z : Fin 4) (f : Fin 4 → FVec Ideal S64x512 .f32) (r : Fin 4 → Vec Ideal S1x64x512 .bf16) (i : Fin 64) (j : Fin 512) :
    k0_pay1 (k0_pay335 (k0_pay332 (BitVec.ofNat 32 z.val) (k0_pay328 (BitVec.ofNat 32 z.val) (f 0) (f 1) (f 2) (f 3)) (k0_pay329 (F := Ideal) (BitVec.ofNat 32 z.val)) (r 0) (r 1))
      (k0_pay333 (F := Ideal) (BitVec.ofNat 32 z.val)) (r 2)) (k0_pay336 (F := Ideal) (BitVec.ofNat 32 z.val)) (r 3) (ix2 i j) = ∑ k : Fin 4, if k = z then f k (ix2 i j) else r k (ix3 0 i j) := by
  rw [Fin.sum_univ_four]
  match z with
  | ⟨0, _⟩ => pointwise [k0_pay327, k0_pay328, k0_pay329, k0_pay331, k0_pay332, k0_pay333, k0_pay334, k0_pay335, k0_pay336, k0_pay337, k0_pay1, k0_pay323, k0_pay324, k0_pay325, k0_pay326, k0_pay330]; simp [Scalar.select, Scalar.cmpi, IntOp.cmpi]; try ac_rfl
  | ⟨1, _⟩ => pointwise [k0_pay327, k0_pay328, k0_pay329, k0_pay331, k0_pay332, k0_pay333, k0_pay334, k0_pay335, k0_pay336, k0_pay337, k0_pay1, k0_pay323, k0_pay324, k0_pay325, k0_pay326, k0_pay330]; simp [Scalar.select, Scalar.cmpi, IntOp.cmpi]; try ac_rfl
  | ⟨2, _⟩ => pointwise [k0_pay327, k0_pay328, k0_pay329, k0_pay331, k0_pay332, k0_pay333, k0_pay334, k0_pay335, k0_pay336, k0_pay337, k0_pay1, k0_pay323, k0_pay324, k0_pay325, k0_pay326, k0_pay330]; simp [Scalar.select, Scalar.cmpi, IntOp.cmpi]; try ac_rfl
  | ⟨3, _⟩ => pointwise [k0_pay327, k0_pay328, k0_pay329, k0_pay331, k0_pay332, k0_pay333, k0_pay334, k0_pay335, k0_pay336, k0_pay337, k0_pay1, k0_pay323, k0_pay324, k0_pay325, k0_pay326, k0_pay330]; simp [Scalar.select, Scalar.cmpi, IntOp.cmpi]; try ac_rfl

/-- A device is its own peer in its plane. -/
theorem pl_self : ∀ c : Dev nD, pl (zOf c) c = c := by decide +kernel
/-- A peer is in the plane asked for, at the same position. -/
theorem pl_at : ∀ (k : Fin 4) (c : Dev nD), zOf (pl k c) = k ∧ pOf (pl k c) = pOf c := by decide +kernel

/-- Row `i` of device `c`'s block of the result. -/
def resRow (c : Dev nD) (i : Fin 64) : Fin 2048 := ⟨64 * c.val + i.val, by have : c.val < 32 := c.isLt; omega⟩

/-- The rows a device ends with are its block of the result. -/
theorem rowAt_own (c : Dev nD) (i : Fin 64) : rowAt (zOf c) (pOf c) i = resRow c i :=
  Fin.ext (by show 512 * (c.val / 8) + 64 * (c.val % 8) + i.val = 64 * c.val + i.val; omega)

/-- A sum over the planes and positions is a sum over the devices. -/
theorem sum_dev (f : Dev nD → EReal) : (∑ z : Fin 4, ∑ k : Fin 8, f (dvOf z k)) = ∑ c : Dev nD, f c := by
  rw [← Fintype.sum_prod_type']
  exact (show Function.Bijective fun q : Fin 4 × Fin 8 => dvOf q.1 q.2 from ⟨by
    rintro ⟨z, p⟩ ⟨z', p'⟩ h
    have h' : 8 * z.val + p.val = 8 * z'.val + p'.val := congrArg Fin.val h
    exact Prod.ext (Fin.ext (by show z.val = z'.val; omega)) (Fin.ext (by show p.val = p'.val; omega)), fun c => ⟨(zOf c, pOf c), dv_eta c⟩⟩).sum_comp f

/-- The left-hand columns of a device's result: the sum over all devices. -/
theorem outR_apply (c : Dev nD) (i : Fin 64) (j : Fin 512) : outR B c (ix2 i j) = ∑ c' : Dev nD, give B c' (resRow c i) (colA j) := by
  unfold outR
  rw [zW_eq, mixR (zOf c) (FR B c) (inR B c) i j, ← sum_dev]
  refine Finset.sum_congr rfl fun k _ => ?_
  have hk : FR B (pl k c) (zOf c) (ix2 i j) = ∑ p : Fin 8, give B (dvOf k p) (resRow c i) (colA j) := by
    rw [FR_apply, (pl_at k c).1, (pl_at k c).2, rowAt_own]
  rw [← hk]
  by_cases h : k = zOf c
  · rw [if_pos h, h, pl_self]
  · rw [if_neg h]; unfold inR; rw [if_neg h, put2_apply]

/-- The right-hand columns of a device's result: the sum over all devices. -/
theorem outL_apply (c : Dev nD) (i : Fin 64) (j : Fin 512) : outL B c (ix2 i j) = ∑ c' : Dev nD, give B c' (resRow c i) (colB j) := by
  unfold outL
  rw [zW_eq, mixL (zOf c) (FL B c) (inL B c) i j, ← sum_dev]
  refine Finset.sum_congr rfl fun k _ => ?_
  have hk : FL B (pl k c) (zOf c) (ix2 i j) = ∑ p : Fin 8, give B (dvOf k p) (resRow c i) (colB j) := by
    rw [FL_apply, (pl_at k c).1, (pl_at k c).2, rowAt_own]
  rw [← hk]
  by_cases h : k = zOf c
  · rw [if_pos h, h, pl_self]
  · rw [if_neg h]; unfold inL; rw [if_neg h, put2_apply]

/-- Reading the whole staging buffer of the result. -/
theorem oM_read (f : (cc0_stg4_0 : Ref sig .tc).ty.Contents (Elt Ideal)) (y : S64x1024.Idx) : oM.view.read (Elt Ideal) f y = f y := rfl

/-- A device's result at an index: the sum over all devices of what their experts give. -/
theorem outBuf_apply (c : Dev nD) (i : Fin 64) (h : Fin 1024) : outBuf B c (ix2 i h) = ∑ c' : Dev nD, give B c' (resRow c i) h := by
  rw [← oM_read (outBuf B c) (ix2 i h)]
  unfold outBuf
  by_cases hh : h.val < 512
  · rw [View.read_writes_cons_unit_of_not_mem (Val := Elt Ideal) oM.view _ _ _ _ (ix2 i h) rfl (1 : Fin 2) (.inl (by show h.val < 512; omega)),
      View.read_writes_cons_unit_of_mem (Val := Elt Ideal) oM.view _ inb_S64x1024_S64x512_0_0 (outR B c) [] (ix2 i h) (ix2 i (⟨h.val, hh⟩ : Fin 512)) rfl
        (fun a => match a with | ⟨0, _⟩ => (Nat.zero_add _).symm | ⟨1, _⟩ => (Nat.zero_add _).symm), outR_apply, show colA ⟨h.val, hh⟩ = h from Fin.ext (Nat.zero_add _)]
  · rw [View.read_writes_cons_unit_of_mem (Val := Elt Ideal) oM.view _ inb_S64x1024_S64x512_0_512 (outL B c) _ (ix2 i h) (ix2 i (⟨h.val - 512, by omega⟩ : Fin 512)) rfl
        (fun a => match a with | ⟨0, _⟩ => (Nat.zero_add _).symm | ⟨1, _⟩ => (by show h.val = 512 + (h.val - 512); omega)), outL_apply, show colB ⟨h.val - 512, by omega⟩ = h from Fin.ext (by show 512 + (h.val - 512) = h.val; omega)]

end Cert.KProof
end
-- ==== Proof.Soft.lean ====
module

public import Idealize.ShloMosaic.Lib.Pointwise
public import Idealize.ShloMosaic.Lib.IdealHost
/-!
# Two shares of a softmax

Over the extended reals, for finite scores: the two chosen experts' shares, divided by their sum, are the gates the kernel
computes from the difference of the two scores.
-/
@[expose] public section

noncomputable section

namespace Cert.Soft

open Idealize.ShloMosaic

/-- The largest score. -/
def top (S : Fin 128 → EReal) : EReal := Finset.fold max (Ideal.ofBits .f32 0xFF800000#32) S Finset.univ
/-- The softmax of the scores at an expert. -/
def share (S : Fin 128 → EReal) (E : Fin 128) : EReal := Ideal.div (Ideal.exp (S E - top S)) (∑ E' : Fin 128, Ideal.exp (S E' - top S))
/-- The first gate, as a real number. -/
def gate (s0 s1 : ℝ) : ℝ := 1 / (1 + Real.exp (s1 - s0))

/-- The word of minus infinity. -/
theorem ofBits_ninf : Ideal.ofBits .f32 0xFF800000#32 = ⊥ := by
  simp [Ideal.ofBits, Ideal.ieee]

/-- The largest of finitely many real scores is real. -/
theorem top_real (s : Fin 128 → ℝ) : ∃ M : ℝ, top (fun E => (s E : EReal)) = (M : EReal) := by
  have h : ∀ t : Finset (Fin 128), t = ∅ ∨ ∃ M : ℝ, Finset.fold max (⊥ : EReal) (fun E => (s E : EReal)) t = (M : EReal) := by
    intro t
    induction t using Finset.induction_on with
    | empty => exact Or.inl rfl
    | insert a t ha ih =>
      right
      rw [Finset.fold_insert ha]
      rcases ih with rfl | ⟨M, hM⟩
      · exact ⟨s a, by rw [Finset.fold_empty]; exact max_eq_left bot_le⟩
      · rw [hM]
        exact ⟨max (s a) M, (EReal.coe_strictMono.monotone.map_max).symm⟩
  unfold top
  rw [ofBits_ninf]
  rcases h Finset.univ with h | h
  · exact absurd h (Finset.univ_nonempty.ne_empty)
  · exact h

/-- The exponential of a difference of reals is real. -/
theorem exp_sub_real (a b : ℝ) : Ideal.exp ((a : EReal) - (b : EReal)) = ((Real.exp (a - b) : ℝ) : EReal) := by
  rw [← EReal.coe_sub, Ideal.exp_coe]

/-- A quotient of reals, the divisor not zero, is real. -/
theorem div_real (a b : ℝ) (h : b ≠ 0) : Ideal.div (a : EReal) (b : EReal) = ((a / b : ℝ) : EReal) := by
  rw [Ideal.div_coe h, ← EReal.coe_mul, mul_one_div]

/-- The softmax of real scores is real and positive, in proportion to the exponentials. -/
theorem share_real (s : Fin 128 → ℝ) : ∃ k : ℝ, 0 < k ∧ ∀ E, share (fun E => (s E : EReal)) E = ((k * Real.exp (s E) : ℝ) : EReal) := by
  obtain ⟨M, hM⟩ := top_real s
  have hZ : 0 < ∑ E : Fin 128, Real.exp (s E - M) := Finset.sum_pos (fun E _ => Real.exp_pos _) Finset.univ_nonempty
  refine ⟨Real.exp (-M) / ∑ E : Fin 128, Real.exp (s E - M), div_pos (Real.exp_pos _) hZ, fun E => ?_⟩
  unfold share
  rw [hM]
  simp only [exp_sub_real]
  rw [show (∑ E' : Fin 128, ((Real.exp (s E' - M) : ℝ) : EReal)) = ((∑ E' : Fin 128, Real.exp (s E' - M) : ℝ) : EReal) from (map_sum (⟨⟨Real.toEReal, rfl⟩, EReal.coe_add⟩ : ℝ →+ EReal) _ _).symm,
    div_real _ _ hZ.ne', sub_eq_add_neg (s E) M, Real.exp_add]
  congr 1
  ring

/-- The first expert's share of the two. -/
theorem share_first (s : Fin 128 → ℝ) (E0 E1 : Fin 128) :
    Ideal.div (share (fun E => (s E : EReal)) E0) (share (fun E => (s E : EReal)) E0 + share (fun E => (s E : EReal)) E1) = ((gate (s E0) (s E1) : ℝ) : EReal) := by
  obtain ⟨k, hk, h⟩ := share_real s
  have h0 := Real.exp_pos (s E0)
  have h1 := Real.exp_pos (s E1)
  have hk0 := mul_pos hk h0
  have hk1 := mul_pos hk h1
  rw [h, h, ← EReal.coe_add, div_real _ _ (by positivity)]
  congr 1
  unfold gate
  rw [Real.exp_sub]
  field_simp

/-- The second expert's share of the two. -/
theorem share_second (s : Fin 128 → ℝ) (E0 E1 : Fin 128) :
    Ideal.div (share (fun E => (s E : EReal)) E1) (share (fun E => (s E : EReal)) E0 + share (fun E => (s E : EReal)) E1) = ((1 - gate (s E0) (s E1) : ℝ) : EReal) := by
  obtain ⟨k, hk, h⟩ := share_real s
  have h0 := Real.exp_pos (s E0)
  have h1 := Real.exp_pos (s E1)
  have hk0 := mul_pos hk h0
  have hk1 := mul_pos hk h1
  rw [h, h, ← EReal.coe_add, div_real _ _ (by positivity)]
  congr 1
  unfold gate
  rw [Real.exp_sub]
  field_simp
  ring

/-- The gate the kernel computes from the two scores. -/
theorem gate_kernel (s0 s1 : ℝ) : Ideal.div 1 (1 + Ideal.exp ((s1 : EReal) - (s0 : EReal))) = ((gate s0 s1 : ℝ) : EReal) := by
  have h1 := Real.exp_pos (s1 - s0)
  rw [exp_sub_real, ← EReal.coe_one, ← EReal.coe_add, div_real _ _ (by positivity)]
  rfl

/-- A gate is not negative. -/
theorem gate_nonneg (s0 s1 : ℝ) : 0 ≤ gate s0 s1 := by
  have h1 := Real.exp_pos (s1 - s0)
  unfold gate; positivity
/-- Nor is what it leaves of one. -/
theorem gate_le_one (s0 s1 : ℝ) : 0 ≤ 1 - gate s0 s1 := by
  have h1 := Real.exp_pos (s1 - s0)
  unfold gate
  rw [sub_nonneg, div_le_one (by positivity)]
  linarith

/-- A sum over all experts of what two of them are given, each with a gate that is not negative. -/
theorem sum_two (w0 w1 : EReal) (h0 : 0 ≤ w0) (h1 : 0 ≤ w1) (P : Fin 128 → EReal) (E0 E1 : Fin 128) :
    (∑ E : Fin 128, ((if E0 = E then w0 else 0) + (if E1 = E then w1 else 0)) * P E) = w0 * P E0 + w1 * P E1 := by
  have h : ∀ E : Fin 128, ((if E0 = E then w0 else 0) + (if E1 = E then w1 else 0)) * P E = (if E0 = E then w0 * P E else 0) + (if E1 = E then w1 * P E else 0) := by
    intro E
    rw [EReal.right_distrib_of_nonneg (by split <;> simp [h0]) (by split <;> simp [h1]), ite_mul, ite_mul, zero_mul]
  rw [Finset.sum_congr rfl fun E _ => h E, Finset.sum_add_distrib, Finset.sum_ite_eq, Finset.sum_ite_eq, if_pos (Finset.mem_univ _), if_pos (Finset.mem_univ _)]

end Cert.Soft
end
-- ==== Proof.Refer.lean ====
module

public import proofs.«01_k».proof.Proof.Gen.ReferenceIdeal.Run
public import proofs.«01_k».proof.Proof.Soft
public import Idealize.ShloMosaic.Lib.Pointwise
public import Idealize.ShloMosaic.Lib.Tactic.CleanTypes
/-!
# The reference, at an index

Over the extended reals, and for expert numbers between 0 and 127: the reference's result, entry by entry.
-/
@[expose] public section

set_option maxRecDepth 16384
noncomputable section

namespace Cert.RProof

open Cert.ReferenceIdeal Cert.ReferenceIdeal.Gen Cert.ReferenceIdeal.Value
open Idealize.ShloMosaic
open Idealize.ShloMosaic.TcCoe

/-! ## The two lookups -/

/-- The lookup of a token's two scores: the entry its index names. -/
theorem lookup_score (A : S2048x128.Idx → EReal) (idx : IVec S2048x2x1 32) (n : Fin 2048) (j : Fin 2) (E : Fin 128) (h : (idx (ix3 n j 0)).toInt.toNat = E.val) :
    Host.gather gather_S2048x128_S2048x2x1_S2048x2_n_1_0_0_1_2_11 A idx (ix2 n j) = A (ix2 n E) := by
  have hE := E.isLt
  unfold Host.gather
  congr 1
  funext a
  refine Fin.ext ?_
  match a with
  | ⟨0, _⟩ =>
    show 0 + n.val + 0 = n.val
    omega
  | ⟨1, _⟩ =>
    have hi : gather_S2048x128_S2048x2x1_S2048x2_n_1_0_0_1_2_11.siIdx (ix2 n j) ⟨0, by decide⟩ = ix3 n j 0 := by
      funext b
      match b with
      | ⟨0, _⟩ => rfl
      | ⟨1, _⟩ => rfl
      | ⟨2, _⟩ => rfl
    show min (idx (gather_S2048x128_S2048x2x1_S2048x2_n_1_0_0_1_2_11.siIdx (ix2 n j) ⟨0, _⟩)).toInt.toNat (128 - 1) + 0 + 0 = E.val
    rw [hi, h]
    omega

/-- The lookup of a token's expert: the weights its index names. -/
theorem lookup_weights (A : S128x512x1024.Idx → EReal) (idx : IVec S2048x1 32) (n : Fin 2048) (d : Fin 512) (q : Fin 1024) (E : Fin 128) (h : (idx (ix2 n 0)).toInt.toNat = E.val) :
    Host.gather gather_S128x512x1024_S2048x1_S2048x512x1024_12_0_n_n_0_1_15121024 A idx (ix3 n d q) = A (ix3 E d q) := by
  have hE := E.isLt
  unfold Host.gather
  congr 1
  funext a
  refine Fin.ext ?_
  match a with
  | ⟨0, _⟩ =>
    have hi : gather_S128x512x1024_S2048x1_S2048x512x1024_12_0_n_n_0_1_15121024.siIdx (ix3 n d q) ⟨0, by decide⟩ = ix2 n 0 := by
      funext b
      match b with
      | ⟨0, _⟩ => rfl
      | ⟨1, _⟩ => rfl
    show min (idx (gather_S128x512x1024_S2048x1_S2048x512x1024_12_0_n_n_0_1_15121024.siIdx (ix3 n d q) ⟨0, _⟩)).toInt.toNat (128 - 1) + 0 + 0 = E.val
    rw [hi, h]
    omega
  | ⟨1, _⟩ =>
    show 0 + 0 + d.val = d.val
    omega
  | ⟨2, _⟩ =>
    show 0 + 0 + q.val = q.val
    omega

/-! ## The result -/

/-- An index between 0 and 127 is not moved by the reference's wrapping of negative indices. -/
theorem wrap_word : ∀ E : Fin 128, Scalar.select (IntOp.cmpi CmpIPredicate.slt (BitVec.ofNat 32 E.val) 0#32) (IntOp.addi (BitVec.ofNat 32 E.val) 128#32) (BitVec.ofNat 32 E.val) = BitVec.ofNat 32 E.val := by decide +kernel
/-- Such an index is inside the array it looks up. -/
theorem ok_word : ∀ E : Fin 128, IntOp.andi (IntOp.cmpi CmpIPredicate.sge (BitVec.ofNat 32 E.val) 0#32) (IntOp.cmpi CmpIPredicate.sle (BitVec.ofNat 32 E.val) 127#32) = 1#1 := by decide +kernel
/-- Read as a number, the word of an expert is the expert. -/
theorem nat_word : ∀ E : Fin 128, (BitVec.ofNat 32 E.val).toInt.toNat = E.val := by decide +kernel
/-- One test that holds is all tests holding. -/
theorem ok_fold : Finset.fold IntOp.andi (1#1) (fun _ : Fin 1 => 1#1) Finset.univ = 1#1 := by decide

/-- The indices the weights are looked up at. -/
def wIdx0 (I : IVec S2048x2 32) : IVec S2048x1 32 :=
  broadcastInDim S2048x1 ![0] bcast_S2048_S2048x1_0
    (select (cmpi .slt (shapeCast S2048 (extractStridedSlice S2048x1 ![0, 0] I slices_S2048x2_S2048x1_0_0) shapeCasts_S2048x1_S2048) (broadcastInDim S2048 ![] bcast_S_S2048 (constantI S_ 32 0#32)))
      (addi (shapeCast S2048 (extractStridedSlice S2048x1 ![0, 0] I slices_S2048x2_S2048x1_0_0) shapeCasts_S2048x1_S2048) (broadcastInDim S2048 ![] bcast_S_S2048 (constantI S_ 32 128#32)))
      (shapeCast S2048 (extractStridedSlice S2048x1 ![0, 0] I slices_S2048x2_S2048x1_0_0) shapeCasts_S2048x1_S2048))
/-- The second expert's index of every token, wrapped. -/
def wIdx1 (I : IVec S2048x2 32) : IVec S2048x1 32 :=
  broadcastInDim S2048x1 ![0] bcast_S2048_S2048x1_0
    (select (cmpi .slt (shapeCast S2048 (extractStridedSlice S2048x1 ![0, 1] I slices_S2048x2_S2048x1_0_1) shapeCasts_S2048x1_S2048) (broadcastInDim S2048 ![] bcast_S_S2048 (constantI S_ 32 0#32)))
      (addi (shapeCast S2048 (extractStridedSlice S2048x1 ![0, 1] I slices_S2048x2_S2048x1_0_1) shapeCasts_S2048x1_S2048) (broadcastInDim S2048 ![] bcast_S_S2048 (constantI S_ 32 128#32)))
      (shapeCast S2048 (extractStridedSlice S2048x1 ![0, 1] I slices_S2048x2_S2048x1_0_1) shapeCasts_S2048x1_S2048))

/-- At a token, the first index is the expert it names. -/
theorem wIdx0_apply (I : IVec S2048x2 32) (n : Fin 2048) (E : Fin 128) (h : I (ix2 n 0) = BitVec.ofNat 32 E.val) : (wIdx0 I (ix2 n 0)).toInt.toNat = E.val := by
  unfold wIdx0; pointwise; rw [h, wrap_word, nat_word]
/-- At a token, the second index is the expert it names. -/
theorem wIdx1_apply (I : IVec S2048x2 32) (n : Fin 2048) (E : Fin 128) (h : I (ix2 n 1) = BitVec.ofNat 32 E.val) : (wIdx1 I (ix2 n 0)).toInt.toNat = E.val := by
  unfold wIdx1; pointwise; rw [h, wrap_word, nat_word]

/-- The scores of a token. -/
def scores (x : Vec Ideal S2048x512 .bf16) (r : Vec Ideal S512x128 .bf16) (n : Fin 2048) (E : Fin 128) : EReal := ∑ d : Fin 512, x (ix2 n d) * r (ix2 d E)
/-- The product of a token's row with one expert's weights. -/
def prod (x : Vec Ideal S2048x512 .bf16) (w : Vec Ideal S128x512x1024 .bf16) (n : Fin 2048) (h : Fin 1024) (E : Fin 128) : EReal := ∑ d : Fin 512, x (ix2 n d) * w (ix3 E d h)

/-- The reference's result at an index. -/
theorem result_apply (m : (ℓ : Loc nD τ sig) → Buf (Elt Ideal) ℓ) (c : Dev nD) (n : Fin 2048) (h : Fin 1024) (E0 E1 : Fin 128)
    (h0 : m (c.tc.loc main_arg2) (ix2 n 0) = BitVec.ofNat 32 E0.val) (h1 : m (c.tc.loc main_arg2) (ix2 n 1) = BitVec.ofNat 32 E1.val) :
    res_main_v43 (F := Ideal) m c (ix2 n h)
      = Ideal.div (Soft.share (scores (m (c.tc.loc main_arg0)) (m (c.tc.loc main_arg1)) n) E0)
          (Soft.share (scores (m (c.tc.loc main_arg0)) (m (c.tc.loc main_arg1)) n) E0 + Soft.share (scores (m (c.tc.loc main_arg0)) (m (c.tc.loc main_arg1)) n) E1)
          * prod (m (c.tc.loc main_arg0)) (m (c.tc.loc main_arg3)) n h E0
        + Ideal.div (Soft.share (scores (m (c.tc.loc main_arg0)) (m (c.tc.loc main_arg1)) n) E1)
          (Soft.share (scores (m (c.tc.loc main_arg0)) (m (c.tc.loc main_arg1)) n) E0 + Soft.share (scores (m (c.tc.loc main_arg0)) (m (c.tc.loc main_arg1)) n) E1)
          * prod (m (c.tc.loc main_arg0)) (m (c.tc.loc main_arg3)) n h E1 := by
  unfold res_main_v43
  clean_types
  pointwise
  simp only [h0, h1, wrap_word, ok_word, ok_fold]
  rw [lookup_score _ _ n 0 E0 (by pointwise; rw [h0, wrap_word, nat_word])]
  rw [lookup_score _ _ n 1 E1 (by pointwise; rw [h1, wrap_word, nat_word])]
  have g0 := fun A d => lookup_weights A _ n d h E0 (wIdx0_apply _ n E0 h0)
  have g1 := fun A d => lookup_weights A _ n d h E1 (wIdx1_apply _ n E1 h1)
  unfold wIdx0 at g0
  unfold wIdx1 at g1
  simp only [g0, g1]
  pointwise
  rfl
end Cert.RProof
end
-- ==== Proof.Chosen.lean ====
module

public import proofs.«01_k».proof.Proof.Values
public import proofs.«01_k».proof.Proof.Refer
public import proofs.«01_k».proof.Defs
/-!
# The result, when every index names an expert and the scores are finite

What the precondition says of single entries, and then: the sum over the devices of what their experts give is the two
chosen experts' products, each times its gate.
-/
@[expose] public section

set_option maxRecDepth 16384

noncomputable section

namespace Cert.KProof

open Cert.KernelIdeal Cert.KernelIdeal.Gen
open Idealize.ShloMosaic
open Idealize.ShloMosaic.TcCoe

/-! ## The precondition, entry by entry -/

/-- The shape relations the precondition takes, at the kernel's blocks. -/
theorem pre_facts : Cert.Pre_routed_and_finite_KernelIdeal.Facts where
  bcast_S_S2048x2 := by decide
  bitsLt_bf16_f32 := by decide
  bcast_S_S2048x512 := by decide
  bcast_S_S512x128 := by decide

/-- The shape relations the precondition takes, at the reference's arrays. -/
theorem pre_facts_ref : Cert.Pre_routed_and_finite_ReferenceIdeal.Facts where
  bcast_S_S2048x2 := by decide
  bitsLt_bf16_f32 := by decide
  bcast_S_S2048x512 := by decide
  bcast_S_S512x128 := by decide

/-- A word between 0 and 127 is the word of an expert. -/
theorem word_named (w : BitVec 32) (h : IntOp.andi (IntOp.cmpi .sge w 0#32) (IntOp.cmpi .slt w 128#32) = 1#1) : ∃ E : Fin 128, w = BitVec.ofNat 32 E.val := by
  have h1 : (0#32).sle w = true ∧ w.slt 128#32 = true := by
    revert h
    unfold IntOp.cmpi IntOp.andi
    cases (0#32).sle w <;> cases w.slt 128#32 <;> simp
  obtain ⟨a, b⟩ := h1
  have a' : 0 ≤ w.toInt := by simpa [BitVec.sle] using a
  have b' : w.toInt < 128 := by simpa [BitVec.slt] using b
  have hw := w.isLt
  have hn : w.toNat < 128 := by
    rw [BitVec.toInt_eq_toNat_cond] at a' b'
    split at a' <;> split at b' <;> omega
  refine ⟨⟨w.toNat, hn⟩, BitVec.eq_of_toNat_eq ?_⟩
  rw [BitVec.toNat_ofNat]
  exact (Nat.mod_eq_of_lt hw).symm

/-- An extended real whose absolute value is not infinite is real. -/
theorem real_of_abs (v : EReal) (h : max v (-v) < ⊤) : ∃ r : ℝ, v = (r : EReal) := by
  induction v using EReal.rec with
  | bot => simp at h
  | coe r => exact ⟨r, rfl⟩
  | top => simp at h

/-- What the precondition says of the four arrays. -/
structure Routed (x : Vec Ideal S2048x512 .bf16) (r : Vec Ideal S512x128 .bf16) (ix : Vec Ideal S2048x2 .i32) : Prop where
  idx : ∀ n j, ∃ E : Fin 128, ix (ix2 n j) = BitVec.ofNat 32 E.val
  fin_x : ∀ n d, ∃ v : ℝ, x (ix2 n d) = (v : EReal)
  fin_r : ∀ d E, ∃ v : ℝ, r (ix2 d E) = (v : EReal)

/-- The precondition's three arrays of ones say so. -/
theorem routed_of (x : Vec Ideal S2048x512 .bf16) (r : Vec Ideal S512x128 .bf16) (ix : Vec Ideal S2048x2 .i32) (w : Vec Ideal S4x512x1024 .bf16)
    (h : (haveI := pre_facts; (Cert.Pre_routed_and_finite_KernelIdeal.fn (F := Ideal) x r ix w).1 = (fun _ => 1#1)
      ∧ (Cert.Pre_routed_and_finite_KernelIdeal.fn (F := Ideal) x r ix w).2.1 = (fun _ => 1#1)
      ∧ (Cert.Pre_routed_and_finite_KernelIdeal.fn (F := Ideal) x r ix w).2.2 = (fun _ => 1#1))) : Routed x r ix := by
  obtain ⟨h1, h2, h3⟩ := h
  refine ⟨fun n j => ?_, fun n d => ?_, fun d E => ?_⟩
  · exact word_named _ (congrFun h1 (ix2 n j))
  · have h := congrFun h2 (ix2 n d)
    have h' : Ideal.cmp .olt (max (x (ix2 n d)) (-(x (ix2 n d)) : EReal)) (Ideal.ofBits .f32 0x7F800000#32) = 1 := h
    rw [Ideal.cmp_olt_eq_one] at h'
    exact real_of_abs _ (lt_of_lt_of_le h' le_top)
  · have h := congrFun h3 (ix2 d E)
    have h' : Ideal.cmp .olt (max (r (ix2 d E)) (-(r (ix2 d E)) : EReal)) (Ideal.ofBits .f32 0x7F800000#32) = 1 := h
    rw [Ideal.cmp_olt_eq_one] at h'
    exact real_of_abs _ (lt_of_lt_of_le h' le_top)

/-! ## The gates -/

/-- Words of experts are equal when the experts are. -/
theorem select_word (A B : Fin 128) (a b : EReal) : Scalar.select (IntOp.cmpi .eq (BitVec.ofNat 32 A.val) (BitVec.ofNat 32 B.val)) a b = if A = B then a else b := by
  have hA := A.isLt
  have hB := B.isLt
  by_cases h : A = B
  · subst h
    rw [if_pos rfl]
    simp [Scalar.select, IntOp.cmpi]
  · have hne : BitVec.ofNat 32 A.val ≠ BitVec.ofNat 32 B.val := fun hw => h (Fin.ext (by
      have := congrArg BitVec.toNat hw
      simp only [BitVec.toNat_ofNat] at this
      omega))
    rw [if_neg h]
    show (if BitVec.ofBool (BitVec.ofNat 32 A.val == BitVec.ofNat 32 B.val) = 1#1 then a else b) = b
    rw [beq_eq_false_iff_ne.mpr hne]
    exact if_neg (by decide)

section
variable (x : Vec Ideal S2048x512 .bf16) (r : Vec Ideal S512x128 .bf16) (ix : Vec Ideal S2048x2 .i32)

/-- The score a word picks is the named expert's. -/
theorem pick_word (n : Fin 2048) (E : Fin 128) : pick x r n (BitVec.ofNat 32 E.val) = score x r n E := by
  unfold pick
  simp only [select_word, Finset.sum_ite_eq', Finset.mem_univ, if_true]

variable {x r ix}

/-- The scores are real. -/
theorem Routed.scores (H : Routed x r ix) (n : Fin 2048) : ∃ s : Fin 128 → ℝ, ∀ E, score x r n E = (s E : EReal) := by
  choose fx hx using H.fin_x
  choose fr hr using H.fin_r
  refine ⟨fun E => ∑ d : Fin 512, fx n d * fr d E, fun E => ?_⟩
  unfold score
  rw [show ((∑ d : Fin 512, fx n d * fr d E : ℝ) : EReal) = ∑ d : Fin 512, ((fx n d * fr d E : ℝ) : EReal) from map_sum (⟨⟨Real.toEReal, rfl⟩, EReal.coe_add⟩ : ℝ →+ EReal) _ _]
  exact Finset.sum_congr rfl fun d _ => by rw [hx, hr, EReal.coe_mul]

/-- The sum over the devices of what their experts give, at a token whose two experts and scores are known. -/
theorem sum_give (B : Bufs Ideal) (w : Vec Ideal Cert.ReferenceIdeal.S128x512x1024 .bf16) (hx : ∀ c, B.x c = x) (hr : ∀ c, B.rw c = r) (hi : ∀ c, B.ix c = ix)
    (hw : ∀ (c : Dev nD) (e : Fin 4) d h, B.ew c (ix3 e d h) = w (ix3 ⟨4 * c.val + e.val, by have : c.val < 32 := c.isLt; omega⟩ d h))
    (n : Fin 2048) (h : Fin 1024) (E0 E1 : Fin 128) (s : Fin 128 → ℝ) (hs : ∀ E, score x r n E = (s E : EReal))
    (h0 : ix (ix2 n 0) = BitVec.ofNat 32 E0.val) (h1 : ix (ix2 n 1) = BitVec.ofNat 32 E1.val) :
    (∑ c : Dev nD, give B c n h)
      = ((Soft.gate (s E0) (s E1) : ℝ) : EReal) * (∑ d : Fin 512, x (ix2 n d) * w (ix3 E0 d h))
        + ((1 - Soft.gate (s E0) (s E1) : ℝ) : EReal) * (∑ d : Fin 512, x (ix2 n d) * w (ix3 E1 d h)) := by
  have hA : gateA x r ix n = ((Soft.gate (s E0) (s E1) : ℝ) : EReal) := by
    unfold gateA
    rw [h0, h1, pick_word, pick_word, hs, hs, Soft.gate_kernel]
  have hB : (1 : EReal) - gateA x r ix n = ((1 - Soft.gate (s E0) (s E1) : ℝ) : EReal) := by
    rw [hA, EReal.coe_sub, EReal.coe_one]
  have hg : ∀ E : Fin 128, gateOf x r ix n (BitVec.ofNat 32 E.val)
      = (if E0 = E then ((Soft.gate (s E0) (s E1) : ℝ) : EReal) else 0) + (if E1 = E then ((1 - Soft.gate (s E0) (s E1) : ℝ) : EReal) else 0) := fun E => by
    unfold gateOf
    rw [hB, hA, h0, h1, select_word, select_word]
  rw [← Soft.sum_two _ _ (EReal.coe_nonneg.mpr (Soft.gate_nonneg _ _)) (EReal.coe_nonneg.mpr (Soft.gate_le_one _ _)) (fun E => ∑ d : Fin 512, x (ix2 n d) * w (ix3 E d h)) E0 E1]
  simp only [← hg]
  have hgive : ∀ c : Dev nD, give B c n h = ∑ e : Fin 4, gateOf x r ix n (BitVec.ofNat 32 (4 * c.val + e.val))
      * ∑ d : Fin 512, x (ix2 n d) * w (ix3 ⟨4 * c.val + e.val, by have : c.val < 32 := c.isLt; omega⟩ d h) := fun c => by
    unfold give part
    rw [Fin.sum_univ_four]
    simp only [hx, hr, hi, hw]
  rw [Finset.sum_congr rfl fun c _ => hgive c]
  rw [← Finset.sum_product' (s := Finset.univ) (t := Finset.univ) (f := fun (c : Dev nD) (e : Fin 4) => gateOf x r ix n (BitVec.ofNat 32 (4 * c.val + e.val))
      * ∑ d : Fin 512, x (ix2 n d) * w (ix3 ⟨4 * c.val + e.val, by have : c.val < 32 := c.isLt; omega⟩ d h))]
  refine Finset.sum_bij' (fun p _ => (⟨4 * p.1.val + p.2.val, by have : p.1.val < 32 := p.1.isLt; omega⟩ : Fin 128))
    (fun E _ => ((⟨E.val / 4, by have := E.isLt; show _ < 32; omega⟩ : Dev nD), (⟨E.val % 4, by omega⟩ : Fin 4))) ?_ ?_ ?_ ?_ ?_
  · intros; exact Finset.mem_univ _
  · intros; exact Finset.mem_univ _
  · rintro ⟨c, e⟩ _
    refine Prod.ext (Fin.ext ?_) (Fin.ext ?_)
    · show (4 * c.val + e.val) / 4 = c.val
      omega
    · show (4 * c.val + e.val) % 4 = e.val
      omega
  · intro E _
    exact Fin.ext (by show 4 * (E.val / 4) + E.val % 4 = E.val; omega)
  · intros; rfl
end

end Cert.KProof
end
-- ==== Proof.Agree.lean ====
module

public import proofs.«01_k».proof.Proof.Launch
public import proofs.«01_k».proof.Proof.Chosen
public import proofs.«01_k».proof.Proof.Gen.ReferenceIdeal
/-!
# The kernel's result is the reference's

What a device's result array holds at the end, entry by entry, is its block of rows of what the reference computes.
-/
@[expose] public section

set_option maxRecDepth 16384

noncomputable section

namespace Cert.KProof

open Cert.KernelIdeal Cert.KernelIdeal.Gen
open Idealize.ShloMosaic
open Idealize.ShloMosaic.TcCoe
open Idealize.SL.Sem

/-! ## The windows' arrays -/

section
variable {F : FTy → Type} [FloatOps F] (m : (ℓ : Loc nD τ sig) → Buf (Elt F) ℓ) (ρ : Dev nD → PrngReg)

/-- Window 0's one block is its whole array. -/
theorem blk_read0 (c : Dev nD) (f : Buf (Elt F) ((c : Thread nD τ).loc main_arg0)) : (win0_0.blk t0_0).view.read (Elt F) f = f :=
  have hz : (fun a => (win0_0.index t0_0) a * main_arg0.ty.shape.size a) = fun _ => 0 := funext fun a => by fin_cases a <;> decide
  Memref.read_access_unit_zero (Elt F) main_arg0 hz (fun a => by fin_cases a <;> decide) f

/-- Window 1's one block is its whole array. -/
theorem blk_read1 (c : Dev nD) (f : Buf (Elt F) ((c : Thread nD τ).loc main_arg1)) : (win0_1.blk t0_0).view.read (Elt F) f = f :=
  have hz : (fun a => (win0_1.index t0_0) a * main_arg1.ty.shape.size a) = fun _ => 0 := funext fun a => by fin_cases a <;> decide
  Memref.read_access_unit_zero (Elt F) main_arg1 hz (fun a => by fin_cases a <;> decide) f

/-- Window 2's one block is its whole array. -/
theorem blk_read2 (c : Dev nD) (f : Buf (Elt F) ((c : Thread nD τ).loc main_arg2)) : (win0_2.blk t0_0).view.read (Elt F) f = f :=
  have hz : (fun a => (win0_2.index t0_0) a * main_arg2.ty.shape.size a) = fun _ => 0 := funext fun a => by fin_cases a <;> decide
  Memref.read_access_unit_zero (Elt F) main_arg2 hz (fun a => by fin_cases a <;> decide) f

/-- Window 3's one block is its whole array. -/
theorem blk_read3 (c : Dev nD) (f : Buf (Elt F) ((c : Thread nD τ).loc main_arg3)) : (win0_3.blk t0_0).view.read (Elt F) f = f :=
  have hz : (fun a => (win0_3.index t0_0) a * main_arg3.ty.shape.size a) = fun _ => 0 := funext fun a => by fin_cases a <;> decide
  Memref.read_access_unit_zero (Elt F) main_arg3 hz (fun a => by fin_cases a <;> decide) f

/-- Window 4's one block is its whole array. -/
theorem blk_read4 (c : Dev nD) (f : Buf (Elt F) ((c : Thread nD τ).loc main_v1)) : (win0_4.blk t0_0).view.read (Elt F) f = f :=
  have hz : (fun a => (win0_4.index t0_0) a * main_v1.ty.shape.size a) = fun _ => 0 := funext fun a => by fin_cases a <;> decide
  Memref.read_access_unit_zero (Elt F) main_v1 hz (fun a => by fin_cases a <;> decide) f

/-- A device's staged rows of tokens are the whole argument. -/
theorem bufs_x (c : Dev nD) : (bufs m).x c = m ((c : Thread nD τ).loc main_arg0) := by
  show (win0_0.blk t0_0).view.read (Elt F) (m ((c : Thread nD τ).loc main_arg0)) = _
  exact blk_read0 c _

/-- So are its router weights, -/
theorem bufs_rw (c : Dev nD) : (bufs m).rw c = m ((c : Thread nD τ).loc main_arg1) := by
  show (win0_1.blk t0_0).view.read (Elt F) (m ((c : Thread nD τ).loc main_arg1)) = _
  exact blk_read1 c _

/-- its indices, -/
theorem bufs_ix (c : Dev nD) : (bufs m).ix c = m ((c : Thread nD τ).loc main_arg2) := by
  show (win0_2.blk t0_0).view.read (Elt F) (m ((c : Thread nD τ).loc main_arg2)) = _
  exact blk_read2 c _

/-- and its experts' weights. -/
theorem bufs_ew (c : Dev nD) : (bufs m).ew c = m ((c : Thread nD τ).loc main_arg3) := by
  show (win0_3.blk t0_0).view.read (Elt F) (m ((c : Thread nD τ).loc main_arg3)) = _
  exact blk_read3 c _

seal outBuf in
/-- What the body leaves staged for the result. -/
theorem after_out (c : Dev nD) : (dats m ρ 0 c).after (4 : Fin 5) t0_0 = outBuf (bufs m) c := rfl

seal outBuf in
/-- The result array is what the body left. -/
theorem finalA_out (c : Dev nD) : finalA m ρ c 4 = outBuf (bufs m) c := by
  have hw : ((cfg0.win 4).blk t0_0).view.read (Elt F) (finalA m ρ c 4) = (dats m ρ 0 c).flushed 4 t0_0 := by
    unfold finalA
    rw [show cfg0.N = t0_0.val + 1 from rfl, (dats m ρ 0 c).arrAt_succ (4 : Fin 5) t0_0, flush0_4, if_pos rfl]
    exact View.read_write_univ _ _
  have hf : (dats m ρ 0 c).flushed 4 t0_0 = outBuf (bufs m) c := by
    show (cfg0.win 4).cut _ ((dats m ρ 0 c).after 4 t0_0) = _
    rw [after_out m ρ c]
    exact funext fun _ => rfl
  exact (blk_read4 c _).symm.trans (hw.trans hf)

end

/-! ## The agreement -/

set_option maxHeartbeats 1000000 in
/-- On memories the precondition holds of and which agree, a device's result is its block of rows of the reference's. -/
theorem out_block (m : (ℓ : Loc nD τ sig) → Buf (Elt Ideal) ℓ) (m' : (ℓ : Loc Cert.ReferenceIdeal.nD Cert.ReferenceIdeal.τ Cert.ReferenceIdeal.sig) → Buf (Elt Ideal) ℓ)
    (hpre : Cert.Pre_KernelIdeal_routed_and_finite_KernelIdeal (hPre_routed_and_finite_KernelIdeal := pre_facts) m)
    (hx : ∀ c : Dev nD, m ((c.tc : Thread nD τ).loc main_arg0) = m' (((0 : Dev Cert.ReferenceIdeal.nD).tc : Thread Cert.ReferenceIdeal.nD Cert.ReferenceIdeal.τ).loc Cert.ReferenceIdeal.main_arg0))
    (hr : ∀ c : Dev nD, m ((c.tc : Thread nD τ).loc main_arg1) = m' (((0 : Dev Cert.ReferenceIdeal.nD).tc : Thread Cert.ReferenceIdeal.nD Cert.ReferenceIdeal.τ).loc Cert.ReferenceIdeal.main_arg1))
    (hi : ∀ c : Dev nD, m ((c.tc : Thread nD τ).loc main_arg2) = m' (((0 : Dev Cert.ReferenceIdeal.nD).tc : Thread Cert.ReferenceIdeal.nD Cert.ReferenceIdeal.τ).loc Cert.ReferenceIdeal.main_arg2))
    (hw : ∀ c : Dev nD, m ((c.tc : Thread nD τ).loc main_arg3)
      = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3)))
    (c : Dev nD) :
    outBuf (bufs m) c = Layout.block ⟨2, ![64, 1024]⟩ ⟨2, ![2048, 1024]⟩ 0 32 c (Cert.ReferenceIdeal.Value.res_main_v43 (F := Ideal) m' 0) := by
  have H : Routed (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) := by
    have h := routed_of _ _ _ _ (hpre 0)
    rw [hx, hr, hi] at h
    exact h
  refine funext fun (y : S64x1024.Idx) => ?_
  obtain ⟨i, h, rfl⟩ : ∃ (i : Fin 64) (h : Fin 1024), y = ix2 i h := ⟨y 0, y 1, funext fun a => by fin_cases a <;> rfl⟩
  rw [outBuf_apply, Layout.block_apply]
  obtain ⟨E0, h0⟩ := H.idx (resRow c i) 0
  obtain ⟨E1, h1⟩ := H.idx (resRow c i) 1
  obtain ⟨s, hs⟩ := H.scores (resRow c i)
  rw [sum_give (bufs m) (m' (((0 : Dev Cert.ReferenceIdeal.nD).tc : Thread Cert.ReferenceIdeal.nD Cert.ReferenceIdeal.τ).loc Cert.ReferenceIdeal.main_arg3))
    (fun c => (bufs_x m c).trans (hx c)) (fun c => (bufs_rw m c).trans (hr c)) (fun c => (bufs_ix m c).trans (hi c))
    (fun c e d h => by
      rw [bufs_ew, hw, Layout.block_apply]
      exact congrArg _ (funext fun a => by
        fin_cases a
        · exact Fin.ext (show c.val * 4 + e.val = 4 * c.val + e.val by omega)
        · rfl
        · rfl))
    (resRow c i) h E0 E1 s hs h0 h1]
  refine Eq.trans ?_ (congrArg (Cert.ReferenceIdeal.Value.res_main_v43 (F := Ideal) m' 0) (show ix2 (resRow c i) h = _ from funext fun a => by
    fin_cases a
    · exact Fin.ext (show 64 * c.val + i.val = c.val * 64 + i.val by omega)
    · rfl))
  have hS : Cert.RProof.scores (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) (resRow c i)
      = fun E => (s E : EReal) := funext fun E => hs E
  rw [Cert.RProof.result_apply m' 0 (resRow c i) h E0 E1 h0 h1, hS, Soft.share_first, Soft.share_second]
  rfl

/-- The idealized kernel's result is the reference's, each device holding its block of rows. -/
theorem agrees : Cert.algebraic_KernelIdeal_ReferenceIdeal_pre_routed_and_finite_KernelIdeal (hPre_routed_and_finite_KernelIdeal := pre_facts) := by
  intro m g m' g' hpre hag
  refine ⟨Cert.ReferenceIdeal.Value.res_main_v43 (F := Ideal) m' 0, ?_, ?_⟩
  · exact (θ_run defs _ _).mono (fun _ h c => ⟨((h.1 c 4).trans (finalA_out m g c)).trans
        (out_block m m' hpre (fun c => (hag c).1) (fun c => (hag c).2.1) (fun c => (hag c).2.2.1) (fun c => (hag c).2.2.2) c),
      (h.1 c 0).trans (finalA_in m g c 0 rfl), (h.1 c 1).trans (finalA_in m g c 1 rfl),
      (h.1 c 2).trans (finalA_in m g c 2 rfl), (h.1 c 3).trans (finalA_in m g c 3 rfl)⟩) (run_main m g)
  · exact (θ_run Cert.ReferenceIdeal.defs _ _).mono (fun _ h => h 0) (Cert.ReferenceIdeal.Value.run (F := Ideal) m' g')

end Cert.KProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Launch
public import proofs.«01_k».proof.Proof.Agree
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

set_option maxRecDepth 200000 in
/-- The two programs name the same kernel bodies. -/
theorem defs₀_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

set_option maxRecDepth 200000 in
/-- The two programs' labelled code is the same. -/
theorem defs_same : Cert.Kernel.defs (F := Bits) = Cert.KernelIdeal.defs (F := Bits) := by
  unfold Cert.Kernel.defs Cert.KernelIdeal.defs
  exact congrArg (Pipeline.defs Cert.Kernel.pcfgs) defs₀_same

/-- The kernel, over machine floats, runs on every device, leaves its four arguments as they were and every semaphore
    at zero: the one run of the idealized program's text, read at machine floats, for the two programs have the same text. -/
theorem frame_kernel : Cert.quiescent_Kernel := fun m ρ _ => by
  rw [defs_same]
  exact Cert.KProof.run_args (F := Bits) m ρ

/-- The same of the idealized kernel, over the extended reals. -/
theorem frame_kernelIdeal : Cert.quiescent_KernelIdeal := fun m ρ _ =>
  Cert.KProof.run_args (F := Ideal) m ρ

/-- The reference runs, leaves its arguments as they were, and has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Everything that is claimed. The two runs under the precondition are the runs without it; the value claim is
    `Cert.KProof.agrees`. -/
theorem claim : Cert.Claim := ⟨Cert.Kernel.Gen.facts, Cert.KernelIdeal.Gen.facts, Cert.ReferenceIdeal.Gen.facts,
  Cert.KProof.pre_facts, Cert.KProof.pre_facts_ref,
  frame_kernel, frame_kernelIdeal, fun m ρ _ => frame_kernelIdeal m ρ trivial,
  frame_reference, fun m ρ _ => frame_reference m ρ trivial, trivial, Cert.KProof.agrees⟩

end Cert.Proof

end
